-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v16_0)) (v1 : (c : Dev Cert.Kernel2Ideal.nD) → Buf (Elt Ideal) ((c.tc : Thread Cert.Kernel2Ideal.nD Cert.Kernel2Ideal.τ).loc Cert.Kernel2Ideal.main_v16_1)) (v2 : (c : Dev Cert.Kernel2Ideal.nD) → Buf (Elt Ideal) ((c.tc : Thread Cert.Kernel2Ideal.nD Cert.Kernel2Ideal.τ).loc Cert.Kernel2Ideal.main_v16_2)) (v3 : (c : Dev Cert.Kernel2Ideal.nD) → Buf (Elt Ideal) ((c.tc : Thread Cert.Kernel2Ideal.nD Cert.Kernel2Ideal.τ).loc Cert.Kernel2Ideal.main_v16_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16_0) = v0 c
          ∧ r.2.mem ((c.tc : Thread Cert.Kernel2Ideal.nD Cert.Kernel2Ideal.τ).loc Cert.Kernel2Ideal.main_v16_1) = v1 c
          ∧ r.2.mem ((c.tc : Thread Cert.Kernel2Ideal.nD Cert.Kernel2Ideal.τ).loc Cert.Kernel2Ideal.main_v16_2) = v2 c
          ∧ r.2.mem ((c.tc : Thread Cert.Kernel2Ideal.nD Cert.Kernel2Ideal.τ).loc Cert.Kernel2Ideal.main_v16_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_v61) = v1 c
          ∧ r.2.mem ((c.tc : Thread Cert.Reference2Ideal.nD Cert.Reference2Ideal.τ).loc Cert.Reference2Ideal.main_v63) = v2 c
          ∧ r.2.mem ((c.tc : Thread Cert.Reference2Ideal.nD Cert.Reference2Ideal.τ).loc Cert.Reference2Ideal.main_v65) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  IdealRules.named_const.Statement Cert.Kernel3Ideal.κ "decay0" .f32 0x399ACCA1#32 ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  ∧ IdealRules.named_const.Statement Cert.Kernel3Ideal.κ "decay1" .f32 0x3C9160A5#32 ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  ∧ IdealRules.named_const.Statement Cert.Kernel3Ideal.κ "decay2" .f32 0x3E097FCE#32 ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  ∧ IdealRules.named_const.Statement Cert.Kernel3Ideal.κ "decay3" .f32 0x3EBBFC5D#32 ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v60)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v60) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v129) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite2 : Cert.Pre_finite2.Facts) (hPre_finite3 : Cert.Pre_finite3.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
-- ==== Pre_finite2.lean ====
abbrev S8x4096x1024 : Shape := ⟨3, ![8, 4096, 1024]⟩
abbrev S8x256x1024 : Shape := ⟨3, ![8, 256, 1024]⟩
abbrev S1x1024 : Shape := ⟨2, ![1, 1024]⟩
abbrev S1x1024x1024 : Shape := ⟨3, ![1, 1024, 1024]⟩
abbrev S1x1024x2048 : Shape := ⟨3, ![1, 1024, 2048]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8x256x1024 : S_.BroadcastsInDim S8x256x1024 (![] : Fin 0 → Fin S8x256x1024.rank)
  reducesTo_S8x256x1024_S_d0_1_2 : S8x256x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x1024x2048 : S_.BroadcastsInDim S1x1024x2048 (![] : Fin 0 → Fin S1x1024x2048.rank)
  reducesTo_S1x1024x2048_S_d0_1_2 : S1x1024x2048.ReducesTo [0, 1, 2] S_

variable [Facts]

def fn_part1 {F : FTy → Type} [FloatOps F] (main_arg4 : FVec F S1x1024x1024 .f32) (main_arg5 : FVec F S1x1024x2048 .f32) (main_arg6 : FVec F S1x1024x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024x1024 .f32 := Host.absf main_arg4
  let main_cst_6 : FVec F S_ .f32 := constant S_ .f32 0x7F800000#32
  let main_v20 : FVec F S1x1024x1024 .f32 := broadcastInDim S1x1024x1024 ![] bcast_S_S1x1024x1024 main_cst_6
  let main_v21 : IVec S1x1024x1024 1 := cmpf .olt main_v19 main_v20
  let main_c_7 : IVec S_ 1 := constantI S_ 1 1#1
  let main_v22 : IVec S_ 1 := (fun x v => Host.reduce IntOp.andi x v reducesTo_S1x1024x1024_S_d0_1_2 h_S_) main_v21 main_c_7
  let main_v23 : IVec S_ 1 := andi main_v18 main_v22
  let main_v24 : FVec F S1x1024x2048 .f32 := Host.absf main_arg5
  let main_cst_8 : FVec F S_ .f32 := constant S_ .f32 0x7F800000#32
  let main_v25 : FVec F S1x1024x2048 .f32 := broadcastInDim S1x1024x2048 ![] bcast_S_S1x1024x2048 main_cst_8
  let main_v26 : IVec S1x1024x2048 1 := cmpf .olt main_v24 main_v25
  let main_c_9 : IVec S_ 1 := constantI S_ 1 1#1
  let main_v27 : IVec S_ 1 := (fun x v => Host.reduce IntOp.andi x v reducesTo_S1x1024x2048_S_d0_1_2 h_S_) main_v26 main_c_9
  let main_v28 : IVec S_ 1 := andi main_v23 main_v27
  let main_v29 : FVec F S1x1024x1024 .f32 := Host.absf main_arg6
  let main_cst_10 : FVec F S_ .f32 := constant S_ .f32 0x7F800000#32
  let main_v30 : FVec F S1x1024x1024 .f32 := broadcastInDim S1x1024x1024 ![] bcast_S_S1x1024x1024 main_cst_10
  let main_v31 : IVec S1x1024x1024 1 := cmpf .olt main_v29 main_v30
  let main_c_11 : IVec S_ 1 := constantI S_ 1 1#1
  let main_v32 : IVec S_ 1 := (fun x v => Host.reduce IntOp.andi x v reducesTo_S1x1024x1024_S_d0_1_2 h_S_) main_v31 main_c_11
  let main_v33 : IVec S_ 1 := andi main_v28 main_v32
  main_v33

def fn {F : FTy → Type} [FloatOps F] (main_arg0 : FVec F S8x4096x1024 .f32) (main_arg1 : FVec F S8x256x1024 .f32) (main_arg2 : FVec F S1x1024 .f32) (main_arg3 : FVec F S1x1024 .f32) (main_arg4 : FVec F S1x1024x1024 .f32) (main_arg5 : FVec F S1x1024x2048 .f32) (main_arg6 : FVec F S1x1024x1024 .f32) (main_arg7 : FVec F S1x1024x2816 .f32) (main_arg8 : FVec F S1x1024x2816 .f32) (main_arg9 : FVec F S1x2816x1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x256x1024 .f32 := Host.absf main_arg1
  let main_cst_0 : FVec F S_ .f32 := constant S_ .f32 0x7F800000#32
  let main_v5 : FVec F S8x256x1024 .f32 := broadcastInDim S8x256x1024 ![] bcast_S_S8x256x1024 main_cst_0
  let main_v6 : IVec S8x256x1024 1 := cmpf .olt main_v4 main_v5
  let main_c_1 : IVec S_ 1 := constantI S_ 1 1#1
  let main_v7 : IVec S_ 1 := (fun x v => Host.reduce IntOp.andi x v reducesTo_S8x256x1024_S_d0_1_2 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_v13 main_v16
-- ==== Pre_finite3.lean ====
abbrev S8x4096x1024 : Shape := ⟨3, ![8, 4096, 1024]⟩
abbrev S1x1024 : Shape := ⟨2, ![1, 1024]⟩
abbrev S8x4096x512 : Shape := ⟨3, ![8, 4096, 512]⟩
abbrev S1x1024x6656 : Shape := ⟨3, ![1, 1024, 6656]⟩
abbrev S1x512x1024 : Shape := ⟨3, ![1, 512, 1024]⟩
abbrev S1x1024x1024 : Shape := ⟨3, ![1, 1024, 1024]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8x4096x1024 : S_.BroadcastsInDim S8x4096x1024 (![] : Fin 0 → Fin S8x4096x1024.rank)
  reducesTo_S8x4096x1024_S_d0_1_2 : S8x4096x1024.ReducesTo [0, 1, 2] S_

variable [Facts]

def fn {F : FTy → Type} [FloatOps F] (main_arg0 : FVec F S8x4096x1024 .f32) (main_arg1 : FVec F S1x1024 .f32) (main_arg2 : FVec F S8x4096x512 .f32) (main_arg3 : FVec F S8x4096x512 .f32) (main_arg4 : FVec F S8x4096x1024 .f32) (main_arg5 : FVec F S8x4096x512 .f32) (main_arg6 : FVec F S1x1024x6656 .f32) (main_arg7 : FVec F S1x512x1024 .f32) (main_arg8 : FVec F S1x1024x1024 .f32) (main_arg9 : FVec F S1x1024x1024 .f32) : IVec S_ 1 :=
  let main_v0 : FVec F S8x4096x512 .f32 := Host.absf main_arg2
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x4096x512 .f32 := Host.absf main_arg3
  let main_cst_0 : FVec F S_ .f32 := constant S_ .f32 0x7F800000#32
  let main_v5 : FVec F S8x4096x512 .f32 := broadcastInDim S8x4096x512 ![] bcast_S_S8x4096x512 main_cst_0
  let main_v6 : IVec S8x4096x512 1 := cmpf .olt main_v4 main_v5
  let main_c_1 : IVec S_ 1 := constantI S_ 1 1#1
  let main_v7 : IVec S_ 1 := (fun x v => Host.reduce IntOp.andi x v reducesTo_S8x4096x512_S_d0_1_2 h_S_) main_v6 main_c_1
  let main_v8 : IVec S_ 1 := andi main_v3 main_v7
  let main_v9 : FVec F S8x4096x1024 .f32 := Host.absf main_arg4
  let main_cst_2 : FVec F S_ .f32 := constant S_ .f32 0x7F800000#32
  let main_v10 : FVec F S8x4096x1024 .f32 := broadcastInDim S8x4096x1024 ![] bcast_S_S8x4096x1024 main_cst_2
  let main_v11 : IVec S8x4096x1024 1 := cmpf .olt main_v9 main_v10
  let main_c_3 : IVec S_ 1 := constantI S_ 1 1#1
  let main_v12 : IVec S_ 1 := (fun x v => Host.reduce IntOp.andi x v reducesTo_S8x4096x1024_S_d0_1_2 h_S_) main_v11 main_c_3
  let main_v13 : IVec S_ 1 := andi main_v8 main_v12
  main_v13
-- ==== Kernel.lean ====
abbrev S8x4096x1024 : Shape := ⟨3, ![8, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S32768x1024 : Shape := ⟨2, ![32768, 1024]⟩
abbrev S1024x2816 : Shape := ⟨2, ![1024, 2816]⟩
abbrev S2816x1024 : Shape := ⟨2, ![2816, 1024]⟩
abbrev S1024x1024 : Shape := ⟨2, ![1024, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 17
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S32768x1024, .f32⟩
  | .hbm, ⟨7, _⟩ => ⟨S1024, .f32⟩
  | .hbm, ⟨8, _⟩ => ⟨S1x1024, .f32⟩
  | .hbm, ⟨9, _⟩ => ⟨S1024x2816, .f32⟩
  | .hbm, ⟨10, _⟩ => ⟨S1024x2816, .bf16⟩
  | .hbm, ⟨11, _⟩ => ⟨S1024x2816, .f32⟩
  | .hbm, ⟨12, _⟩ => ⟨S1024x2816, .bf16⟩
  | .hbm, ⟨13, _⟩ => ⟨S2816x1024, .f32⟩
  | .hbm, ⟨14, _⟩ => ⟨S2816x1024, .bf16⟩
  | .hbm, ⟨15, _⟩ => ⟨S1x1024, .f32⟩
  | .hbm, ⟨16, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8x4096x1024 : Shape := ⟨3, ![8, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x2816 : Shape := ⟨2, ![1024, 2816]⟩
abbrev S8x4096x2816 : Shape := ⟨3, ![8, 4096, 2816]⟩
abbrev S2816x1024 : Shape := ⟨2, ![2816, 1024]⟩
abbrev S32768x1024 : Shape := ⟨2, ![32768, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S1024, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S1024x2816, .f32⟩
  | .hbm, ⟨24, _⟩ => ⟨S8x4096x2816, .f32⟩
  | .hbm, ⟨25, _⟩ => ⟨S8x4096x2816, .f32⟩
  | .hbm, ⟨26, _⟩ => ⟨S8x4096x2816, .f32⟩
  | .hbm, ⟨27, _⟩ => ⟨S_, .f32⟩
  | .hbm, ⟨28, _⟩ => ⟨S8x4096x2816, .f32⟩
  | .hbm, ⟨29, _⟩ => ⟨S8x4096x2816, .f32⟩
  | .hbm, ⟨30, _⟩ => ⟨S_, .f32⟩
  | .hbm, ⟨31, _⟩ => ⟨S8x4096x2816, .f32⟩
  | .hbm, ⟨32, _⟩ => ⟨S8x4096x2816, .f32⟩
  | .hbm, ⟨33, _⟩ => ⟨S8x4096x2816, .f32⟩
  | .hbm, ⟨34, _⟩ => ⟨S1024x2816, .f32⟩
  | .hbm, ⟨35, _⟩ => ⟨S8x4096x2816, .f32⟩
  | .hbm, ⟨36, _⟩ => ⟨S8x4096x2816, .f32⟩
  | .hbm, ⟨37, _⟩ => ⟨S2816x1024, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S_, .f32⟩
  | .hbm, ⟨42, _⟩ => ⟨S8x4096, .f32⟩
  | .hbm, ⟨43, _⟩ => ⟨S8x4096x1, .f32⟩
  | .hbm, ⟨44, _⟩ => ⟨S_, .f32⟩
  | .hbm, ⟨45, _⟩ => ⟨S8x4096x1, .f32⟩
  | .hbm, ⟨46, _⟩ => ⟨S8x4096x1, .f32⟩
  | .hbm, ⟨47, _⟩ => ⟨S_, .f32⟩
  | .hbm, ⟨48, _⟩ => ⟨S8x4096x1, .f32⟩
  | .hbm, ⟨49, _⟩ => ⟨S8x4096x1, .f32⟩
  | .hbm, ⟨50, _⟩ => ⟨S8x4096x1, .f32⟩
  | .hbm, ⟨51, _⟩ => ⟨S8x4096x1024, .f32⟩
  | .hbm, ⟨52, _⟩ => ⟨S8x4096x1024, .f32⟩
  | .hbm, ⟨53, _⟩ => ⟨S1x1x1024, .f32⟩
  | .hbm, ⟨54, _⟩ => ⟨S8x4096x1024, .f32⟩
  | .hbm, ⟨55, _⟩ => ⟨S8x4096x1024, .f32⟩
  | .hbm, ⟨56, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x256x1024 : Shape := ⟨3, ![8, 256, 1024]⟩
abbrev S1x1024 : Shape := ⟨2, ![1, 1024]⟩
abbrev S1x1024x1024 : Shape := ⟨3, ![1, 1024, 1024]⟩
abbrev S1x1024x2048 : Shape := ⟨3, ![1, 1024, 2048]⟩
abbrev S1x1024x2816 : Shape := ⟨3, ![1, 1024, 2816]⟩
abbrev S1x2816x1024 : Shape := ⟨3, ![1, 2816, 1024]⟩
abbrev S1024x2048 : Shape := ⟨2, ![1024, 2048]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S32x32x2816 : Shape := ⟨3, ![32, 32, 2816]⟩
abbrev S32x88x1024 : Shape := ⟨3, ![32, 88, 1024]⟩
abbrev S1x256x1024 : Shape := ⟨3, ![1, 256, 1024]⟩
abbrev S1x32x2816 : Shape := ⟨3, ![1, 32, 2816]⟩
abbrev S1x88x1024 : Shape := ⟨3, ![1, 88, 1024]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩

abbrev nBuf : Space → Nat
  | .hbm => 30
  | .vmem => 26
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S1x1024, .f32⟩
  | .hbm, ⟨3, _⟩ => ⟨S1x1024, .f32⟩
  | .hbm, ⟨4, _⟩ => ⟨S1x1024x1024, .f32⟩
  | .hbm, ⟨5, _⟩ => ⟨S1x1024x2048, .f32⟩
  | .hbm, ⟨6, _⟩ => ⟨S1x1024x1024, .f32⟩
  | .hbm, ⟨7, _⟩ => ⟨S1x1024x2816, .f32⟩
  | .hbm, ⟨8, _⟩ => ⟨S1x1024x2816, .f32⟩
  | .hbm, ⟨9, _⟩ => ⟨S1x2816x1024, .f32⟩
  | .hbm, ⟨10, _⟩ => ⟨S1024x2048, .f32⟩
  | .hbm, ⟨11, _⟩ => ⟨S1024x2048, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1024x2816, .f32⟩
  | .hbm, ⟨21, _⟩ => ⟨S1024x2816, .f32⟩
  | .hbm, ⟨22, _⟩ => ⟨S2816x1024, .f32⟩
  | .hbm, ⟨23, _⟩ => ⟨S32x32x2816, .f32⟩
  | .hbm, ⟨24, _⟩ => ⟨S32x32x2816, .f32⟩
  | .hbm, ⟨25, _⟩ => ⟨S32x88x1024, .f32⟩
  | .hbm, ⟨26, _⟩ => ⟨S8x4096x1024, .f32⟩
  | .hbm, ⟨27, _⟩ => ⟨S32x32x2816, .bf16⟩
  | .hbm, ⟨28, _⟩ => ⟨S32x32x2816, .bf16⟩
  | .hbm, ⟨29, _⟩ => ⟨S32x88x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x1024, .f32⟩
  | .local _ .vmem, ⟨6, _⟩ => ⟨S1024x2048, .bf16⟩
  | .local _ .vmem, ⟨7, _⟩ => ⟨S1024x1024, .bf16⟩
  | .local _ .vmem, ⟨8, _⟩ => ⟨S1024x1024, .bf16⟩
  | .local _ .vmem, ⟨9, _⟩ => ⟨S1x32x2816, .f32⟩
  | .local _ .vmem, ⟨10, _⟩ => ⟨S1x32x2816, .f32⟩
  | .local _ .vmem, ⟨11, _⟩ => ⟨S1x32x2816, .f32⟩
  | .local _ .vmem, ⟨12, _⟩ => ⟨S1x32x2816, .f32⟩
  | .local _ .vmem, ⟨13, _⟩ => ⟨S1x88x1024, .f32⟩
  | .local _ .vmem, ⟨14, _⟩ => ⟨S1x88x1024, .f32⟩
  | .local _ .vmem, ⟨15, _⟩ => ⟨S1x1024x1024, .f32⟩
  | .local _ .vmem, ⟨16, _⟩ => ⟨S1x1024x1024, .f32⟩
  | .local _ .vmem, ⟨17, _⟩ => ⟨S1x32x2816, .bf16⟩
  | .local _ .vmem, ⟨18, _⟩ => ⟨S1x32x2816, .bf16⟩
  | .local _ .vmem, ⟨19, _⟩ => ⟨S1x32x2816, .bf16⟩
  | .local _ .vmem, ⟨20, _⟩ => ⟨S1x32x2816, .bf16⟩
  | .local _ .vmem, ⟨21, _⟩ => ⟨S1x88x1024, .bf16⟩
  | .local _ .vmem, ⟨22, _⟩ => ⟨S1x88x1024, .bf16⟩
  | .local _ .vmem, ⟨23, _⟩ => ⟨S1024x1024, .bf16⟩
  | .local _ .vmem, ⟨24, _⟩ => ⟨S1024x1024, .bf16⟩
  | .local _ .vmem, ⟨25, _⟩ => ⟨S1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x32x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x88x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x32x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x32x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x88x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference2Ideal.lean ====
abbrev S8x4096x1024 : Shape := ⟨3, ![8, 4096, 1024]⟩
abbrev S8x256x1024 : Shape := ⟨3, ![8, 256, 1024]⟩
abbrev S1x1024 : Shape := ⟨2, ![1, 1024]⟩
abbrev S1x1024x1024 : Shape := ⟨3, ![1, 1024, 1024]⟩
abbrev S1x1024x2048 : Shape := ⟨3, ![1, 1024, 2048]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x256 : Shape := ⟨2, ![8, 256]⟩
abbrev S8x256x1 : Shape := ⟨3, ![8, 256, 1]⟩
abbrev S1024x1024 : Shape := ⟨2, ![1024, 1024]⟩
abbrev S1024x2048 : Shape := ⟨2, ![1024, 2048]⟩
abbrev S8x4096x4x256 : Shape := ⟨4, ![8, 4096, 4, 256]⟩
abbrev S8x4x4096x256 : Shape := ⟨4, ![8, 4, 4096, 256]⟩
abbrev S8x256x2048 : Shape := ⟨3, ![8, 256, 2048]⟩
abbrev S8x256x4x256 : Shape := ⟨4, ![8, 256, 4, 256]⟩
abbrev S8x4x256x256 : Shape := ⟨4, ![8, 4, 256, 256]⟩
abbrev S8x4x4096 : Shape := ⟨3, ![8, 4, 4096]⟩
abbrev S8x4x4096x1 : Shape := ⟨4, ![8, 4, 4096, 1]⟩
abbrev S32x32x2816 : Shape := ⟨3, ![32, 32, 2816]⟩
abbrev S32x88x1024 : Shape := ⟨3, ![32, 88, 1024]⟩

abbrev nBuf : Space → Nat
  | .hbm => 86
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S1x1024, .f32⟩
  | .hbm, ⟨3, _⟩ => ⟨S1x1024, .f32⟩
  | .hbm, ⟨4, _⟩ => ⟨S1x1024x1024, .f32⟩
  | .hbm, ⟨5, _⟩ => ⟨S1x1024x2048, .f32⟩
  | .hbm, ⟨6, _⟩ => ⟨S1x1024x1024, .f32⟩
  | .hbm, ⟨7, _⟩ => ⟨S1x1024x2816, .f32⟩
  | .hbm, ⟨8, _⟩ => ⟨S1x1024x2816, .f32⟩
  | .hbm, ⟨9, _⟩ => ⟨S1x2816x1024, .f32⟩
  | .hbm, ⟨10, _⟩ => ⟨S1024, .f32⟩
  | .hbm, ⟨11, _⟩ => ⟨S8x4096x1024, .f32⟩
  | .hbm, ⟨12, _⟩ => ⟨S_, .f32⟩
  | .hbm, ⟨13, _⟩ => ⟨S8x4096, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S8x4096x1, .f32⟩
  | .hbm, ⟨22, _⟩ => ⟨S8x4096x1024, .f32⟩
  | .hbm, ⟨23, _⟩ => ⟨S8x4096x1024, .f32⟩
  | .hbm, ⟨24, _⟩ => ⟨S1x1x1024, .f32⟩
  | .hbm, ⟨25, _⟩ => ⟨S8x4096x1024, .f32⟩
  | .hbm, ⟨26, _⟩ => ⟨S8x4096x1024, .f32⟩
  | .hbm, ⟨27, _⟩ => ⟨S1024, .f32⟩
  | .hbm, ⟨28, _⟩ => ⟨S8x256x1024, .f32⟩
  | .hbm, ⟨29, _⟩ => ⟨S_, .f32⟩
  | .hbm, ⟨30, _⟩ => ⟨S8x256, .f32⟩
  | .hbm, ⟨31, _⟩ => ⟨S8x256x1, .f32⟩
  | .hbm, ⟨32, _⟩ => ⟨S_, .f32⟩
  | .hbm, ⟨33, _⟩ => ⟨S8x256x1, .f32⟩
  | .hbm, ⟨34, _⟩ => ⟨S8x256x1, .f32⟩
  | .hbm, ⟨35, _⟩ => ⟨S_, .f32⟩
  | .hbm, ⟨36, _⟩ => ⟨S8x256x1, .f32⟩
  | .hbm, ⟨37, _⟩ => ⟨S8x256x1, .f32⟩
  | .hbm, ⟨38, _⟩ => ⟨S8x256x1, .f32⟩
  | .hbm, ⟨39, _⟩ => ⟨S8x256x1024, .f32⟩
  | .hbm, ⟨40, _⟩ => ⟨S8x256x1024, .f32⟩
  | .hbm, ⟨41, _⟩ => ⟨S1x1x1024, .f32⟩
  | .hbm, ⟨42, _⟩ => ⟨S8x256x1024, .f32⟩
  | .hbm, ⟨43, _⟩ => ⟨S8x256x1024, .f32⟩
  | .hbm, ⟨44, _⟩ => ⟨S1024x1024, .f32⟩
  | .hbm, ⟨45, _⟩ => ⟨S1024x2048, .f32⟩
  | .hbm, ⟨46, _⟩ => ⟨S1024x1024, .f32⟩
  | .hbm, ⟨47, _⟩ => ⟨S8x4096x1024, .f32⟩
  | .hbm, ⟨48, _⟩ => ⟨S8x4096x4x256, .f32⟩
  | .hbm, ⟨49, _⟩ => ⟨S8x4x4096x256, .f32⟩
  | .hbm, ⟨50, _⟩ => ⟨S8x256x2048, .f32⟩
  | .hbm, ⟨51, _⟩ => ⟨S8x256x1024, .f32⟩
  | .hbm, ⟨52, _⟩ => ⟨S8x256x4x256, .f32⟩
  | .hbm, ⟨53, _⟩ => ⟨S8x4x256x256, .f32⟩
  | .hbm, ⟨54, _⟩ => ⟨S8x256x1024, .f32⟩
  | .hbm, ⟨55, _⟩ => ⟨S8x256x4x256, .f32⟩
  | .hbm, ⟨56, _⟩ => ⟨S8x4x256x256, .f32⟩
  | .hbm, ⟨57, _⟩ => ⟨S8x4x4096x256, .f32⟩
  | .hbm, ⟨58, _⟩ => ⟨S_, .f32⟩
  | .hbm, ⟨59, _⟩ => ⟨S8x4x4096x256, .f32⟩
  | .hbm, ⟨60, _⟩ => ⟨S8x4x4096x256, .f32⟩
  | .hbm, ⟨61, _⟩ => ⟨S_, .f32⟩
  | .hbm, ⟨62, _⟩ => ⟨S8x4x4096, .f32⟩
  | .hbm, ⟨63, _⟩ => ⟨S_, .f32⟩
  | .hbm, ⟨64, _⟩ => ⟨S8x4x4096, .f32⟩
  | .hbm, ⟨65, _⟩ => ⟨S8x4x4096, .f32⟩
  | .hbm, ⟨66, _⟩ => ⟨S8x4x4096x1, .f32⟩
  | .hbm, ⟨67, _⟩ => ⟨S8x4x4096x256, .f32⟩
  | .hbm, ⟨68, _⟩ => ⟨S8x4x4096x256, .f32⟩
  | .hbm, ⟨69, _⟩ => ⟨S8x4x4096x256, .f32⟩
  | .hbm, ⟨70, _⟩ => ⟨S_, .f32⟩
  | .hbm, ⟨71, _⟩ => ⟨S8x4x4096, .f32⟩
  | .hbm, ⟨72, _⟩ => ⟨S8x4x4096x1, .f32⟩
  | .hbm, ⟨73, _⟩ => ⟨S8x4x4096x256, .f32⟩
  | .hbm, ⟨74, _⟩ => ⟨S8x4x4096x256, .f32⟩
  | .hbm, ⟨75, _⟩ => ⟨S8x4x4096x256, .f32⟩
  | .hbm, ⟨76, _⟩ => ⟨S8x4096x4x256, .f32⟩
  | .hbm, ⟨77, _⟩ => ⟨S8x4096x1024, .f32⟩
  | .hbm, ⟨78, _⟩ => ⟨S8x4096x1024, .f32⟩
  | .hbm, ⟨79, _⟩ => ⟨S8x4096x1024, .f32⟩
  | .hbm, ⟨80, _⟩ => ⟨S32x32x2816, .f32⟩
  | .hbm, ⟨81, _⟩ => ⟨S32x32x2816, .bf16⟩
  | .hbm, ⟨82, _⟩ => ⟨S32x32x2816, .f32⟩
  | .hbm, ⟨83, _⟩ => ⟨S32x32x2816, .bf16⟩
  | .hbm, ⟨84, _⟩ => ⟨S32x88x1024, .f32⟩
  | .hbm, ⟨85, _⟩ => ⟨S32x88x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩

abbrev nD : Nat := 1
abbrev τ : Topo := Topo.v7x

variable {F : FTy → Type} [FloatOps F]
-- ==== Kernel3.lean ====
abbrev S8x4096x1024 : Shape := ⟨3, ![8, 4096, 1024]⟩
abbrev S1x1024 : Shape := ⟨2, ![1, 1024]⟩
abbrev S8x4096x512 : Shape := ⟨3, ![8, 4096, 512]⟩
abbrev S1x1024x6656 : Shape := ⟨3, ![1, 1024, 6656]⟩
abbrev S1x512x1024 : Shape := ⟨3, ![1, 512, 1024]⟩
abbrev S1x1024x1024 : Shape := ⟨3, ![1, 1024, 1024]⟩
abbrev S4 : Shape := ⟨1, ![4]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S4x1x1 : Shape := ⟨3, ![4, 1, 1]⟩
abbrev S1x256x256 : Shape := ⟨3, ![1, 256, 256]⟩
abbrev S4x256x256 : Shape := ⟨3, ![4, 256, 256]⟩
abbrev S4x1 : Shape := ⟨2, ![4, 1]⟩
abbrev S4x256 : Shape := ⟨2, ![4, 256]⟩
abbrev S4x256x1 : Shape := ⟨3, ![4, 256, 1]⟩
abbrev S1024x6656 : Shape := ⟨2, ![1024, 6656]⟩
abbrev S512x1024 : Shape := ⟨2, ![512, 1024]⟩
abbrev S1024x1024 : Shape := ⟨2, ![1024, 1024]⟩
abbrev S8x16x256x4x128 : Shape := ⟨5, ![8, 16, 256, 4, 128]⟩
abbrev S8x16x256x512 : Shape := ⟨4, ![8, 16, 256, 512]⟩
abbrev S8x16x512x256 : Shape := ⟨4, ![8, 16, 512, 256]⟩
abbrev S256x4 : Shape := ⟨2, ![256, 4]⟩
abbrev S1x1x256x4x1 : Shape := ⟨5, ![1, 1, 256, 4, 1]⟩
abbrev S1024 : Shape := ⟨1, ![1024]⟩
abbrev S1x512x512 : Shape := ⟨3, ![1, 512, 512]⟩
abbrev S1x2x512x256 : Shape := ⟨4, ![1, 2, 512, 256]⟩
abbrev S4x128x256 : Shape := ⟨3, ![4, 128, 256]⟩
abbrev S512 : Shape := ⟨1, ![512]⟩
abbrev S512x1 : Shape := ⟨2, ![512, 1]⟩
abbrev S1x256x128 : Shape := ⟨3, ![1, 256, 128]⟩
abbrev S256x128 : Shape := ⟨2, ![256, 128]⟩
abbrev S1x1x128x256 : Shape := ⟨4, ![1, 1, 128, 256]⟩
abbrev S128x256 : Shape := ⟨2, ![128, 256]⟩
abbrev S1x128x256 : Shape := ⟨3, ![1, 128, 256]⟩
abbrev S512x512 : Shape := ⟨2, ![512, 512]⟩
abbrev S512x256 : Shape := ⟨2, ![512, 256]⟩
abbrev S1024x256 : Shape := ⟨2, ![1024, 256]⟩
abbrev S256x1024 : Shape := ⟨2, ![256, 1024]⟩
abbrev S1x256x1024 : Shape := ⟨3, ![1, 256, 1024]⟩

abbrev nBuf : Space → Nat
  | .hbm => 80
  | .vmem => 23
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S8x4096x512, .f32⟩
  | .hbm, ⟨3, _⟩ => ⟨S8x4096x512, .f32⟩
  | .hbm, ⟨4, _⟩ => ⟨S8x4096x1024, .f32⟩
  | .hbm, ⟨5, _⟩ => ⟨S8x4096x512, .f32⟩
  | .hbm, ⟨6, _⟩ => ⟨S1x1024x6656, .f32⟩
  | .hbm, ⟨7, _⟩ => ⟨S1x512x1024, .f32⟩
  | .hbm, ⟨8, _⟩ => ⟨S1x1024x1024, .f32⟩
  | .hbm, ⟨9, _⟩ => ⟨S1x1024x1024, .f32⟩
  | .hbm, ⟨10, _⟩ => ⟨S4, .f32⟩
  | .hbm, ⟨11, _⟩ => ⟨S4, .f32⟩
  | .hbm, ⟨12, _⟩ => ⟨S256, .f32⟩
  | .hbm, ⟨13, _⟩ => ⟨S256x1, .f32⟩
  | .hbm, ⟨14, _⟩ => ⟨S1x256, .f32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S_, .f32⟩
  | .hbm, ⟨19, _⟩ => ⟨S256x256, .f32⟩
  | .hbm, ⟨20, _⟩ => ⟨S256x256, .i1⟩
  | .hbm, ⟨21, _⟩ => ⟨S4x1x1, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S1x256x256, .f32⟩
  | .hbm, ⟨26, _⟩ => ⟨S4x256x256, .f32⟩
  | .hbm, ⟨27, _⟩ => ⟨S4x256x256, .f32⟩
  | .hbm, ⟨28, _⟩ => ⟨S4x256x256, .f32⟩
  | .hbm, ⟨29, _⟩ => ⟨S4x256x256, .f32⟩
  | .hbm, ⟨30, _⟩ => ⟨S_, .f32⟩
  | .hbm, ⟨31, _⟩ => ⟨S_, .f32⟩
  | .hbm, ⟨32, _⟩ => ⟨S4x256x256, .i1⟩
  | .hbm, ⟨33, _⟩ => ⟨S4x256x256, .f32⟩
  | .hbm, ⟨34, _⟩ => ⟨S4x256x256, .f32⟩
  | .hbm, ⟨35, _⟩ => ⟨S4x1, .f32⟩
  | .hbm, ⟨36, _⟩ => ⟨S_, .f32⟩
  | .hbm, ⟨37, _⟩ => ⟨S256, .f32⟩
  | .hbm, ⟨38, _⟩ => ⟨S256, .f32⟩
  | .hbm, ⟨39, _⟩ => ⟨S1x256, .f32⟩
  | .hbm, ⟨40, _⟩ => ⟨S4x256, .f32⟩
  | .hbm, ⟨41, _⟩ => ⟨S4x256, .f32⟩
  | .hbm, ⟨42, _⟩ => ⟨S4x256, .f32⟩
  | .hbm, ⟨43, _⟩ => ⟨S4x256, .f32⟩
  | .hbm, ⟨44, _⟩ => ⟨S4x1, .f32⟩
  | .hbm, ⟨45, _⟩ => ⟨S_, .f32⟩
  | .hbm, ⟨46, _⟩ => ⟨S256, .f32⟩
  | .hbm, ⟨47, _⟩ => ⟨S256, .f32⟩
  | .hbm, ⟨48, _⟩ => ⟨S1x256, .f32⟩
  | .hbm, ⟨49, _⟩ => ⟨S4x256, .f32⟩
  | .hbm, ⟨50, _⟩ => ⟨S4x256, .f32⟩
  | .hbm, ⟨51, _⟩ => ⟨S4x256, .f32⟩
  | .hbm, ⟨52, _⟩ => ⟨S4x256, .f32⟩
  | .hbm, ⟨53, _⟩ => ⟨S4x256x1, .f32⟩
  | .hbm, ⟨54, _⟩ => ⟨S4x256x256, .f32⟩
  | .hbm, ⟨55, _⟩ => ⟨S1024x6656, .f32⟩
  | .hbm, ⟨56, _⟩ => ⟨S512x1024, .f32⟩
  | .hbm, ⟨57, _⟩ => ⟨S1024x1024, .f32⟩
  | .hbm, ⟨58, _⟩ => ⟨S1024x1024, .f32⟩
  | .hbm, ⟨59, _⟩ => ⟨S1024x6656, .bf16⟩
  | .hbm, ⟨60, _⟩ => ⟨S512x1024, .bf16⟩
  | .hbm, ⟨61, _⟩ => ⟨S1024x1024, .bf16⟩
  | .hbm, ⟨62, _⟩ => ⟨S1024x1024, .bf16⟩
  | .hbm, ⟨63, _⟩ => ⟨S8x16x256x4x128, .f32⟩
  | .hbm, ⟨64, _⟩ => ⟨S8x16x256x512, .f32⟩
  | .hbm, ⟨65, _⟩ => ⟨S8x16x512x256, .f32⟩
  | .hbm, ⟨66, _⟩ => ⟨S8x16x512x256, .bf16⟩
  | .hbm, ⟨67, _⟩ => ⟨S256x4, .f32⟩
  | .hbm, ⟨68, _⟩ => ⟨S1x1x256x4x1, .f32⟩
  | .hbm, ⟨69, _⟩ => ⟨S8x16x256x4x128, .f32⟩
  | .hbm, ⟨70, _⟩ => ⟨S8x16x256x4x128, .f32⟩
  | .hbm, ⟨71, _⟩ => ⟨S8x16x256x512, .f32⟩
  | .hbm, ⟨72, _⟩ => ⟨S8x16x512x256, .f32⟩
  | .hbm, ⟨73, _⟩ => ⟨S8x16x512x256, .bf16⟩
  | .hbm, ⟨74, _⟩ => ⟨S1024, .f32⟩
  | .hbm, ⟨75, _⟩ => ⟨S1x1024, .f32⟩
  | .hbm, ⟨76, _⟩ => ⟨S8x4096x512, .bf16⟩
  | .hbm, ⟨77, _⟩ => ⟨S8x4096x1024, .bf16⟩
  | .hbm, ⟨78, _⟩ => ⟨S8x4096x512, .bf16⟩
  | .hbm, ⟨79, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x512x512, .bf16⟩
  | .local _ .vmem, ⟨4, _⟩ => ⟨S1x512x512, .bf16⟩
  | .local _ .vmem, ⟨5, _⟩ => ⟨S1x2x512x256, .bf16⟩
  | .local _ .vmem, ⟨6, _⟩ => ⟨S1x2x512x256, .bf16⟩
  | .local _ .vmem, ⟨7, _⟩ => ⟨S1x2x512x256, .bf16⟩
  | .local _ .vmem, ⟨8, _⟩ => ⟨S1x2x512x256, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x512, .bf16⟩
  | .local _ .vmem, ⟨12, _⟩ => ⟨S1x512x512, .bf16⟩
  | .local _ .vmem, ⟨13, _⟩ => ⟨S4x256x256, .f32⟩
  | .local _ .vmem, ⟨14, _⟩ => ⟨S4x256x256, .f32⟩
  | .local _ .vmem, ⟨15, _⟩ => ⟨S1024x6656, .bf16⟩
  | .local _ .vmem, ⟨16, _⟩ => ⟨S512x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1x512x1024, .f32⟩
  | .local _ .vmem, ⟨20, _⟩ => ⟨S1x512x1024, .f32⟩
  | .local _ .vmem, ⟨21, _⟩ => ⟨S4x128x256, .f32⟩
  | .local _ .vmem, ⟨22, _⟩ => ⟨S512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S4x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x6656 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Kernel3Ideal.lean ====
variable {F : FTy → Type} [FloatOps F] [Named F]
def κ : String → Option EReal := fun
  | "decay0" => some ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  | "decay1" => some ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  | "decay2" => some ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  | "decay3" => some ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)
  | _ => none
-- ==== Reference3Ideal.lean ====
abbrev S8x4096x1024 : Shape := ⟨3, ![8, 4096, 1024]⟩
abbrev S1x1024 : Shape := ⟨2, ![1, 1024]⟩
abbrev S8x4096x512 : Shape := ⟨3, ![8, 4096, 512]⟩
abbrev S1x1024x6656 : Shape := ⟨3, ![1, 1024, 6656]⟩
abbrev S1x512x1024 : Shape := ⟨3, ![1, 512, 1024]⟩
abbrev S1x1024x1024 : Shape := ⟨3, ![1, 1024, 1024]⟩
abbrev S4 : Shape := ⟨1, ![4]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x6656 : Shape := ⟨2, ![1024, 6656]⟩
abbrev S8x4096x6656 : Shape := ⟨3, ![8, 4096, 6656]⟩
abbrev S8x4096x3072 : Shape := ⟨3, ![8, 4096, 3072]⟩
abbrev S8x4096x4x128 : Shape := ⟨4, ![8, 4096, 4, 128]⟩
abbrev S8x4x4096x128 : Shape := ⟨4, ![8, 4, 4096, 128]⟩
abbrev S8x4096x4x256 : Shape := ⟨4, ![8, 4096, 4, 256]⟩
abbrev S8x4x4096x256 : Shape := ⟨4, ![8, 4, 4096, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S8x4x32x128x128 : Shape := ⟨5, ![8, 4, 32, 128, 128]⟩
abbrev S8x4x32x128x256 : Shape := ⟨5, ![8, 4, 32, 128, 256]⟩
abbrev S1x4x1x128x128 : Shape := ⟨5, ![1, 4, 1, 128, 128]⟩
abbrev S1x4x1x128x1 : Shape := ⟨5, ![1, 4, 1, 128, 1]⟩
abbrev S8x4x128x256 : Shape := ⟨4, ![8, 4, 128, 256]⟩
abbrev S32x8x4x128x256 : Shape := ⟨5, ![32, 8, 4, 128, 256]⟩
abbrev S1x8x4x128x256 : Shape := ⟨5, ![1, 8, 4, 128, 256]⟩
abbrev S1x4x1x1 : Shape := ⟨4, ![1, 4, 1, 1]⟩
abbrev S8x4x4096 : Shape := ⟨3, ![8, 4, 4096]⟩
abbrev S8x4x4096x1 : Shape := ⟨4, ![8, 4, 4096, 1]⟩
abbrev S512x1024 : Shape := ⟨2, ![512, 1024]⟩
abbrev S1024x1024 : Shape := ⟨2, ![1024, 1024]⟩

abbrev nBuf : Space → Nat
  | .hbm => 197
  | .vmem => 0
  | .smem => 0
  | _ => 0

abbrev hbmTy0_0 (i : Nat) : BufTy := match i % 128 with
  | 0 => ⟨S8x4096x1024, .f32⟩
  | 1 => ⟨S1x1024, .f32⟩
  | 2 => ⟨S8x4096x512, .f32⟩
  | 3 => ⟨S8x4096x512, .f32⟩
  | 4 => ⟨S8x4096x1024, .f32⟩
  | 5 => ⟨S8x4096x512, .f32⟩
  | 6 => ⟨S1x1024x6656, .f32⟩
  | 7 => ⟨S1x512x1024, .f32⟩
  | 8 => ⟨S1x1024x1024, .f32⟩
  | 9 => ⟨S1x1024x1024, .f32⟩
  | 10 => ⟨S4, .f32⟩
  | 11 => ⟨S1024, .f32⟩
  | 12 => ⟨S8x4096x1024, .f32⟩
  | 13 => ⟨S_, .f32⟩
  | 14 => ⟨S8x4096, .f32⟩
  | 15 => ⟨S8x4096x1, .f32⟩
  | 16 => ⟨S_, .f32⟩
  | 17 => ⟨S8x4096x1, .f32⟩
  | 18 => ⟨S8x4096x1, .f32⟩
  | 19 => ⟨S_, .f32⟩
  | 20 => ⟨S8x4096x1, .f32⟩
  | 21 => ⟨S8x4096x1, .f32⟩
  | 22 => ⟨S8x4096x1, .f32⟩
  | 23 => ⟨S8x4096x1024, .f32⟩
  | 24 => ⟨S8x4096x1024, .f32⟩
  | 25 => ⟨S1x1x1024, .f32⟩
  | 26 => ⟨S8x4096x1024, .f32⟩
  | 27 => ⟨S8x4096x1024, .f32⟩
  | 28 => ⟨S1024x6656, .f32⟩
  | 29 => ⟨S8x4096x6656, .f32⟩
  | 30 => ⟨S8x4096x3072, .f32⟩
  | 31 => ⟨S8x4096x1024, .f32⟩
  | 32 => ⟨S8x4096x1024, .f32⟩
  | 33 => ⟨S8x4096x1024, .f32⟩
  | 34 => ⟨S8x4096x4x128, .f32⟩
  | 35 => ⟨S8x4x4096x128, .f32⟩
  | 36 => ⟨S8x4096x4x128, .f32⟩
  | 37 => ⟨S8x4x4096x128, .f32⟩
  | 38 => ⟨S8x4096x4x256, .f32⟩
  | 39 => ⟨S8x4x4096x256, .f32⟩
  | 40 => ⟨S4, .f32⟩
  | 41 => ⟨S128, .f32⟩
  | 42 => ⟨S128x1, .f32⟩
  | 43 => ⟨S1x128, .f32⟩
  | 44 => ⟨S128x128, .f32⟩
  | 45 => ⟨S128x128, .f32⟩
  | 46 => ⟨S128x128, .f32⟩
  | 47 => ⟨S_, .f32⟩
  | 48 => ⟨S128x128, .f32⟩
  | 49 => ⟨S128x128, .i1⟩
  | 50 => ⟨S4x1x1, .f32⟩
  | 51 => ⟨S_, .f32⟩
  | 52 => ⟨S128x128, .f32⟩
  | 53 => ⟨S128x128, .f32⟩
  | 54 => ⟨S1x128x128, .f32⟩
  | 55 => ⟨S4x128x128, .f32⟩
  | 56 => ⟨S4x128x128, .f32⟩
  | 57 => ⟨S4x128x128, .f32⟩
  | 58 => ⟨S4x128x128, .f32⟩
  | 59 => ⟨S_, .f32⟩
  | 60 => ⟨S_, .f32⟩
  | 61 => ⟨S4x128x128, .i1⟩
  | 62 => ⟨S4x128x128, .f32⟩
  | 63 => ⟨S4x128x128, .f32⟩
  | 64 => ⟨S4x1, .f32⟩
  | 65 => ⟨S_, .f32⟩
  | 66 => ⟨S128, .f32⟩
  | 67 => ⟨S128, .f32⟩
  | 68 => ⟨S1x128, .f32⟩
  | 69 => ⟨S4x128, .f32⟩
  | 70 => ⟨S4x128, .f32⟩
  | 71 => ⟨S4x128, .f32⟩
  | 72 => ⟨S4x128, .f32⟩
  | 73 => ⟨S4x1, .f32⟩
  | 74 => ⟨S_, .f32⟩
  | 75 => ⟨S128, .f32⟩
  | 76 => ⟨S128, .f32⟩
  | 77 => ⟨S1x128, .f32⟩
  | 78 => ⟨S4x128, .f32⟩
  | 79 => ⟨S4x128, .f32⟩
  | 80 => ⟨S4x128, .f32⟩
  | 81 => ⟨S4x128, .f32⟩
  | 82 => ⟨S_, .f32⟩
  | 83 => ⟨S4, .f32⟩
  | 84 => ⟨S4, .f32⟩
  | 85 => ⟨S4, .f32⟩
  | 86 => ⟨S8x4x32x128x128, .f32⟩
  | 87 => ⟨S8x4x32x128x128, .f32⟩
  | 88 => ⟨S8x4x32x128x256, .f32⟩
  | 89 => ⟨S8x4x32x128x128, .f32⟩
  | 90 => ⟨S1x4x1x128x128, .f32⟩
  | 91 => ⟨S8x4x32x128x128, .f32⟩
  | 92 => ⟨S8x4x32x128x128, .f32⟩
  | 93 => ⟨S8x4x32x128x256, .f32⟩
  | 94 => ⟨S1x4x1x128x1, .f32⟩
  | 95 => ⟨S8x4x32x128x128, .f32⟩
  | 96 => ⟨S8x4x32x128x128, .f32⟩
  | 97 => ⟨S8x4x32x128x256, .f32⟩
  | 98 => ⟨S_, .f32⟩
  | 99 => ⟨S8x4x128x256, .f32⟩
  | 100 => ⟨S32x8x4x128x256, .f32⟩
  | 101 => ⟨S_, .f32⟩
  | 102 => ⟨S32x8x4x128x256, .f32⟩
  | 103 => ⟨S_, .i32⟩
  | 104 => ⟨S32x8x4x128x256, .f32⟩
  | 105 => ⟨S4, .f32⟩
  | 106 => ⟨S_, .i32⟩
  | 107 => ⟨S8x4x128x256, .f32⟩
  | 108 => ⟨S32x8x4x128x256, .f32⟩
  | 109 => ⟨S_, .i32⟩
  | 110 => ⟨S_, .i1⟩
  | 111 => ⟨S_, .i32⟩
  | 112 => ⟨S_, .i32⟩
  | 113 => ⟨S_, .i32⟩
  | 114 => ⟨S_, .i32⟩
  | 115 => ⟨S1x8x4x128x256, .f32⟩
  | 116 => ⟨S8x4x128x256, .f32⟩
  | 117 => ⟨S1x4x1x1, .f32⟩
  | 118 => ⟨S8x4x128x256, .f32⟩
  | 119 => ⟨S8x4x128x256, .f32⟩
  | 120 => ⟨S8x4x128x256, .f32⟩
  | 121 => ⟨S1x8x4x128x256, .f32⟩
  | 122 => ⟨S_, .i32⟩
  | 123 => ⟨S_, .i32⟩
  | 124 => ⟨S_, .i32⟩
  | 125 => ⟨S_, .i32⟩
  | 126 => ⟨S32x8x4x128x256, .f32⟩
  | 127 => ⟨S_, .i32⟩
  | _ => ⟨S8x4096x1024, .f32⟩

abbrev hbmTy0_1 (i : Nat) : BufTy := match i % 128 with
  | 0 => ⟨S_, .i32⟩
  | 1 => ⟨S8x4x32x128x256, .f32⟩
  | 2 => ⟨S1x4x1x128x1, .f32⟩
  | 3 => ⟨S8x4x32x128x128, .f32⟩
  | 4 => ⟨S8x4x32x128x128, .f32⟩
  | 5 => ⟨S8x4x32x128x256, .f32⟩
  | 6 => ⟨S8x4x32x128x256, .f32⟩
  | 7 => ⟨S8x4x4096x256, .f32⟩
  | 8 => ⟨S_, .f32⟩
  | 9 => ⟨S8x4x4096, .f32⟩
  | 10 => ⟨S8x4x4096x1, .f32⟩
  | 11 => ⟨S_, .f32⟩
  | 12 => ⟨S8x4x4096x1, .f32⟩
  | 13 => ⟨S8x4x4096x1, .f32⟩
  | 14 => ⟨S8x4x4096x256, .f32⟩
  | 15 => ⟨S8x4x4096x256, .f32⟩
  | 16 => ⟨S8x4x4096x256, .f32⟩
  | 17 => ⟨S_, .f32⟩
  | 18 => ⟨S8x4x4096, .f32⟩
  | 19 => ⟨S8x4x4096x1, .f32⟩
  | 20 => ⟨S_, .f32⟩
  | 21 => ⟨S8x4x4096x1, .f32⟩
  | 22 => ⟨S8x4x4096x1, .f32⟩
  | 23 => ⟨S8x4x4096x256, .f32⟩
  | 24 => ⟨S8x4x4096x256, .f32⟩
  | 25 => ⟨S_, .f32⟩
  | 26 => ⟨S8x4x4096x1, .f32⟩
  | 27 => ⟨S8x4x4096x1, .f32⟩
  | 28 => ⟨S8x4x4096x1, .f32⟩
  | 29 => ⟨S8x4x4096x256, .f32⟩
  | 30 => ⟨S8x4x4096x256, .f32⟩
  | 31 => ⟨S8x4096x4x256, .f32⟩
  | 32 => ⟨S8x4096x1024, .f32⟩
  | 33 => ⟨S8x4096x1024, .f32⟩
  | 34 => ⟨S8x4096x1024, .f32⟩
  | 35 => ⟨S_, .f32⟩
  | 36 => ⟨S8x4096x1024, .f32⟩
  | 37 => ⟨S8x4096x1024, .f32⟩
  | 38 => ⟨S_, .f32⟩
  | 39 => ⟨S8x4096x1024, .f32⟩
  | 40 => ⟨S8x4096x1024, .f32⟩
  | 41 => ⟨S8x4096x1024, .f32⟩
  | 42 => ⟨S8x4096x1024, .f32⟩
  | 43 => ⟨S8x4096x1024, .f32⟩
  | 44 => ⟨S8x4096x1024, .f32⟩
  | 45 => ⟨S_, .f32⟩
  | 46 => ⟨S8x4096x1024, .f32⟩
  | 47 => ⟨S8x4096x1024, .f32⟩
  | 48 => ⟨S_, .f32⟩
  | 49 => ⟨S8x4096x1024, .f32⟩
  | 50 => ⟨S8x4096x1024, .f32⟩
  | 51 => ⟨S512x1024, .f32⟩
  | 52 => ⟨S8x4096x1024, .f32⟩
  | 53 => ⟨S8x4096x1024, .f32⟩
  | 54 => ⟨S8x4096x1024, .f32⟩
  | 55 => ⟨S8x4096x1024, .f32⟩
  | 56 => ⟨S_, .f32⟩
  | 57 => ⟨S8x4096x1024, .f32⟩
  | 58 => ⟨S8x4096x1024, .f32⟩
  | 59 => ⟨S_, .f32⟩
  | 60 => ⟨S8x4096x1024, .f32⟩
  | 61 => ⟨S8x4096x1024, .f32⟩
  | 62 => ⟨S1024x1024, .f32⟩
  | 63 => ⟨S8x4096x1024, .f32⟩
  | 64 => ⟨S8x4096x1024, .f32⟩
  | 65 => ⟨S8x4096x1024, .f32⟩
  | 66 => ⟨S1024x1024, .f32⟩
  | 67 => ⟨S8x4096x1024, .f32⟩
  | 68 => ⟨S8x4096x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_5 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_v43 : Ref sig .tc := ⟨.hbm, 63, rfl⟩
abbrev main_v44 : Ref sig .tc := ⟨.hbm, 64, rfl⟩
abbrev main_cst_6 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_7 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_8 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_9 : Ref sig .tc := ⟨.hbm, 98, rfl⟩
abbrev main_v75 : Ref sig .tc := ⟨.hbm, 99, rfl⟩
abbrev main_v76 : Ref sig .tc := ⟨.hbm, 100, rfl⟩
abbrev main_cst_10 : Ref sig .tc := ⟨.hbm, 101, rfl⟩
abbrev main_v77 : Ref sig .tc := ⟨.hbm, 102, rfl⟩
abbrev main_c : Ref sig .tc := ⟨.hbm, 103, rfl⟩
abbrev main_v78_0 : Ref sig .tc := ⟨.hbm, 104, rfl⟩
abbrev main_v78_1 : Ref sig .tc := ⟨.hbm, 105, rfl⟩
abbrev main_v78_2 : Ref sig .tc := ⟨.hbm, 106, rfl⟩
abbrev main_v78_3 : Ref sig .tc := ⟨.hbm, 107, rfl⟩
abbrev main_v78_4 : Ref sig .tc := ⟨.hbm, 108, rfl⟩
abbrev main_while0c_c_24 : Ref sig .tc := ⟨.hbm, 109, rfl⟩
abbrev main_while0c_v130 : Ref sig .tc := ⟨.hbm, 110, rfl⟩
abbrev main_while0b_call1_c : Ref sig .tc := ⟨.hbm, 111, rfl⟩
abbrev main_while0b_call1_c_0 : Ref sig .tc := ⟨.hbm, 112, rfl⟩
abbrev main_while0b_call1_c_1 : Ref sig .tc := ⟨.hbm, 113, rfl⟩
abbrev main_while0b_call1_c_2 : Ref sig .tc := ⟨.hbm, 114, rfl⟩
abbrev main_while0b_call1_v0 : Ref sig .tc := ⟨.hbm, 115, rfl⟩
abbrev main_while0b_v130 : Ref sig .tc := ⟨.hbm, 116, rfl⟩
abbrev main_while0b_v131 : Ref sig .tc := ⟨.hbm, 117, rfl⟩
abbrev main_while0b_v132 : Ref sig .tc := ⟨.hbm, 118, rfl⟩
abbrev main_while0b_v133 : Ref sig .tc := ⟨.hbm, 119, rfl⟩
abbrev main_while0b_v134 : Ref sig .tc := ⟨.hbm, 120, rfl⟩
abbrev main_while0b_call2_v0 : Ref sig .tc := ⟨.hbm, 121, rfl⟩
abbrev main_while0b_call2_c : Ref sig .tc := ⟨.hbm, 122, rfl⟩
abbrev main_while0b_call2_c_0 : Ref sig .tc := ⟨.hbm, 123, rfl⟩
abbrev main_while0b_call2_c_1 : Ref sig .tc := ⟨.hbm, 124, rfl⟩
abbrev main_while0b_call2_c_2 : Ref sig .tc := ⟨.hbm, 125, rfl⟩
abbrev main_while0b_v135 : Ref sig .tc := ⟨.hbm, 126, rfl⟩
abbrev main_while0b_c_24 : Ref sig .tc := ⟨.hbm, 127, rfl⟩
abbrev main_while0b_v136 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_cst_11 : Ref sig .tc := ⟨.hbm, 136, rfl⟩
abbrev main_v86 : Ref sig .tc := ⟨.hbm, 137, rfl⟩
abbrev main_v87 : Ref sig .tc := ⟨.hbm, 138, rfl⟩
abbrev main_cst_12 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_cst_13 : Ref sig .tc := ⟨.hbm, 145, rfl⟩
abbrev main_v93 : Ref sig .tc := ⟨.hbm, 146, rfl⟩
abbrev main_v94 : Ref sig .tc := ⟨.hbm, 147, rfl⟩
abbrev main_cst_14 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_cst_15 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_call3_v0 : Ref sig .tc := ⟨.hbm, 161, rfl⟩
abbrev main_call3_v1 : Ref sig .tc := ⟨.hbm, 162, rfl⟩
abbrev main_call3_cst : Ref sig .tc := ⟨.hbm, 163, rfl⟩
abbrev main_call3_v2 : Ref sig .tc := ⟨.hbm, 164, rfl⟩
abbrev main_call3_v3 : Ref sig .tc := ⟨.hbm, 165, rfl⟩
abbrev main_call3_cst_0 : Ref sig .tc := ⟨.hbm, 166, rfl⟩
abbrev main_call3_v4 : Ref sig .tc := ⟨.hbm, 167, rfl⟩
abbrev main_call3_v5 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_cst_16 : Ref sig .tc := ⟨.hbm, 173, rfl⟩
abbrev main_v110 : Ref sig .tc := ⟨.hbm, 174, rfl⟩
abbrev main_v111 : Ref sig .tc := ⟨.hbm, 175, rfl⟩
abbrev main_cst_17 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_cst_18 : Ref sig .tc := ⟨.hbm, 184, rfl⟩
abbrev main_v119 : Ref sig .tc := ⟨.hbm, 185, rfl⟩
abbrev main_v120 : Ref sig .tc := ⟨.hbm, 186, rfl⟩
abbrev main_cst_19 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩

abbrev nD : Nat := 1
abbrev τ : Topo := Topo.v7x

variable {F : FTy → Type} [FloatOps F]

abbrev main_while0_count : Scf.Loop 32 := ⟨0#32, 32#32, 1#32⟩
-- ==== Proof.Rows.lean ====
/- The layer's row functions on extended reals: the root-mean-square norm, the gated feed-forward and its final norm. Each result
   row of the feed-forward call is `ffnRow` of the matching input row. -/
module

public import Idealize.ShloMosaic.Lib.Pointwise

@[expose] public section

noncomputable section

namespace Cert.Rows

open Idealize.ShloMosaic

/-- The root-mean-square norm of a row of 1024 numbers, scaled by a gain. -/
def rms (v g : Fin 1024 → EReal) (d : Fin 1024) : EReal :=
  v d * Ideal.rsqrt (Ideal.div (∑ k, v k * v k) (Ideal.ofBits .f32 0x44800000#32) + Ideal.ofBits .f32 0x358637BD#32) * g d

/-- The logistic function. -/
def logistic (a : EReal) : EReal := Ideal.div 1 (1 + Ideal.exp (-a))

/-- One hidden unit of the gated feed-forward: the swish of the gate product times the up product. -/
def hidden (h : Fin 1024 → EReal) (wg wu : Fin 1024 → Fin 2816 → EReal) (f : Fin 2816) : EReal :=
  (∑ d, h d * wg d f) * logistic (∑ d, h d * wg d f) * ∑ d, h d * wu d f

/-- A row plus its gated feed-forward. -/
def ffnSum (x g : Fin 1024 → EReal) (wg wu : Fin 1024 → Fin 2816 → EReal) (wd : Fin 2816 → Fin 1024 → EReal) (e : Fin 1024) : EReal :=
  x e + ∑ f, hidden (rms x g) wg wu f * wd f e

/-- A result row: the sum above, normed. -/
def ffnRow (x g : Fin 1024 → EReal) (wg wu : Fin 1024 → Fin 2816 → EReal) (wd : Fin 2816 → Fin 1024 → EReal)
    (fg : Fin 1024 → EReal) (e : Fin 1024) : EReal :=
  rms (ffnSum x g wg wu wd) fg e

/-- The result at row `R` of the flattened batch: the feed-forward row of the input row that `R` stands for. -/
def ffnAll (x : Fin 8 → Fin 4096 → Fin 1024 → EReal) (g : Fin 1024 → EReal) (wg wu : Fin 1024 → Fin 2816 → EReal)
    (wd : Fin 2816 → Fin 1024 → EReal) (fg : Fin 1024 → EReal) (R : Fin 32768) (e : Fin 1024) : EReal :=
  ffnRow (x ⟨R.val / 4096, by omega⟩ ⟨R.val % 4096, by omega⟩) g wg wu wd fg e

/-- Eleven summands. -/
theorem eleven (F : Fin 11 → EReal) :
    ∑ j, F j = F 0 + F 1 + F 2 + F 3 + F 4 + F 5 + F 6 + F 7 + F 8 + F 9 + F 10 := by
  simp only [Fin.sum_univ_castSucc, Fin.sum_univ_zero, zero_add]
  rfl

/-- A sum over 2816 places taken 256 at a time. -/
theorem sum_2816 (f : Fin 2816 → EReal) (a : EReal) :
    a + ∑ k, f k = a + (∑ k : Fin 256, f ⟨0 + k.val, by omega⟩) + (∑ k : Fin 256, f ⟨256 + k.val, by omega⟩)
      + (∑ k : Fin 256, f ⟨512 + k.val, by omega⟩) + (∑ k : Fin 256, f ⟨768 + k.val, by omega⟩)
      + (∑ k : Fin 256, f ⟨1024 + k.val, by omega⟩) + (∑ k : Fin 256, f ⟨1280 + k.val, by omega⟩)
      + (∑ k : Fin 256, f ⟨1536 + k.val, by omega⟩) + (∑ k : Fin 256, f ⟨1792 + k.val, by omega⟩)
      + (∑ k : Fin 256, f ⟨2048 + k.val, by omega⟩) + (∑ k : Fin 256, f ⟨2304 + k.val, by omega⟩)
      + (∑ k : Fin 256, f ⟨2560 + k.val, by omega⟩) := by
  rw [Fin.sum_univ_tiles 11 256 (by norm_num) f]
  rw [eleven]
  simp only [← add_assoc]
  congr

end Cert.Rows

end
-- ==== Proof.FfnKernel.lean ====
/- What one point of the feed-forward kernel leaves in its result block, row by row. -/
module

public import proofs.«01_k».proof.Proof.Gen.KernelIdeal.Value
public import proofs.«01_k».proof.Proof.Rows
public import Idealize.ShloMosaic.Lib.Pipeline.ValueKit

@[expose] public section

set_option maxRecDepth 16384

noncomputable section

namespace Cert.Ffn

open Cert.KernelIdeal Cert.KernelIdeal.Gen Cert.Rows Idealize.ShloMosaic Idealize.ShloMosaic.TcCoe

/-- The normed row, as the kernel feeds it to its products. -/
theorem normed (x : Vec Ideal S1024x1024 .f32) (g : Vec Ideal S1x1024 .f32) (r d : Fin 1024) :
    k0_pay3 x g (ix2 r d) = rms (fun d => x (ix2 r d)) (fun d => g (ix2 0 d)) d := by
  pointwise [k0_pay3, k0_pay2, rms]

/-- Row `r` of the result block is the feed-forward of row `r` of the input block. -/
theorem block (x0 : Vec Ideal S1024x1024 .f32) (x1 : Vec Ideal S1x1024 .f32) (x2 x3 : Vec Ideal S1024x2816 .bf16)
    (x4 : Vec Ideal S2816x1024 .bf16) (x5 : Vec Ideal S1x1024 .f32) (r e : Fin 1024) :
    out0_6 x0 x1 x2 x3 x4 x5 (ix2 r e)
      = ffnRow (fun d => x0 (ix2 r d)) (fun d => x1 (ix2 0 d)) (fun d f => x2 (ix2 d f)) (fun d f => x3 (ix2 d f))
          (fun f e => x4 (ix2 f e)) (fun e => x5 (ix2 0 e)) e := by
  frame_out
  have hh : ∀ r d, k0_pay33 x0 x1 x2 x3 x4 x5 (ix2 r d) = rms (fun d => x0 (ix2 r d)) (fun d => x1 (ix2 0 d)) d := by
    intro r d
    unfold k0_pay33
    rw [normed]
    pointwise [r0_0, r0_1]
  pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32]
  simp only [hh, normed, zero_sub, ffnRow, ffnSum, sum_2816]
  rw [rms]
  simp only [ffnSum, sum_2816, Rows.hidden, Rows.logistic, zero_add]

end Cert.Ffn

end
-- ==== Proof.FfnValue.lean ====
/- The feed-forward call's result array: every row is the feed-forward of the matching input row, in the idealized kernel. -/
module

public import proofs.«01_k».proof.Proof.FfnKernel
public import proofs.«01_k».proof.Proof.Gen.KernelIdeal.Value
public import Idealize.ShloMosaic.Lib.Pipeline.ValueKit

@[expose] public section

set_option maxRecDepth 16384

noncomputable section

namespace Cert.Ffn

open Cert.KernelIdeal Cert.KernelIdeal.Gen Cert.Rows Idealize.ShloMosaic Idealize.ShloMosaic.TcCoe
open Idealize.ShloMosaic.Pipeline (Dat)

variable (m : (ℓ : Loc nD τ sig) → Buf (Elt Ideal) ℓ)

/-- The blocks of the input rows and of the result rows go down the array; the other operands are whole. -/
theorem blocks : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

theorem rows_apply (x : Vec Ideal S8x4096x1024 .f32) (R : Fin 32768) (d : Fin 1024) :
    shapeCast S32768x1024 x shapeCasts_S8x4096x1024_S32768x1024 (ix2 R d) = x (ix3 ⟨R.val / 4096, by omega⟩ ⟨R.val % 4096, by omega⟩ d) := by
  pointwise

theorem up_apply (x : FVec Ideal S1x1024x2816 .f32) (d : Fin 1024) (f : Fin 2816) :
    (truncf .bf16 (shapeCast S1024x2816 x shapeCasts_S1x1024x2816_S1024x2816) bitsLt_bf16_f32 : FVec Ideal S1024x2816 .bf16) (ix2 d f) = x (ix3 0 d f) := by
  pointwise

theorem down_apply (x : FVec Ideal S1x2816x1024 .f32) (f : Fin 2816) (e : Fin 1024) :
    (truncf .bf16 (shapeCast S2816x1024 x shapeCasts_S1x2816x1024_S2816x1024) bitsLt_bf16_f32 : FVec Ideal S2816x1024 .bf16) (ix2 f e) = x (ix3 0 f e) := by
  pointwise

theorem v0 (c : Dev nD) (R : Fin 32768) (d : Fin 1024) : V m c main_v0 (ix2 R d)
    = m (c.tc.loc main_arg0) (ix3 ⟨R.val / 4096, by omega⟩ ⟨R.val % 4096, by omega⟩ d) := by
  have h : V m c main_v0 = shapeCast S32768x1024 (m (c.tc.loc main_arg0) : Vec Ideal S8x4096x1024 .f32) shapeCasts_S8x4096x1024_S32768x1024 := by
    dsimp only [V, hostOps0]; after_results; rfl
  exact (congrFun h _).trans (rows_apply _ R d)

theorem v2 (c : Dev nD) (d : Fin 1024) : V m c main_v2 (ix2 0 d) = m (c.tc.loc main_arg1) (ix2 0 d) := by
  have h : V m c main_v2 = shapeCast S1x1024 (shapeCast S1024 (m (c.tc.loc main_arg1) : Vec Ideal S1x1024 .f32) shapeCasts_S1x1024_S1024) shapeCasts_S1024_S1x1024 := by
    dsimp only [V, hostOps0]; after_results; rfl
  rw [h]
  pointwise

theorem v4 (c : Dev nD) (d : Fin 1024) (f : Fin 2816) : V m c main_v4 (ix2 d f) = m (c.tc.loc main_arg2) (ix3 0 d f) := by
  have h : V m c main_v4 = (truncf .bf16 (shapeCast S1024x2816 (m (c.tc.loc main_arg2) : FVec Ideal S1x1024x2816 .f32) shapeCasts_S1x1024x2816_S1024x2816) bitsLt_bf16_f32 : FVec Ideal S1024x2816 .bf16) := by
    dsimp only [V, hostOps0]; after_results; rfl
  exact (congrFun h _).trans (up_apply _ d f)

theorem v6 (c : Dev nD) (d : Fin 1024) (f : Fin 2816) : V m c main_v6 (ix2 d f) = m (c.tc.loc main_arg3) (ix3 0 d f) := by
  have h : V m c main_v6 = (truncf .bf16 (shapeCast S1024x2816 (m (c.tc.loc main_arg3) : FVec Ideal S1x1024x2816 .f32) shapeCasts_S1x1024x2816_S1024x2816) bitsLt_bf16_f32 : FVec Ideal S1024x2816 .bf16) := by
    dsimp only [V, hostOps0]; after_results; rfl
  exact (congrFun h _).trans (up_apply _ d f)

theorem v8 (c : Dev nD) (f : Fin 2816) (e : Fin 1024) : V m c main_v8 (ix2 f e) = m (c.tc.loc main_arg4) (ix3 0 f e) := by
  have h : V m c main_v8 = (truncf .bf16 (shapeCast S2816x1024 (m (c.tc.loc main_arg4) : FVec Ideal S1x2816x1024 .f32) shapeCasts_S1x2816x1024_S2816x1024) bitsLt_bf16_f32 : FVec Ideal S2816x1024 .bf16) := by
    dsimp only [V, hostOps0]; after_results; rfl
  exact (congrFun h _).trans (down_apply _ f e)

theorem v9 (c : Dev nD) (e : Fin 1024) : V m c main_v9 (ix2 0 e) = m (c.tc.loc main_arg5) (ix1 e) := by
  have h : V m c main_v9 = shapeCast S1x1024 (m (c.tc.loc main_arg5) : Vec Ideal S1024 .f32) shapeCasts_S1024_S1x1024 := by
    dsimp only [V, hostOps0]; after_results; rfl
  rw [h]
  pointwise

/-- What the call leaves in its result array, of the argument arrays. -/
def result (c : Dev nD) : Vec Ideal S32768x1024 .f32 := fun i =>
  ffnAll (fun b s d => m (c.tc.loc main_arg0) (ix3 b s d)) (fun d => m (c.tc.loc main_arg1) (ix2 0 d))
    (fun d f => m (c.tc.loc main_arg2) (ix3 0 d f)) (fun d f => m (c.tc.loc main_arg3) (ix3 0 d f))
    (fun f e => m (c.tc.loc main_arg4) (ix3 0 f e)) (fun e => m (c.tc.loc main_arg5) (ix1 e)) (i 0) (i 1)

theorem final (c : Dev nD) : (dats m 0 c).arrAt 6 cfg0.N = result m c := by
  refine (dats m 0 c).arrAt_eq_of_covers 6 (result m c) (by decide +kernel) (fun t hf y => ?_)
  blk_simp
  rw [after0_6]
  obtain ⟨e0, e1, e2, e3, e4, e5, e6⟩ := blocks t
  idx_vars y
  have ht : t.val < 32 := t.isLt
  have hG : (((View.whole main_v10).slice (win0_6.rect t)).emb (ix2 y0 y1)) = ix2 ⟨t.val * 1024 + y0.val, by omega⟩ y1 := by
    blk_ext [e6]
  have h0 : ∀ d, iblk m c 0 t (ix2 y0 d) = m (c.tc.loc main_arg0) (ix3 ⟨(t.val * 1024 + y0.val) / 4096, by omega⟩ ⟨(t.val * 1024 + y0.val) % 4096, by omega⟩ d) := by
    intro d
    refine Eq.trans (b := V m c main_v0 (ix2 ⟨t.val * 1024 + y0.val, by omega⟩ d)) ?_ (v0 m c _ d)
    blk_ext [iblk, e0]
  have h1 : ∀ d, iblk m c 1 t (ix2 0 d) = m (c.tc.loc main_arg1) (ix2 0 d) := by
    intro d
    refine Eq.trans (b := V m c main_v2 (ix2 0 d)) ?_ (v2 m c d)
    blk_ext [iblk, e1]
  have h2 : ∀ d f, iblk m c 2 t (ix2 d f) = m (c.tc.loc main_arg2) (ix3 0 d f) := by
    intro d f
    refine Eq.trans (b := V m c main_v4 (ix2 d f)) ?_ (v4 m c d f)
    blk_ext [iblk, e2]
  have h3 : ∀ d f, iblk m c 3 t (ix2 d f) = m (c.tc.loc main_arg3) (ix3 0 d f) := by
    intro d f
    refine Eq.trans (b := V m c main_v6 (ix2 d f)) ?_ (v6 m c d f)
    blk_ext [iblk, e3]
  have h4 : ∀ f d, iblk m c 4 t (ix2 f d) = m (c.tc.loc main_arg4) (ix3 0 f d) := by
    intro f d
    refine Eq.trans (b := V m c main_v8 (ix2 f d)) ?_ (v8 m c f d)
    blk_ext [iblk, e4]
  have h5 : ∀ d, iblk m c 5 t (ix2 0 d) = m (c.tc.loc main_arg5) (ix1 d) := by
    intro d
    refine Eq.trans (b := V m c main_v9 (ix2 0 d)) ?_ (v9 m c d)
    blk_ext [iblk, e5]
  rw [block, hG]
  simp only [h0, h1, h2, h3, h4, h5]
  rfl

end Cert.Ffn

end
-- ==== Proof.FfnReference.lean ====
/- The feed-forward's reference: its result array, row by row. -/
module

public import proofs.«01_k».proof.Proof.Rows
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.Ffn

open Cert.ReferenceIdeal Cert.ReferenceIdeal.Value Cert.Rows Idealize.ShloMosaic Idealize.ShloMosaic.TcCoe

variable (m : (ℓ : Loc nD τ sig) → Buf (Elt Ideal) ℓ)

/-- The reference's result at a row and a column. -/
theorem reference_apply (c : Dev nD) (R : Fin 32768) (e : Fin 1024) :
    res_out0 m c (ix2 R e)
      = ffnAll (fun b s d => m (c.tc.loc main_arg0) (ix3 b s d)) (fun d => m (c.tc.loc main_arg1) (ix2 0 d))
          (fun d f => m (c.tc.loc main_arg2) (ix3 0 d f)) (fun d f => m (c.tc.loc main_arg3) (ix3 0 d f))
          (fun f e => m (c.tc.loc main_arg4) (ix3 0 f e)) (fun e => m (c.tc.loc main_arg5) (ix1 e)) R e := by
  generalize hG : ffnAll _ _ _ _ _ _ R e = G
  unfold res_out0 res_main_v36
  clean_types
  pointwise
  subst hG
  simp only [ffnAll, ffnRow, ffnSum, Rows.hidden, Rows.logistic, rms]

end Cert.Ffn

end
-- ==== Proof.FfnClaims.lean ====
/- The claims about the feed-forward call. -/
module

public import proofs.«01_k».proof.Defs
public import proofs.«01_k».proof.Proof.FfnValue
public import proofs.«01_k».proof.Proof.FfnReference
public import proofs.«01_k».proof.Proof.Gen.Kernel.Frame

@[expose] public section

noncomputable section

namespace Cert.Ffn

open Cert.Rows Idealize.ShloMosaic Idealize.ShloMosaic.TcCoe Idealize.SL.Sem

theorem frame_p : Cert.quiescent_Kernel (hKernel := Cert.Kernel.Gen.facts) := fun m ρ _ => Cert.Kernel.Gen.frame m ρ

theorem frame_pi : Cert.quiescent_KernelIdeal (hKernelIdeal := Cert.KernelIdeal.Gen.facts) := fun m ρ _ => Cert.KernelIdeal.Gen.frame m ρ

theorem frame_ri : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal := trivial

/-- The two results at equal arguments. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' (c.tc.loc Cert.ReferenceIdeal.main_arg0) = m (c.tc.loc Cert.KernelIdeal.main_arg0))
    (h1 : m' (c.tc.loc Cert.ReferenceIdeal.main_arg1) = m (c.tc.loc Cert.KernelIdeal.main_arg1))
    (h2 : m' (c.tc.loc Cert.ReferenceIdeal.main_arg2) = m (c.tc.loc Cert.KernelIdeal.main_arg2))
    (h3 : m' (c.tc.loc Cert.ReferenceIdeal.main_arg3) = m (c.tc.loc Cert.KernelIdeal.main_arg3))
    (h4 : m' (c.tc.loc Cert.ReferenceIdeal.main_arg4) = m (c.tc.loc Cert.KernelIdeal.main_arg4))
    (h5 : m' (c.tc.loc Cert.ReferenceIdeal.main_arg5) = m (c.tc.loc Cert.KernelIdeal.main_arg5)) :
    Cert.ReferenceIdeal.Value.res_out0 m' c = result m c := by
  funext i
  have hi : i = ix2 (n0 := 32768) (n1 := 1024) (i 0) (i 1) := by funext a; fin_cases a <;> rfl
  rw [hi]
  refine (reference_apply m' c (i 0) (i 1)).trans ?_
  rw [h0, h1, h2, h3, h4, h5]
  rfl

theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => result m c, (θ_run Cert.KernelIdeal.defs _ _).mono (fun r h c => ⟨(h c).1.trans (final m c), (h c).2⟩)
      (Cert.KernelIdeal.Value.run_blocks (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  exact same m m' c h0 h1 h2 h3 h4 h5

end Cert.Ffn

end
-- ==== Proof.Reals.lean ====
/- Extended reals that are real numbers: what keeps them real, and the exchange of two sums of products, which holds there. -/
module

public import proofs.«01_k».proof.Proof.Rows

@[expose] public section

noncomputable section

namespace Cert.Rows

open Idealize.ShloMosaic

/-- An extended real that is a real number. -/
def IsR (a : EReal) : Prop := ∃ r : ℝ, a = r

theorem IsR.coe (r : ℝ) : IsR (r : EReal) := ⟨r, rfl⟩

theorem IsR.add {a b : EReal} (ha : IsR a) (hb : IsR b) : IsR (a + b) := by
  obtain ⟨r, rfl⟩ := ha; obtain ⟨s, rfl⟩ := hb; exact ⟨r + s, (EReal.coe_add r s).symm⟩

theorem IsR.mul {a b : EReal} (ha : IsR a) (hb : IsR b) : IsR (a * b) := by
  obtain ⟨r, rfl⟩ := ha; obtain ⟨s, rfl⟩ := hb; exact ⟨r * s, (EReal.coe_mul r s).symm⟩

theorem IsR.sub {a b : EReal} (ha : IsR a) (hb : IsR b) : IsR (a - b) := by
  obtain ⟨r, rfl⟩ := ha; obtain ⟨s, rfl⟩ := hb; exact ⟨r - s, (EReal.coe_sub r s).symm⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsR.sum {ι : Type*} (s : Finset ι) {f : ι → EReal} (h : ∀ i, IsR (f i)) : IsR (∑ i ∈ s, f i) := by
  choose r hr using h
  exact ⟨∑ i ∈ s, r i, by rw [coe_sum]; exact Finset.sum_congr rfl fun i _ => hr i⟩

theorem isR_of_abs_lt_top {a : EReal} (h : max a (-a) < ⊤) : IsR a := by
  induction a using EReal.rec with
  | bot => simp at h
  | coe r => exact ⟨r, rfl⟩
  | top => simp at h

/-- Two sums of products with real terms, exchanged. -/
theorem exchange {ι κ : Type*} [Fintype ι] [Fintype κ] {a : ι → EReal} {B : ι → κ → EReal} {c : κ → EReal}
    (ha : ∀ i, IsR (a i)) (hB : ∀ i k, IsR (B i k)) (hc : ∀ k, IsR (c k)) :
    ∑ k, (∑ i, a i * B i k) * c k = ∑ i, a i * ∑ k, B i k * c k := by
  choose a' ha using ha; choose B' hB using hB; choose c' hc using hc
  simp only [ha, hB, hc, ← EReal.coe_mul, ← coe_sum]
  congr 1
  simp only [Finset.sum_mul, Finset.mul_sum]
  rw [Finset.sum_comm]
  exact Finset.sum_congr rfl fun i _ => Finset.sum_congr rfl fun k _ => mul_assoc _ _ _

/-- A real factor moves into a sum of real terms. -/
theorem sum_mul_real {ι : Type*} [Fintype ι] {a : ι → EReal} {b : EReal} (ha : ∀ i, IsR (a i)) (hb : IsR b) :
    (∑ i, a i) * b = ∑ i, a i * b := by
  choose a' ha using ha; obtain ⟨b', rfl⟩ := hb
  simp only [ha, ← EReal.coe_mul, ← coe_sum]
  congr 1
  exact Finset.sum_mul ..

theorem ofBits_1024 : Ideal.ofBits .f32 0x44800000#32 = ((1024 : ℝ) : EReal) := by
  simp [Ideal.ofBits, Ideal.ieee]; rw [← EReal.coe_mul]; norm_num

theorem ofBits_sixteenth : Ideal.ofBits .f32 0x3D800000#32 = ((1 / 16 : ℝ) : EReal) := by
  simp [Ideal.ofBits, Ideal.ieee]; rw [← EReal.coe_mul]; norm_num

theorem ofBits_eps : ∃ r : ℝ, 0 < r ∧ Ideal.ofBits .f32 0x358637BD#32 = (r : EReal) := by
  refine ⟨8796093 / 2 ^ 43, by norm_num, ?_⟩
  simp [Ideal.ofBits, Ideal.ieee]; rw [← EReal.coe_mul]; norm_num

theorem IsR.rms {v g : Fin 1024 → EReal} (hv : ∀ d, IsR (v d)) (hg : ∀ d, IsR (g d)) (d : Fin 1024) : IsR (rms v g d) := by
  obtain ⟨ε, hε, he⟩ := ofBits_eps
  unfold Rows.rms
  refine IsR.mul (IsR.mul (hv d) ?_) (hg d)
  choose r hr using hv
  have h : Ideal.div (∑ k, v k * v k) (Ideal.ofBits .f32 0x44800000#32) + Ideal.ofBits .f32 0x358637BD#32
      = (((∑ k, r k * r k) * (1 / 1024) + ε : ℝ) : EReal) := by
    rw [ofBits_1024, he, Ideal.div_coe (by norm_num)]
    simp only [hr, ← EReal.coe_mul, ← coe_sum, ← EReal.coe_add]
  rw [h, Ideal.rsqrt_coe]
  have hp : 0 < (∑ k, r k * r k) * (1 / 1024) + ε := by
    have : 0 ≤ ∑ k, r k * r k := Finset.sum_nonneg fun k _ => mul_self_nonneg _
    positivity
  rw [if_neg (not_lt.mpr hp.le), if_neg hp.ne']
  exact ⟨_, rfl⟩

end Cert.Rows

end
-- ==== Proof.CrossRows.lean ====
/- The cross-attention row by row: as the problem writes it, and with the query weights folded into the keys and the
   output weights into the values; the two agree where the terms are real numbers. -/
module

public import proofs.«01_k».proof.Proof.Reals

@[expose] public section

noncomputable section

namespace Cert.Rows

open Idealize.ShloMosaic

/-- Column `j` of the head that column `c` belongs to. -/
def headCol (c : Fin 1024) (j : Fin 256) : Fin 1024 := ⟨c / 256 * 256 + j, by omega⟩

/-- A softmax of 256 scores. -/
def soft (s : Fin 256 → EReal) (k : Fin 256) : EReal :=
  Ideal.div (Ideal.exp (s k - Finset.fold max (Ideal.ofBits .f32 0xFF800000#32) s Finset.univ))
    (∑ j, Ideal.exp (s j - Finset.fold max (Ideal.ofBits .f32 0xFF800000#32) s Finset.univ))

/-- The softmaxes of four heads' scores. -/
def probs (s : Fin 1024 → EReal) (c : Fin 1024) : EReal := soft (fun j => s (headCol c j)) ⟨c % 256, by omega⟩

/-- A row's output from folded keys and values. -/
def foldedRow (x h : Fin 1024 → EReal) (qk vo : Fin 1024 → Fin 1024 → EReal) (e : Fin 1024) : EReal :=
  x e + ∑ c, probs (fun c => ∑ d, h d * qk d c) c * vo c e

section
variable (mb : Fin 256 → Fin 1024 → EReal) (wkv : Fin 1024 → Fin 2048 → EReal)

/-- Key column `c` of memory row `k`. -/
def keyAt (k : Fin 256) (c : Fin 1024) : EReal := ∑ d, mb k d * wkv d ⟨c, by omega⟩
/-- Value column `c` of memory row `k`. -/
def valAt (k : Fin 256) (c : Fin 1024) : EReal := ∑ d, mb k d * wkv d ⟨1024 + c, by omega⟩

/-- The query weights folded into the keys. -/
def foldKeys (wq : Fin 1024 → Fin 1024 → EReal) (d c : Fin 1024) : EReal :=
  (∑ j : Fin 256, wq d (headCol c j) * keyAt mb wkv ⟨c % 256, by omega⟩ (headCol c j)) * Ideal.ofBits .f32 0x3D800000#32
/-- The output weights folded into the values. -/
def foldVals (wo : Fin 1024 → Fin 1024 → EReal) (c e : Fin 1024) : EReal :=
  ∑ j : Fin 256, valAt mb wkv ⟨c % 256, by omega⟩ (headCol c j) * wo (headCol c j) e

/-- A row's output as the problem writes it. -/
def crossRow (x h : Fin 1024 → EReal) (wq wo : Fin 1024 → Fin 1024 → EReal) (e : Fin 1024) : EReal :=
  x e + ∑ c : Fin 1024,
    (∑ k, soft (fun k => (∑ j : Fin 256, (∑ d, h d * wq d (headCol c j)) * keyAt mb wkv k (headCol c j))
        * Ideal.ofBits .f32 0x3D800000#32) k * valAt mb wkv k c) * wo c e
end

theorem max_fold {ι : Type*} (b : EReal) (f : ι → EReal) (s : Finset ι) : max b (Finset.fold max b f s) = Finset.fold max b f s :=
  max_eq_right ((Finset.le_fold_max b).mpr (Or.inl le_rfl))

theorem fold_mem {ι : Type*} (b : EReal) (f : ι → EReal) (s : Finset ι) : Finset.fold max b f s = b ∨ ∃ i, Finset.fold max b f s = f i := by
  classical
  induction s using Finset.induction_on with
  | empty => exact Or.inl rfl
  | insert a s ha ih =>
    rw [Finset.fold_insert ha]
    rcases max_choice (f a) (Finset.fold max b f s) with h | h
    · exact Or.inr ⟨a, h⟩
    · rw [h]; exact ih

theorem ofBits_bot : Ideal.ofBits .f32 0xFF800000#32 = ⊥ := by
  simp [Ideal.ofBits, Ideal.ieee]

/-- The largest of real numbers is real. -/
theorem IsR.fold {s : Fin 256 → EReal} (h : ∀ k, IsR (s k)) : IsR (Finset.fold max (Ideal.ofBits .f32 0xFF800000#32) s Finset.univ) := by
  rw [ofBits_bot]
  rcases fold_mem ⊥ s Finset.univ with e | ⟨i, e⟩
  · have h0 : s 0 ≤ Finset.fold max ⊥ s Finset.univ := (Finset.le_fold_max _).mpr (Or.inr ⟨0, Finset.mem_univ _, le_rfl⟩)
    rw [e] at h0
    obtain ⟨r, hr⟩ := h 0
    rw [hr] at h0
    exact absurd h0 (by simp)
  · rw [e]; exact h i

/-- A softmax of real scores is real. -/
theorem IsR.soft {s : Fin 256 → EReal} (h : ∀ k, IsR (s k)) (k : Fin 256) : IsR (soft s k) := by
  obtain ⟨f, hf⟩ := IsR.fold h
  choose r hr using h
  unfold Rows.soft
  rw [hf]
  simp only [hr, ← EReal.coe_sub, Ideal.exp_coe, ← coe_sum]
  rw [Ideal.div_coe (Finset.sum_pos (fun j _ => Real.exp_pos _) ⟨0, Finset.mem_univ _⟩).ne']
  exact ⟨_, rfl⟩

/-- Column `j` of head `n`. -/
def col (n : Fin 4) (j : Fin 256) : Fin 1024 := ⟨n * 256 + j, by omega⟩

theorem headCol_col (n : Fin 4) (k j : Fin 256) : headCol (col n k) j = col n j :=
  Fin.ext (by show ((n : ℕ) * 256 + k) / 256 * 256 + j = n * 256 + j; omega)

theorem col_mod (n : Fin 4) (k : Fin 256) (h : (col n k : ℕ) % 256 < 256) : (⟨(col n k : ℕ) % 256, h⟩ : Fin 256) = k :=
  Fin.ext (by show ((n : ℕ) * 256 + k) % 256 = k; omega)

theorem sum_heads (F : Fin 1024 → EReal) : ∑ c, F c = ∑ n : Fin 4, ∑ k : Fin 256, F (col n k) := by
  rw [Fin.sum_univ_tiles 4 256 (by decide)]
  rfl

section
variable {mb : Fin 256 → Fin 1024 → EReal} {wkv : Fin 1024 → Fin 2048 → EReal} {wq wo : Fin 1024 → Fin 1024 → EReal} {h : Fin 1024 → EReal}
  (hmb : ∀ k d, IsR (mb k d)) (hkv : ∀ d j, IsR (wkv d j)) (hwq : ∀ d j, IsR (wq d j)) (hwo : ∀ j e, IsR (wo j e)) (hh : ∀ d, IsR (h d))
include hmb hkv hwq hh

theorem folded_scores (n : Fin 4) (k : Fin 256) : ∑ d, h d * foldKeys mb wkv wq d (col n k)
    = (∑ j, (∑ d, h d * wq d (col n j)) * keyAt mb wkv k (col n j)) * Ideal.ofBits .f32 0x3D800000#32 := by
  have hk : ∀ j, IsR (keyAt mb wkv k (col n j)) := fun j => IsR.sum _ fun d => (hmb k d).mul (hkv d _)
  have hz : IsR (Ideal.ofBits .f32 0x3D800000#32) := by rw [ofBits_sixteenth]; exact ⟨_, rfl⟩
  rw [exchange hh (fun d j => hwq d (col n j)) hk, sum_mul_real (fun d => (hh d).mul (IsR.sum _ fun j => (hwq d _).mul (hk j))) hz]
  refine Finset.sum_congr rfl fun d _ => ?_
  unfold foldKeys
  rw [mul_assoc]
  simp only [headCol_col, col_mod]

include hwo in
/-- The two forms of a row agree over the reals. -/
theorem folded_eq (x : Fin 1024 → EReal) (e : Fin 1024) :
    foldedRow x h (foldKeys mb wkv wq) (foldVals mb wkv wo) e = crossRow mb wkv x h wq wo e := by
  have hk : ∀ k j, IsR (keyAt mb wkv k j) := fun k j => IsR.sum _ fun d => (hmb k d).mul (hkv d _)
  have hv : ∀ k j, IsR (valAt mb wkv k j) := fun k j => IsR.sum _ fun d => (hmb k d).mul (hkv d _)
  have hz : IsR (Ideal.ofBits .f32 0x3D800000#32) := by rw [ofBits_sixteenth]; exact ⟨_, rfl⟩
  unfold foldedRow crossRow
  refine congrArg (x e + ·) ?_
  rw [sum_heads, sum_heads]
  refine Finset.sum_congr rfl fun n _ => ?_
  have hs : ∀ k, IsR ((∑ j, (∑ d, h d * wq d (col n j)) * keyAt mb wkv k (col n j)) * Ideal.ofBits .f32 0x3D800000#32) := fun k =>
    (IsR.sum _ fun j => (IsR.sum _ fun d => (hh d).mul (hwq d _)).mul (hk k _)).mul hz
  unfold probs foldVals
  simp only [headCol_col, col_mod, folded_scores hmb hkv hwq hh]
  exact (exchange (fun k => IsR.soft hs k) (fun k j => hv k (col n j)) (fun j => hwo (col n j) e)).symm

end

end Cert.Rows

end
-- ==== Proof.CrossKernel.lean ====
/- The cross-attention kernel's stored values, entry by entry: the folded keys and values, the four softmaxes of a row
   part, and the row part's output. -/
module

public import proofs.«01_k».proof.Proof.CrossRows
public import proofs.«01_k».proof.Proof.Gen.Kernel2Ideal.Skeleton
public import Idealize.ShloMosaic.Lib.Pointwise
public import Idealize.ShloMosaic.Lib.Pipeline.ValueKit

@[expose] public section

set_option maxRecDepth 16384

noncomputable section

namespace Cert.Cross

open Cert.Kernel2Ideal Cert.Kernel2Ideal.Gen Cert.Rows Idealize.ShloMosaic Idealize.ShloMosaic.TcCoe

/-! The softmax of one head's 256 scores, as each row part writes it. -/

variable (S : FVec Ideal S256x1024 .f32) (r k : Fin 256)

theorem soft0_1 : k0_pay24 S (ix2 r k) = soft (fun j => S (ix2 r ⟨256 + j, by omega⟩)) k := by pointwise [k0_pay24, soft]
theorem soft0_2 : k0_pay25 S (ix2 r k) = soft (fun j => S (ix2 r ⟨512 + j, by omega⟩)) k := by pointwise [k0_pay25, soft]
theorem soft0_3 : k0_pay26 S (ix2 r k) = soft (fun j => S (ix2 r ⟨768 + j, by omega⟩)) k := by pointwise [k0_pay26, soft]
theorem soft1_0 : k0_pay30 (k0_pay29 S) (ix2 r k) = soft (fun j => S (ix2 r ⟨j, by omega⟩)) k := by
  pointwise [k0_pay30, k0_pay29, soft]
theorem soft1_1 : k0_pay31 S (ix2 r k) = soft (fun j => S (ix2 r ⟨256 + j, by omega⟩)) k := by pointwise [k0_pay31, soft]
theorem soft1_2 : k0_pay32 S (ix2 r k) = soft (fun j => S (ix2 r ⟨512 + j, by omega⟩)) k := by pointwise [k0_pay32, soft]
theorem soft1_3 : k0_pay34 (k0_pay33 S) (ix2 r k) = soft (fun j => S (ix2 r ⟨768 + j, by omega⟩)) k := by
  pointwise [k0_pay34, k0_pay33, soft]
theorem soft2_0 : k0_pay39 (k0_pay37 S) (k0_pay38 S) (ix2 r k) = soft (fun j => S (ix2 r ⟨j, by omega⟩)) k := by
  pointwise [k0_pay39, k0_pay37, k0_pay38, soft]
theorem soft2_1 : k0_pay40 S (ix2 r k) = soft (fun j => S (ix2 r ⟨256 + j, by omega⟩)) k := by pointwise [k0_pay40, soft]
theorem soft2_2 : k0_pay41 S (ix2 r k) = soft (fun j => S (ix2 r ⟨512 + j, by omega⟩)) k := by pointwise [k0_pay41, soft]
theorem soft2_3 : k0_pay43 (k0_pay42 S) (ix2 r k) = soft (fun j => S (ix2 r ⟨768 + j, by omega⟩)) k := by
  pointwise [k0_pay43, k0_pay42, soft]
theorem soft3_0 : k0_pay45 S (ix2 r k) = soft (fun j => S (ix2 r ⟨j, by omega⟩)) k := by pointwise [k0_pay45, soft]
theorem soft3_1 : k0_pay48 (k0_pay46 S) (k0_pay47 S) (ix2 r k) = soft (fun j => S (ix2 r ⟨256 + j, by omega⟩)) k := by
  pointwise [k0_pay48, k0_pay46, k0_pay47, soft]
theorem soft3_2 : k0_pay49 S (ix2 r k) = soft (fun j => S (ix2 r ⟨512 + j, by omega⟩)) k := by pointwise [k0_pay49, soft]
theorem soft3_3 : k0_pay50 S (ix2 r k) = soft (fun j => S (ix2 r ⟨768 + j, by omega⟩)) k := by pointwise [k0_pay50, soft]

/-! The scores of a row part. -/

variable (x : Vec Ideal S1x256x1024 .f32) (g : Vec Ideal S1x1024 .f32) (qk vo : Vec Ideal S1024x1024 .bf16)

/-- The scores of row `r` against the folded keys. -/
abbrev scoreAt (c : Fin 1024) : EReal :=
  ∑ d, rms (fun d => x (ix3 0 r d)) (fun d => g (ix2 0 d)) d * qk (ix2 d c)

theorem scores0 (c : Fin 1024) : k0_pay21 (k0_pay18 x) (k0_pay19 g) (k0_pay20 x) qk (ix2 r c) = scoreAt r x g qk c := by
  pointwise [k0_pay21, k0_pay18, k0_pay19, k0_pay20, scoreAt, rms]
theorem scores1 (c : Fin 1024) : k0_pay22 x g qk (ix2 r c) = scoreAt r x g qk c := by pointwise [k0_pay22, scoreAt, rms]
theorem scores2 (c : Fin 1024) : k0_pay28 x g qk (ix2 r c) = scoreAt r x g qk c := by pointwise [k0_pay28, scoreAt, rms]
theorem scores3 (c : Fin 1024) : k0_pay36 x g qk (ix2 r c) = scoreAt r x g qk c := by pointwise [k0_pay36, scoreAt, rms]

theorem soft0_0 : k0_pay23 (k0_pay18 x) (k0_pay19 g) (k0_pay20 x) qk (ix2 r k)
    = soft (fun j => k0_pay21 (k0_pay18 x) (k0_pay19 g) (k0_pay20 x) qk (ix2 r ⟨j, by omega⟩)) k := by
  pointwise [k0_pay23, k0_pay21, soft]

/-! A row part's output, from its softmaxes `P`. -/

variable (P : Vec Ideal S256x1024 .bf16) (e : Fin 1024)

theorem leave0 : k0_pay27 x P vo (ix3 0 r e) = x (ix3 0 r e) + ∑ c, P (ix2 r c) * vo (ix2 c e) := by pointwise [k0_pay27]
theorem leave1 : k0_pay35 x P vo (ix3 0 r e) = x (ix3 0 r e) + ∑ c, P (ix2 r c) * vo (ix2 c e) := by pointwise [k0_pay35]
theorem leave2 : k0_pay44 x P vo (ix3 0 r e) = x (ix3 0 r e) + ∑ c, P (ix2 r c) * vo (ix2 c e) := by pointwise [k0_pay44]
theorem leave3 : k0_pay1 (k0_pay51 x) P vo (constant S256x1024 .f32 0x00000000#32) (ix3 0 r e)
    = x (ix3 0 r e) + ∑ c, P (ix2 r c) * vo (ix2 c e) := by pointwise [k0_pay1, k0_pay51]

section
variable {Val : EltTy → Type} [∀ e, Nonempty (Val e)] {T : Shape} {φ : EltTy}

/-- A place inside the last piece stored reads that piece. -/
theorem canon_hit {off size : Fin T.rank → ℕ} (inb : ∀ a, off a + size a ≤ T.size a)
    (w : (Rect.unit off size inb).shape.Idx → Val φ) (L : List (View.Piece Val T φ)) (y : T.Idx)
    (i : (Rect.unit off size inb).shape.Idx) (h : ∀ a, (y a : ℕ) = off a + (i a : ℕ)) :
    View.canon ((⟨Rect.unit off size inb, w⟩ : View.Piece Val T φ) :: L) y = w i := by
  have e : y = (Rect.unit off size inb).emb i := by
    funext a
    refine Fin.ext ?_
    rw [Rect.emb_apply]
    show (y a : ℕ) = off a + 1 * (i a : ℕ)
    rw [h a, one_mul]
  rw [e, View.canon_cons_emb]

/-- A place off the last piece stored reads the earlier ones. -/
theorem canon_miss {off size : Fin T.rank → ℕ} (inb : ∀ a, off a + size a ≤ T.size a)
    (w : (Rect.unit off size inb).shape.Idx → Val φ) (L : List (View.Piece Val T φ)) (y : T.Idx)
    (a : Fin T.rank) (h : (y a : ℕ) < off a ∨ off a + size a ≤ (y a : ℕ)) :
    View.canon ((⟨Rect.unit off size inb, w⟩ : View.Piece Val T φ) :: L) y = View.canon L y :=
  View.canon_cons_of_not_mem _ _ fun hm => by
    have := (Rect.mem_set_unit (inb := inb)).mp hm a
    omega
end

/-- Four heads' softmaxes stored side by side: the softmaxes of the row's scores. -/
theorem probs_apply (o : ℕ) (i0 : ∀ a, ![o, 0] a + ![256, 256] a ≤ S1024x1024.size a) (i1 : ∀ a, ![o, 256] a + ![256, 256] a ≤ S1024x1024.size a)
    (i2 : ∀ a, ![o, 512] a + ![256, 256] a ≤ S1024x1024.size a) (i3 : ∀ a, ![o, 768] a + ![256, 256] a ≤ S1024x1024.size a)
    (P0 P1 P2 P3 : Vec Ideal S256x256 .bf16)
    (h0 : ∀ r k, P0 (ix2 r k) = soft (fun j => S (ix2 r ⟨j, by omega⟩)) k)
    (h1 : ∀ r k, P1 (ix2 r k) = soft (fun j => S (ix2 r ⟨256 + j, by omega⟩)) k)
    (h2 : ∀ r k, P2 (ix2 r k) = soft (fun j => S (ix2 r ⟨512 + j, by omega⟩)) k)
    (h3 : ∀ r k, P3 (ix2 r k) = soft (fun j => S (ix2 r ⟨768 + j, by omega⟩)) k)
    (L : List (View.Piece (Elt Ideal) S1024x1024 .bf16)) (y : S1024x1024.Idx) (c : Fin 1024)
    (hr : (y 0 : ℕ) = o + r) (hc : (y 1 : ℕ) = c) :
    View.canon ((⟨Rect.unit ![o, 768] ![256, 256] i3, P3⟩ : View.Piece (Elt Ideal) S1024x1024 .bf16)
        :: ⟨Rect.unit ![o, 512] ![256, 256] i2, P2⟩
        :: ⟨Rect.unit ![o, 256] ![256, 256] i1, P1⟩
        :: ⟨Rect.unit ![o, 0] ![256, 256] i0, P0⟩ :: L) y
      = probs (fun c => S (ix2 r c)) c := by
  have hit : ∀ (q : ℕ) (P : Vec Ideal S256x256 .bf16) (hq : q = c / 256 * 256)
      (_ : ∀ r k, P (ix2 r k) = soft (fun j => S (ix2 r ⟨q + j, by omega⟩)) k),
      P (ix2 r ⟨c % 256, by omega⟩) = probs (fun c => S (ix2 r c)) c := by
    intro q P hq hP
    subst hq
    rw [hP]
    rfl
  by_cases c3 : 768 ≤ (c : ℕ)
  · rw [canon_hit (off := ![o, 768]) (size := ![256, 256]) i3 _ _ y (ix2 r ⟨c % 256, by omega⟩)
      (Fin.forall_fin_two.mpr ⟨hr, by rw [hc]; show (c : ℕ) = 768 + c % 256; omega⟩)]
    exact hit 768 P3 (by omega) h3
  rw [canon_miss (off := ![o, 768]) (size := ![256, 256]) i3 _ _ y 1 (by left; rw [hc]; show (c : ℕ) < 768; omega)]
  by_cases c2 : 512 ≤ (c : ℕ)
  · rw [canon_hit (off := ![o, 512]) (size := ![256, 256]) i2 _ _ y (ix2 r ⟨c % 256, by omega⟩)
      (Fin.forall_fin_two.mpr ⟨hr, by rw [hc]; show (c : ℕ) = 512 + c % 256; omega⟩)]
    exact hit 512 P2 (by omega) h2
  rw [canon_miss (off := ![o, 512]) (size := ![256, 256]) i2 _ _ y 1 (by left; rw [hc]; show (c : ℕ) < 512; omega)]
  by_cases c1 : 256 ≤ (c : ℕ)
  · rw [canon_hit (off := ![o, 256]) (size := ![256, 256]) i1 _ _ y (ix2 r ⟨c % 256, by omega⟩)
      (Fin.forall_fin_two.mpr ⟨hr, by rw [hc]; show (c : ℕ) = 256 + c % 256; omega⟩)]
    exact hit 256 P1 (by omega) h1
  rw [canon_miss (off := ![o, 256]) (size := ![256, 256]) i1 _ _ y 1 (by left; rw [hc]; show (c : ℕ) < 256; omega)]
  rw [canon_hit (off := ![o, 0]) (size := ![256, 256]) i0 _ _ y (ix2 r ⟨c % 256, by omega⟩)
      (Fin.forall_fin_two.mpr ⟨hr, by rw [hc]; show (c : ℕ) = 0 + c % 256; omega⟩)]
  exact hit 0 P0 (by omega) (by simpa using h0)

/-- Rows `o` and on of a block, as loaded. -/
theorem rows_at (X : Vec Ideal S1x1024x1024 .f32) (o : ℕ) (io : ∀ a, ![0, o, 0] a + ![1, 256, 1024] a ≤ S1x1024x1024.size a)
    (s d : Fin 1024) (hs : (s : ℕ) = o + r) : View.ld X (Rect.unit ![0, o, 0] ![1, 256, 1024] io) (ix3 0 r d) = X (ix3 0 s d) := by
  refine congrArg X (funext fun a => Fin.ext ?_)
  match a with
  | ⟨0, _⟩ => rfl
  | ⟨1, _⟩ => show o + 1 * (r : ℕ) = s; omega
  | ⟨2, _⟩ => show 0 + 1 * (d : ℕ) = d; omega

/-- A row part's output row, from what its softmaxes and its scores are. -/
theorem part_row (X : Vec Ideal S1x1024x1024 .f32) (s : Fin 1024)
    (hx : ∀ d, x (ix3 0 r d) = X (ix3 0 s d)) (hS : ∀ c, S (ix2 r c) = scoreAt r x g qk c)
    (hP : ∀ c, P (ix2 r c) = probs (fun c => S (ix2 r c)) c) :
    x (ix3 0 r e) + ∑ c, P (ix2 r c) * vo (ix2 c e)
      = foldedRow (fun d => X (ix3 0 s d)) (rms (fun d => X (ix3 0 s d)) (fun d => g (ix2 0 d)))
          (fun d c => qk (ix2 d c)) (fun c e => vo (ix2 c e)) e := by
  simp only [foldedRow, hP, hS, hx, scoreAt]

/-! The folded keys and values, head by head. -/

section
variable (mb : Vec Ideal S1x256x1024 .f32) (gm : Vec Ideal S1x1024 .f32) (W : Vec Ideal S1024x1024 .bf16)
  (Q : Vec Ideal S1024x256 .bf16) (O : Vec Ideal S256x1024 .bf16) (d e : Fin 1024) (k : Fin 256)

/-- Memory row `k`, normed, times column `c`. -/
abbrev memCol (c : Fin 1024) : EReal := ∑ d, rms (fun d => mb (ix3 0 k d)) (fun d => gm (ix2 0 d)) d * W (ix2 d c)

theorem keys0 : k0_pay5 mb gm W Q (ix2 d k)
    = (∑ j, Q (ix2 d j) * memCol mb gm W k ⟨j, by omega⟩) * Ideal.ofBits .f32 0x3D800000#32 := by
  pointwise [k0_pay5, k0_pay3, k0_pay2, memCol, rms]
theorem keys1 : k0_pay8 (k0_pay3 mb gm W) Q (ix2 d k)
    = (∑ j, Q (ix2 d j) * memCol mb gm W k ⟨256 + j, by omega⟩) * Ideal.ofBits .f32 0x3D800000#32 := by
  pointwise [k0_pay8, k0_pay3, k0_pay2, memCol, rms]
theorem keys2 : k0_pay10 (k0_pay3 mb gm W) Q (ix2 d k)
    = (∑ j, Q (ix2 d j) * memCol mb gm W k ⟨512 + j, by omega⟩) * Ideal.ofBits .f32 0x3D800000#32 := by
  pointwise [k0_pay10, k0_pay3, k0_pay2, memCol, rms]
theorem keys3 : k0_pay16 (k0_pay3 mb gm W) Q (ix2 d k)
    = (∑ j, Q (ix2 d j) * memCol mb gm W k ⟨768 + j, by omega⟩) * Ideal.ofBits .f32 0x3D800000#32 := by
  pointwise [k0_pay16, k0_pay3, k0_pay2, memCol, rms]
theorem vals0 : k0_pay7 (k0_pay6 mb gm W) O (ix2 k e)
    = ∑ j : Fin 256, memCol mb gm W k ⟨j, by omega⟩ * O (ix2 j e) := by
  pointwise [k0_pay7, k0_pay6, k0_pay4, k0_pay2, memCol, rms]
theorem vals1 : k0_pay9 (k0_pay4 mb gm W) O (ix2 k e)
    = ∑ j : Fin 256, memCol mb gm W k ⟨256 + j, by omega⟩ * O (ix2 j e) := by
  pointwise [k0_pay9, k0_pay4, k0_pay2, memCol, rms]
theorem vals2 : k0_pay15 (k0_pay11 (k0_pay4 mb gm W)) O (ix2 k e)
    = ∑ j : Fin 256, memCol mb gm W k ⟨512 + j, by omega⟩ * O (ix2 j e) := by
  pointwise [k0_pay15, k0_pay11, k0_pay4, k0_pay2, memCol, rms]
theorem vals3 : k0_pay17 (k0_pay4 mb gm W) O (ix2 k e)
    = ∑ j : Fin 256, memCol mb gm W k ⟨768 + j, by omega⟩ * O (ix2 j e) := by
  pointwise [k0_pay17, k0_pay4, k0_pay2, memCol, rms]
end

/-- The folded keys stored head by head, side by side. -/
theorem keys_apply (f : Fin 1024 → Fin 1024 → EReal) (P0 P1 P2 P3 : Vec Ideal S1024x256 .bf16)
    (h0 : ∀ b k, P0 (ix2 b k) = f b ⟨k, by omega⟩)
    (h1 : ∀ b k, P1 (ix2 b k) = f b ⟨256 + k, by omega⟩)
    (h2 : ∀ b k, P2 (ix2 b k) = f b ⟨512 + k, by omega⟩)
    (h3 : ∀ b k, P3 (ix2 b k) = f b ⟨768 + k, by omega⟩)
    (y : S1024x1024.Idx) (b c : Fin 1024) (hb : (y 0 : ℕ) = b) (hc : (y 1 : ℕ) = c) :
    View.canon [(⟨Rect.unit ![0, 768] ![1024, 256] inb_S1024x1024_S1024x256_0_768, P3⟩ : View.Piece (Elt Ideal) S1024x1024 .bf16),
        ⟨Rect.unit ![0, 512] ![1024, 256] inb_S1024x1024_S1024x256_0_512, P2⟩, ⟨Rect.unit ![0, 256] ![1024, 256] inb_S1024x1024_S1024x256_0_256, P1⟩, ⟨Rect.unit ![0, 0] ![1024, 256] inb_S1024x1024_S1024x256_0_0, P0⟩] y
      = f b c := by
  by_cases c3 : 768 ≤ (c : ℕ)
  · rw [canon_hit (off := ![0, 768]) (size := ![1024, 256]) inb_S1024x1024_S1024x256_0_768 _ _ y (ix2 b ⟨c % 256, by omega⟩)
      (Fin.forall_fin_two.mpr ⟨by rw [hb]; exact (zero_add _).symm, by rw [hc]; show (c : ℕ) = 768 + c % 256; omega⟩), h3]
    exact congrArg (f b) (Fin.ext (by show 768 + (c : ℕ) % 256 = (c : ℕ); omega))
  rw [canon_miss (off := ![0, 768]) (size := ![1024, 256]) inb_S1024x1024_S1024x256_0_768 _ _ y 1 (by left; rw [hc]; show (c : ℕ) < 768; omega)]
  by_cases c2 : 512 ≤ (c : ℕ)
  · rw [canon_hit (off := ![0, 512]) (size := ![1024, 256]) inb_S1024x1024_S1024x256_0_512 _ _ y (ix2 b ⟨c % 256, by omega⟩)
      (Fin.forall_fin_two.mpr ⟨by rw [hb]; exact (zero_add _).symm, by rw [hc]; show (c : ℕ) = 512 + c % 256; omega⟩), h2]
    exact congrArg (f b) (Fin.ext (by show 512 + (c : ℕ) % 256 = (c : ℕ); omega))
  rw [canon_miss (off := ![0, 512]) (size := ![1024, 256]) inb_S1024x1024_S1024x256_0_512 _ _ y 1 (by left; rw [hc]; show (c : ℕ) < 512; omega)]
  by_cases c1 : 256 ≤ (c : ℕ)
  · rw [canon_hit (off := ![0, 256]) (size := ![1024, 256]) inb_S1024x1024_S1024x256_0_256 _ _ y (ix2 b ⟨c % 256, by omega⟩)
      (Fin.forall_fin_two.mpr ⟨by rw [hb]; exact (zero_add _).symm, by rw [hc]; show (c : ℕ) = 256 + c % 256; omega⟩), h1]
    exact congrArg (f b) (Fin.ext (by show 256 + (c : ℕ) % 256 = (c : ℕ); omega))
  rw [canon_miss (off := ![0, 256]) (size := ![1024, 256]) inb_S1024x1024_S1024x256_0_256 _ _ y 1 (by left; rw [hc]; show (c : ℕ) < 256; omega)]
  rw [canon_hit (off := ![0, 0]) (size := ![1024, 256]) inb_S1024x1024_S1024x256_0_0 _ _ y (ix2 b ⟨c % 256, by omega⟩)
      (Fin.forall_fin_two.mpr ⟨by rw [hb]; exact (zero_add _).symm, by rw [hc]; show (c : ℕ) = 0 + c % 256; omega⟩), h0]
  exact congrArg (f b) (Fin.ext (by show (c : ℕ) % 256 = (c : ℕ); omega))

/-- The folded values stored head by head, side by side. -/
theorem vals_apply (f : Fin 1024 → Fin 1024 → EReal) (P0 P1 P2 P3 : Vec Ideal S256x1024 .bf16)
    (h0 : ∀ b k, P0 (ix2 k b) = f ⟨k, by omega⟩ b)
    (h1 : ∀ b k, P1 (ix2 k b) = f ⟨256 + k, by omega⟩ b)
    (h2 : ∀ b k, P2 (ix2 k b) = f ⟨512 + k, by omega⟩ b)
    (h3 : ∀ b k, P3 (ix2 k b) = f ⟨768 + k, by omega⟩ b)
    (y : S1024x1024.Idx) (b c : Fin 1024) (hb : (y 1 : ℕ) = b) (hc : (y 0 : ℕ) = c) :
    View.canon [(⟨Rect.unit ![768, 0] ![256, 1024] inb_S1024x1024_S256x1024_768_0, P3⟩ : View.Piece (Elt Ideal) S1024x1024 .bf16),
        ⟨Rect.unit ![512, 0] ![256, 1024] inb_S1024x1024_S256x1024_512_0, P2⟩, ⟨Rect.unit ![256, 0] ![256, 1024] inb_S1024x1024_S256x1024_256_0, P1⟩, ⟨Rect.unit ![0, 0] ![256, 1024] inb_S1024x1024_S256x1024_0_0, P0⟩] y
      = f c b := by
  by_cases c3 : 768 ≤ (c : ℕ)
  · rw [canon_hit (off := ![768, 0]) (size := ![256, 1024]) inb_S1024x1024_S256x1024_768_0 _ _ y (ix2 ⟨c % 256, by omega⟩ b)
      (Fin.forall_fin_two.mpr ⟨by rw [hc]; show (c : ℕ) = 768 + c % 256; omega, by rw [hb]; exact (zero_add _).symm⟩), h3]
    exact congrArg (fun q => f q b) (Fin.ext (by show 768 + (c : ℕ) % 256 = (c : ℕ); omega))
  rw [canon_miss (off := ![768, 0]) (size := ![256, 1024]) inb_S1024x1024_S256x1024_768_0 _ _ y 0 (by left; rw [hc]; show (c : ℕ) < 768; omega)]
  by_cases c2 : 512 ≤ (c : ℕ)
  · rw [canon_hit (off := ![512, 0]) (size := ![256, 1024]) inb_S1024x1024_S256x1024_512_0 _ _ y (ix2 ⟨c % 256, by omega⟩ b)
      (Fin.forall_fin_two.mpr ⟨by rw [hc]; show (c : ℕ) = 512 + c % 256; omega, by rw [hb]; exact (zero_add _).symm⟩), h2]
    exact congrArg (fun q => f q b) (Fin.ext (by show 512 + (c : ℕ) % 256 = (c : ℕ); omega))
  rw [canon_miss (off := ![512, 0]) (size := ![256, 1024]) inb_S1024x1024_S256x1024_512_0 _ _ y 0 (by left; rw [hc]; show (c : ℕ) < 512; omega)]
  by_cases c1 : 256 ≤ (c : ℕ)
  · rw [canon_hit (off := ![256, 0]) (size := ![256, 1024]) inb_S1024x1024_S256x1024_256_0 _ _ y (ix2 ⟨c % 256, by omega⟩ b)
      (Fin.forall_fin_two.mpr ⟨by rw [hc]; show (c : ℕ) = 256 + c % 256; omega, by rw [hb]; exact (zero_add _).symm⟩), h1]
    exact congrArg (fun q => f q b) (Fin.ext (by show 256 + (c : ℕ) % 256 = (c : ℕ); omega))
  rw [canon_miss (off := ![256, 0]) (size := ![256, 1024]) inb_S1024x1024_S256x1024_256_0 _ _ y 0 (by left; rw [hc]; show (c : ℕ) < 256; omega)]
  rw [canon_hit (off := ![0, 0]) (size := ![256, 1024]) inb_S1024x1024_S256x1024_0_0 _ _ y (ix2 ⟨c % 256, by omega⟩ b)
      (Fin.forall_fin_two.mpr ⟨by rw [hc]; show (c : ℕ) = 0 + c % 256; omega, by rw [hb]; exact (zero_add _).symm⟩), h0]
  exact congrArg (fun q => f q b) (Fin.ext (by show (c : ℕ) % 256 = (c : ℕ); omega))

/-! Slices of the weights, as loaded. -/

theorem cols_at (X : Vec Ideal S1024x1024 .bf16) (o : ℕ) (io : ∀ a, ![0, o] a + ![1024, 256] a ≤ S1024x1024.size a)
    (d q : Fin 1024) (j : Fin 256) (h : (q : ℕ) = o + j) :
    View.ld X (Rect.unit ![0, o] ![1024, 256] io) (ix2 d j) = X (ix2 d q) := by
  refine congrArg X (funext fun a => Fin.ext ?_)
  match a with
  | ⟨0, _⟩ => show 0 + 1 * (d : ℕ) = d; omega
  | ⟨1, _⟩ => show o + 1 * (j : ℕ) = q; omega

theorem head_at (X : Vec Ideal S1024x1024 .bf16) (o : ℕ) (io : ∀ a, ![o, 0] a + ![256, 1024] a ≤ S1024x1024.size a)
    (e q : Fin 1024) (j : Fin 256) (h : (q : ℕ) = o + j) :
    View.ld X (Rect.unit ![o, 0] ![256, 1024] io) (ix2 j e) = X (ix2 q e) := by
  refine congrArg X (funext fun a => Fin.ext ?_)
  match a with
  | ⟨0, _⟩ => show o + 1 * (j : ℕ) = q; omega
  | ⟨1, _⟩ => show 0 + 1 * (e : ℕ) = e; omega

theorem half_at (X : Vec Ideal S1024x2048 .bf16) (o : ℕ) (io : ∀ a, ![0, o] a + ![1024, 1024] a ≤ S1024x2048.size a)
    (d j : Fin 1024) (q : Fin 2048) (h : (q : ℕ) = o + j) :
    View.ld X (Rect.unit ![0, o] ![1024, 1024] io) (ix2 d j) = X (ix2 d q) := by
  refine congrArg X (funext fun a => Fin.ext ?_)
  match a with
  | ⟨0, _⟩ => show 0 + 1 * (d : ℕ) = d; omega
  | ⟨1, _⟩ => show o + 1 * (j : ℕ) = q; omega

section
variable (mb : Vec Ideal S1x256x1024 .f32) (gm : Vec Ideal S1x1024 .f32) (X4 : Vec Ideal S1024x2048 .bf16)
  (X5 : Vec Ideal S1024x1024 .bf16) (o : ℕ) (ho : o % 256 = 0) (k : Fin 256) (d e b : Fin 1024) (hb : (b : ℕ) = o + k)
  (q : Fin 256 → Fin 1024) (hq : ∀ j, (q j : ℕ) = o + j)
include ho hb hq

/-- A head's folded keys, from the weights' slices. -/
theorem key_piece (io : ∀ a, ![0, o] a + ![1024, 256] a ≤ S1024x1024.size a)
    (ih : ∀ a, ![0, 0] a + ![1024, 1024] a ≤ S1024x2048.size a) :
    (∑ j, View.ld X5 (Rect.unit ![0, o] ![1024, 256] io) (ix2 d j)
        * memCol mb gm (View.ld X4 (Rect.unit ![0, 0] ![1024, 1024] ih)) k (q j)) * Ideal.ofBits .f32 0x3D800000#32
      = foldKeys (fun k d => rms (fun d => mb (ix3 0 k d)) (fun d => gm (ix2 0 d)) d) (fun d j => X4 (ix2 d j)) (fun d j => X5 (ix2 d j)) d b := by
  have hk : (⟨b % 256, by omega⟩ : Fin 256) = k := Fin.ext (by show (b : ℕ) % 256 = k; omega)
  have hh : ∀ j, headCol b j = q j := fun j => Fin.ext (by show (b : ℕ) / 256 * 256 + j = q j; rw [hq]; omega)
  unfold foldKeys keyAt
  rw [hk]
  refine congrArg (· * _) (Finset.sum_congr rfl fun j _ => ?_)
  rw [hh]
  refine congrArg₂ (· * ·) (cols_at X5 o io d (q j) j (hq j)) (Finset.sum_congr rfl fun d _ => ?_)
  rw [half_at X4 0 ih d (q j) ⟨q j, by omega⟩ (by show (q j : ℕ) = 0 + q j; omega)]

/-- A head's folded values, from the weights' slices. -/
theorem val_piece (io : ∀ a, ![o, 0] a + ![256, 1024] a ≤ S1024x1024.size a)
    (ih : ∀ a, ![0, 1024] a + ![1024, 1024] a ≤ S1024x2048.size a) :
    (∑ j : Fin 256, memCol mb gm (View.ld X4 (Rect.unit ![0, 1024] ![1024, 1024] ih)) k (q j)
        * View.ld X5 (Rect.unit ![o, 0] ![256, 1024] io) (ix2 j e))
      = foldVals (fun k d => rms (fun d => mb (ix3 0 k d)) (fun d => gm (ix2 0 d)) d) (fun d j => X4 (ix2 d j)) (fun d j => X5 (ix2 d j)) b e := by
  have hk : (⟨b % 256, by omega⟩ : Fin 256) = k := Fin.ext (by show (b : ℕ) % 256 = k; omega)
  have hh : ∀ j, headCol b j = q j := fun j => Fin.ext (by show (b : ℕ) / 256 * 256 + j = q j; rw [hq]; omega)
  unfold foldVals valAt
  rw [hk]
  refine Finset.sum_congr rfl fun j _ => ?_
  rw [hh]
  refine congrArg₂ (· * ·) (Finset.sum_congr rfl fun d _ => ?_) (head_at X5 o io e (q j) j (hq j))
  rw [half_at X4 1024 ih d (q j) ⟨1024 + q j, by omega⟩ rfl]

end

end Cert.Cross

end
-- ==== Proof.CrossBlock.lean ====
/- What the cross-attention kernel leaves at a grid point: the folded keys and values at a batch's first point, and the
   result block at every point. -/
module

public import proofs.«01_k».proof.Proof.CrossKernel
public import proofs.«01_k».proof.Proof.Gen.Kernel2Ideal.Value
public import Idealize.ShloMosaic.Lib.Pipeline.ReadBack

@[expose] public section

set_option maxRecDepth 16384

noncomputable section

namespace Cert.Cross

open Cert.Kernel2Ideal Cert.Kernel2Ideal.Gen Cert.Rows Idealize.ShloMosaic Idealize.ShloMosaic.TcCoe

variable (m : (ℓ : Loc nD τ sig) → Buf (Elt Ideal) ℓ) (c : Dev nD) (t : Fin cfg0.N)

/-- The memory rows of a grid point, normed. -/
def memRows (k : Fin 256) (d : Fin 1024) : EReal :=
  rms (fun d => iblk m c 2 t (ix3 0 k d)) (fun d => iblk m c 3 t (ix2 0 d)) d

theorem first_keys (h : t.val % 4 = 0) (d b : Fin 1024) : (outsAt0 m c t.val t.isLt).2.2.2.2.1 (ix2 d b)
    = foldKeys (memRows m c t) (fun d j => iblk m c 4 t (ix2 d j)) (fun d j => iblk m c 5 t (ix2 d j)) d b := by
  rw [outsAt0_A m c t h]
  frame_out
  unfold memRows
  generalize iblk m c 2 t = mb
  generalize iblk m c 3 t = gm
  generalize iblk m c 4 t = X4
  generalize iblk m c 5 t = X5
  exact keys_apply (foldKeys (fun k d => rms (fun d => mb (ix3 0 k d)) (fun d => gm (ix2 0 d)) d) (fun d j => X4 (ix2 d j)) (fun d j => X5 (ix2 d j))) _ _ _ _
    (fun b k => (keys0 _ _ _ _ b k).trans (key_piece mb gm X4 X5 0 rfl k b _ (zero_add _).symm _ (fun j => (zero_add _).symm) _ _))
    (fun b k => (keys1 _ _ _ _ b k).trans (key_piece mb gm X4 X5 256 rfl k b _ rfl _ (fun j => rfl) _ _))
    (fun b k => (keys2 _ _ _ _ b k).trans (key_piece mb gm X4 X5 512 rfl k b _ rfl _ (fun j => rfl) _ _))
    (fun b k => (keys3 _ _ _ _ b k).trans (key_piece mb gm X4 X5 768 rfl k b _ rfl _ (fun j => rfl) _ _)) _ d b rfl rfl

theorem first_vals (h : t.val % 4 = 0) (b e : Fin 1024) : (outsAt0 m c t.val t.isLt).2.2.2.2.2 (ix2 b e)
    = foldVals (memRows m c t) (fun d j => iblk m c 4 t (ix2 d j)) (fun j e => iblk m c 6 t (ix2 j e)) b e := by
  rw [outsAt0_A m c t h]
  frame_out
  unfold memRows
  generalize iblk m c 2 t = mb
  generalize iblk m c 3 t = gm
  generalize iblk m c 4 t = X4
  generalize iblk m c 6 t = X6
  exact vals_apply (foldVals (fun k d => rms (fun d => mb (ix3 0 k d)) (fun d => gm (ix2 0 d)) d) (fun d j => X4 (ix2 d j)) (fun d j => X6 (ix2 d j))) _ _ _ _
    (fun b k => (vals0 _ _ _ _ b k).trans (val_piece mb gm X4 X6 0 rfl k b _ (zero_add _).symm _ (fun j => (zero_add _).symm) _ _))
    (fun b k => (vals1 _ _ _ _ b k).trans (val_piece mb gm X4 X6 256 rfl k b _ rfl _ (fun j => rfl) _ _))
    (fun b k => (vals2 _ _ _ _ b k).trans (val_piece mb gm X4 X6 512 rfl k b _ rfl _ (fun j => rfl) _ _))
    (fun b k => (vals3 _ _ _ _ b k).trans (val_piece mb gm X4 X6 768 rfl k b _ rfl _ (fun j => rfl) _ _)) _ e b rfl rfl

theorem whole_idx (d b : Fin 1024) :
    (Rect.unit ![0, 0] ![1024, 1024] inb_S1024x1024_S1024x1024_0_0).toLoadRect.idx (ix2 d b) = (ix2 d b : S1024x1024.Idx) := by
  refine funext fun a => Fin.ext ?_
  match a with
  | ⟨0, _⟩ => show 0 + 1 * (d : ℕ) = d; omega
  | ⟨1, _⟩ => show 0 + 1 * (b : ℕ) = b; omega

/-- The result block at a batch's first point. -/
theorem first_block (h : t.val % 4 = 0) (s e : Fin 1024) : (outsAt0 m c t.val t.isLt).1 (ix3 0 s e)
    = foldedRow (fun d => iblk m c 0 t (ix3 0 s d)) (rms (fun d => iblk m c 0 t (ix3 0 s d)) (fun d => iblk m c 1 t (ix2 0 d)))
      (fun d b => (outsAt0 m c t.val t.isLt).2.2.2.2.1 (ix2 d b)) (fun b e => (outsAt0 m c t.val t.isLt).2.2.2.2.2 (ix2 b e)) e := by
  rw [outsAt0_A m c t h]
  frame_out
  generalize hq : View.readCov (Val := Elt Ideal) (View.whole cc0_scratch0) _ _ = qk
  generalize hv : View.readCov (Val := Elt Ideal) (View.whole cc0_scratch1) _ _ = vo
  rw [View.readCov_eq_canon'] at hq hv
  have kq := fun d b : Fin 1024 => congrFun hq (ix2 d b)
  have kv := fun d b : Fin 1024 => congrFun hv (ix2 d b)
  simp only [whole_idx] at kq kv
  simp only [kq, kv]
  generalize iblk m c 0 t = X
  generalize iblk m c 1 t = g
  canon_tiles x h
  case piece0 =>
    idx_vars x
    obtain rfl : x0 = 0 := Subsingleton.elim _ _
    obtain rfl : e = x2 := Fin.ext h2
    rw [leave3]
    refine part_row (k0_pay36 (View.ld X (Rect.unit ![0, 768, 0] ![1, 256, 1024] inb_S1x1024x1024_S1x256x1024_0_768_0)) g qk) x1 _ g qk vo _ e X s (fun d => rows_at _ X 768 _ s d h1) (fun k => scores3 _ _ _ _ k) (fun k => ?_)
    rw [View.readCov_eq_canon']
    exact probs_apply _ _ 768 _ _ _ _ _ _ _ _ (fun r k => soft3_0 _ r k) (fun r k => soft3_1 _ r k) (fun r k => soft3_2 _ r k) (fun r k => soft3_3 _ r k) _ _ k (congrArg (768 + ·) (one_mul x1.val)) (by show 0 + 1 * k.val = k.val; omega)
  case piece1 =>
    idx_vars x
    obtain rfl : x0 = 0 := Subsingleton.elim _ _
    obtain rfl : e = x2 := Fin.ext h2
    rw [leave2]
    refine part_row (k0_pay28 (View.ld X (Rect.unit ![0, 512, 0] ![1, 256, 1024] inb_S1x1024x1024_S1x256x1024_0_512_0)) g qk) x1 _ g qk vo _ e X s (fun d => rows_at _ X 512 _ s d h1) (fun k => scores2 _ _ _ _ k) (fun k => ?_)
    rw [View.readCov_eq_canon']
    exact probs_apply _ _ 512 _ _ _ _ _ _ _ _ (fun r k => soft2_0 _ r k) (fun r k => soft2_1 _ r k) (fun r k => soft2_2 _ r k) (fun r k => soft2_3 _ r k) _ _ k (congrArg (512 + ·) (one_mul x1.val)) (by show 0 + 1 * k.val = k.val; omega)
  case piece2 =>
    idx_vars x
    obtain rfl : x0 = 0 := Subsingleton.elim _ _
    obtain rfl : e = x2 := Fin.ext h2
    rw [leave1]
    refine part_row (k0_pay22 (View.ld X (Rect.unit ![0, 256, 0] ![1, 256, 1024] inb_S1x1024x1024_S1x256x1024_0_256_0)) g qk) x1 _ g qk vo _ e X s (fun d => rows_at _ X 256 _ s d h1) (fun k => scores1 _ _ _ _ k) (fun k => ?_)
    rw [View.readCov_eq_canon']
    exact probs_apply _ _ 256 _ _ _ _ _ _ _ _ (fun r k => soft1_0 _ r k) (fun r k => soft1_1 _ r k) (fun r k => soft1_2 _ r k) (fun r k => soft1_3 _ r k) _ _ k (congrArg (256 + ·) (one_mul x1.val)) (by show 0 + 1 * k.val = k.val; omega)
  case piece3 =>
    idx_vars x
    obtain rfl : x0 = 0 := Subsingleton.elim _ _
    obtain rfl : e = x2 := Fin.ext h2
    rw [leave0]
    refine part_row (k0_pay21 (k0_pay18 (View.ld X (Rect.unit ![0, 0, 0] ![1, 256, 1024] inb_S1x1024x1024_S1x256x1024_0_0_0))) (k0_pay19 g) (k0_pay20 (View.ld X (Rect.unit ![0, 0, 0] ![1, 256, 1024] inb_S1x1024x1024_S1x256x1024_0_0_0))) qk) x1 _ g qk vo _ e X s (fun d => rows_at _ X 0 _ s d (by omega)) (fun k => scores0 _ _ _ _ k) (fun k => ?_)
    rw [View.readCov_eq_canon']
    exact probs_apply _ _ 0 _ _ _ _ _ _ _ _ (fun r k => soft0_0 r k _ _ _) (fun r k => soft0_1 _ r k) (fun r k => soft0_2 _ r k) (fun r k => soft0_3 _ r k) _ _ k (congrArg (0 + ·) (one_mul x1.val)) (by show 0 + 1 * k.val = k.val; omega)

/-- The result block at a later point of a batch. -/
theorem later_block (h : ¬ t.val % 4 = 0) (s e : Fin 1024) : (outsAt0 m c t.val t.isLt).1 (ix3 0 s e)
    = foldedRow (fun d => iblk m c 0 t (ix3 0 s d)) (rms (fun d => iblk m c 0 t (ix3 0 s d)) (fun d => iblk m c 1 t (ix2 0 d)))
      (fun d b => (outsAt0 m c t.val t.isLt).2.2.2.2.1 (ix2 d b)) (fun b e => (outsAt0 m c t.val t.isLt).2.2.2.2.2 (ix2 b e)) e := by
  rw [outsAt0_B m c t h]
  frame_out
  simp only [read_unread_whole]
  generalize (outsAt0 m c (t.val - 1) _).2.2.2.2.1 = qk
  generalize (outsAt0 m c (t.val - 1) _).2.2.2.2.2 = vo
  generalize iblk m c 0 t = X
  generalize iblk m c 1 t = g
  canon_tiles x h
  case piece0 =>
    idx_vars x
    obtain rfl : x0 = 0 := Subsingleton.elim _ _
    obtain rfl : e = x2 := Fin.ext h2
    rw [leave3]
    refine part_row (k0_pay36 (View.ld X (Rect.unit ![0, 768, 0] ![1, 256, 1024] inb_S1x1024x1024_S1x256x1024_0_768_0)) g qk) x1 _ g qk vo _ e X s (fun d => rows_at _ X 768 _ s d h1) (fun k => scores3 _ _ _ _ k) (fun k => ?_)
    rw [View.readCov_eq_canon']
    exact probs_apply _ _ 768 _ _ _ _ _ _ _ _ (fun r k => soft3_0 _ r k) (fun r k => soft3_1 _ r k) (fun r k => soft3_2 _ r k) (fun r k => soft3_3 _ r k) _ _ k (congrArg (768 + ·) (one_mul x1.val)) (by show 0 + 1 * k.val = k.val; omega)
  case piece1 =>
    idx_vars x
    obtain rfl : x0 = 0 := Subsingleton.elim _ _
    obtain rfl : e = x2 := Fin.ext h2
    rw [leave2]
    refine part_row (k0_pay28 (View.ld X (Rect.unit ![0, 512, 0] ![1, 256, 1024] inb_S1x1024x1024_S1x256x1024_0_512_0)) g qk) x1 _ g qk vo _ e X s (fun d => rows_at _ X 512 _ s d h1) (fun k => scores2 _ _ _ _ k) (fun k => ?_)
    rw [View.readCov_eq_canon']
    exact probs_apply _ _ 512 _ _ _ _ _ _ _ _ (fun r k => soft2_0 _ r k) (fun r k => soft2_1 _ r k) (fun r k => soft2_2 _ r k) (fun r k => soft2_3 _ r k) _ _ k (congrArg (512 + ·) (one_mul x1.val)) (by show 0 + 1 * k.val = k.val; omega)
  case piece2 =>
    idx_vars x
    obtain rfl : x0 = 0 := Subsingleton.elim _ _
    obtain rfl : e = x2 := Fin.ext h2
    rw [leave1]
    refine part_row (k0_pay22 (View.ld X (Rect.unit ![0, 256, 0] ![1, 256, 1024] inb_S1x1024x1024_S1x256x1024_0_256_0)) g qk) x1 _ g qk vo _ e X s (fun d => rows_at _ X 256 _ s d h1) (fun k => scores1 _ _ _ _ k) (fun k => ?_)
    rw [View.readCov_eq_canon']
    exact probs_apply _ _ 256 _ _ _ _ _ _ _ _ (fun r k => soft1_0 _ r k) (fun r k => soft1_1 _ r k) (fun r k => soft1_2 _ r k) (fun r k => soft1_3 _ r k) _ _ k (congrArg (256 + ·) (one_mul x1.val)) (by show 0 + 1 * k.val = k.val; omega)
  case piece3 =>
    idx_vars x
    obtain rfl : x0 = 0 := Subsingleton.elim _ _
    obtain rfl : e = x2 := Fin.ext h2
    rw [leave0]
    refine part_row (k0_pay21 (k0_pay18 (View.ld X (Rect.unit ![0, 0, 0] ![1, 256, 1024] inb_S1x1024x1024_S1x256x1024_0_0_0))) (k0_pay19 g) (k0_pay20 (View.ld X (Rect.unit ![0, 0, 0] ![1, 256, 1024] inb_S1x1024x1024_S1x256x1024_0_0_0))) qk) x1 _ g qk vo _ e X s (fun d => rows_at _ X 0 _ s d (by omega)) (fun k => scores0 _ _ _ _ k) (fun k => ?_)
    rw [View.readCov_eq_canon']
    exact probs_apply _ _ 0 _ _ _ _ _ _ _ _ (fun r k => soft0_0 r k _ _ _) (fun r k => soft0_1 _ r k) (fun r k => soft0_2 _ r k) (fun r k => soft0_3 _ r k) _ _ k (congrArg (0 + ·) (one_mul x1.val)) (by show 0 + 1 * k.val = k.val; omega)

/-- A later point of a batch leaves the folded keys and values as they were. -/
theorem later_keys (h : ¬ t.val % 4 = 0) : (outsAt0 m c t.val t.isLt).2.2.2.2.1 = (outsAt0 m c (t.val - 1) (by omega)).2.2.2.2.1 := by
  refine funext fun y => ?_
  rw [outsAt0_B m c t h]
  frame_out
  unfold sout0_B_0
  rfl

theorem later_vals (h : ¬ t.val % 4 = 0) : (outsAt0 m c t.val t.isLt).2.2.2.2.2 = (outsAt0 m c (t.val - 1) (by omega)).2.2.2.2.2 := by
  refine funext fun y => ?_
  rw [outsAt0_B m c t h]
  frame_out
  unfold sout0_B_1
  rfl

end Cert.Cross

end
-- ==== Proof.CrossValue.lean ====
/- The cross-attention call's result arrays in the idealized kernel: every row in its folded form, and the weights' slices. -/
module

public import proofs.«01_k».proof.Proof.CrossBlock
public import proofs.«01_k».proof.Proof.Gen.Kernel2Ideal.Value
public import Idealize.ShloMosaic.Lib.Pipeline.ValueKit

@[expose] public section

set_option maxRecDepth 16384

noncomputable section

namespace Cert.Cross

open Cert.Kernel2Ideal Cert.Kernel2Ideal.Gen Cert.Rows Idealize.ShloMosaic Idealize.ShloMosaic.TcCoe
open Idealize.ShloMosaic.Pipeline (Dat)

variable (m : (ℓ : Loc nD τ sig) → Buf (Elt Ideal) ℓ) (c : Dev nD)

/-- Four blocks of rows to a batch, the weights to be rounded in 32 slices; the other operands are whole. -/
theorem blocks : ∀ t : Fin cfg0.N, win0_0.index t = ![t.val / 4, t.val % 4, 0] ∧ win0_1.index t = ![0, 0] ∧ win0_2.index t = ![t.val / 4, 0, 0]
    ∧ win0_3.index t = ![0, 0] ∧ win0_4.index t = ![0, 0] ∧ win0_5.index t = ![0, 0] ∧ win0_6.index t = ![0, 0]
    ∧ win0_7.index t = ![t.val, 0, 0] ∧ win0_8.index t = ![t.val, 0, 0] ∧ win0_9.index t = ![t.val, 0, 0]
    ∧ win0_10.index t = ![t.val / 4, t.val % 4, 0]
    ∧ win0_11.index t = ![t.val, 0, 0] ∧ win0_12.index t = ![t.val, 0, 0] ∧ win0_13.index t = ![t.val, 0, 0] :=
  (by decide +kernel : ∀ t : Fin grid0.N, _)

theorem square_apply (x : FVec Ideal S1x1024x1024 .f32) (d j : Fin 1024) :
    (truncf .bf16 (shapeCast S1024x1024 x shapeCasts_S1x1024x1024_S1024x1024) bitsLt_bf16_f32 : FVec Ideal S1024x1024 .bf16) (ix2 d j) = x (ix3 0 d j) := by
  pointwise

theorem wide_apply (x : FVec Ideal S1x1024x2048 .f32) (d : Fin 1024) (j : Fin 2048) :
    (truncf .bf16 (shapeCast S1024x2048 x shapeCasts_S1x1024x2048_S1024x2048) bitsLt_bf16_f32 : FVec Ideal S1024x2048 .bf16) (ix2 d j) = x (ix3 0 d j) := by
  pointwise

theorem wide_slices : S1x1024x2816.ShapeCasts S32x32x2816 := by decide

theorem tall_slices : S1x2816x1024.ShapeCasts S32x88x1024 := by decide

theorem a0 : V m c main_arg0 = m (c.tc.loc main_arg0) := by
  dsimp only [V, hostOps0]; after_results

theorem a1 : V m c main_arg1 = m (c.tc.loc main_arg1) := by
  dsimp only [V, hostOps0]; after_results

theorem v1 (d : Fin 1024) (j : Fin 2048) : V m c main_v1 (ix2 d j) = m (c.tc.loc main_arg5) (ix3 0 d j) := by
  have h : V m c main_v1 = (truncf .bf16 (shapeCast S1024x2048 (m (c.tc.loc main_arg5) : FVec Ideal S1x1024x2048 .f32) shapeCasts_S1x1024x2048_S1024x2048) bitsLt_bf16_f32 : FVec Ideal S1024x2048 .bf16) := by
    dsimp only [V, hostOps0]; after_results; rfl
  exact (congrFun h _).trans (wide_apply _ d j)

theorem v3 (d j : Fin 1024) : V m c main_v3 (ix2 d j) = m (c.tc.loc main_arg4) (ix3 0 d j) := by
  have h : V m c main_v3 = (truncf .bf16 (shapeCast S1024x1024 (m (c.tc.loc main_arg4) : FVec Ideal S1x1024x1024 .f32) shapeCasts_S1x1024x1024_S1024x1024) bitsLt_bf16_f32 : FVec Ideal S1024x1024 .bf16) := by
    dsimp only [V, hostOps0]; after_results; rfl
  exact (congrFun h _).trans (square_apply _ d j)

theorem v5 (d j : Fin 1024) : V m c main_v5 (ix2 d j) = m (c.tc.loc main_arg6) (ix3 0 d j) := by
  have h : V m c main_v5 = (truncf .bf16 (shapeCast S1024x1024 (m (c.tc.loc main_arg6) : FVec Ideal S1x1024x1024 .f32) shapeCasts_S1x1024x1024_S1024x1024) bitsLt_bf16_f32 : FVec Ideal S1024x1024 .bf16) := by
    dsimp only [V, hostOps0]; after_results; rfl
  exact (congrFun h _).trans (square_apply _ d j)

theorem v7 (d : Fin 1024) : V m c main_v7 (ix2 0 d) = m (c.tc.loc main_arg2) (ix2 0 d) := by
  have h : V m c main_v7 = shapeCast S1x1024 (shapeCast S1024 (m (c.tc.loc main_arg2) : Vec Ideal S1x1024 .f32) shapeCasts_S1x1024_S1024) shapeCasts_S1024_S1x1024 := by
    dsimp only [V, hostOps0]; after_results; rfl
  rw [h]
  pointwise

theorem v9 (d : Fin 1024) : V m c main_v9 (ix2 0 d) = m (c.tc.loc main_arg3) (ix2 0 d) := by
  have h : V m c main_v9 = shapeCast S1x1024 (shapeCast S1024 (m (c.tc.loc main_arg3) : Vec Ideal S1x1024 .f32) shapeCasts_S1x1024_S1024) shapeCasts_S1024_S1x1024 := by
    dsimp only [V, hostOps0]; after_results; rfl
  rw [h]
  pointwise

theorem v13 : V m c main_v13 = shapeCast S32x32x2816 (m (c.tc.loc main_arg7) : Vec Ideal S1x1024x2816 .f32) wide_slices := by
  have h : V m c main_v13 = shapeCast S32x32x2816 (shapeCast S1024x2816 (m (c.tc.loc main_arg7) : Vec Ideal S1x1024x2816 .f32) shapeCasts_S1x1024x2816_S1024x2816) shapeCasts_S1024x2816_S32x32x2816 := by
    dsimp only [V, hostOps0]; after_results; rfl
  exact h.trans (shapeCast_comp _ _ _)

theorem v14 : V m c main_v14 = shapeCast S32x32x2816 (m (c.tc.loc main_arg8) : Vec Ideal S1x1024x2816 .f32) wide_slices := by
  have h : V m c main_v14 = shapeCast S32x32x2816 (shapeCast S1024x2816 (m (c.tc.loc main_arg8) : Vec Ideal S1x1024x2816 .f32) shapeCasts_S1x1024x2816_S1024x2816) shapeCasts_S1024x2816_S32x32x2816 := by
    dsimp only [V, hostOps0]; after_results; rfl
  exact h.trans (shapeCast_comp _ _ _)

theorem v15 : V m c main_v15 = shapeCast S32x88x1024 (m (c.tc.loc main_arg9) : Vec Ideal S1x2816x1024 .f32) tall_slices := by
  have h : V m c main_v15 = shapeCast S32x88x1024 (shapeCast S2816x1024 (m (c.tc.loc main_arg9) : Vec Ideal S1x2816x1024 .f32) shapeCasts_S1x2816x1024_S2816x1024) shapeCasts_S2816x1024_S32x88x1024 := by
    dsimp only [V, hostOps0]; after_results; rfl
  exact h.trans (shapeCast_comp _ _ _)

section
variable (t : Fin cfg0.N)

theorem b0 (s d : Fin 1024) : iblk m c 0 t (ix3 0 s d)
    = m (c.tc.loc main_arg0) (ix3 ⟨t.val / 4, by have : t.val < 32 := t.isLt; omega⟩ ⟨t.val % 4 * 1024 + s, by omega⟩ d) := by
  obtain ⟨e0, e1, e2, e3, e4, e5, e6, e7, e8, e9, e10, e11, e12, e13⟩ := blocks t
  have ht : t.val < 32 := t.isLt
  rw [← a0 m c]
  blk_ext [iblk, e0]

theorem b1 (d : Fin 1024) : iblk m c 1 t (ix2 0 d) = m (c.tc.loc main_arg2) (ix2 0 d) := by
  obtain ⟨e0, e1, e2, e3, e4, e5, e6, e7, e8, e9, e10, e11, e12, e13⟩ := blocks t
  rw [← v7 m c]
  blk_ext [iblk, e1]

theorem b2 (k : Fin 256) (d : Fin 1024) : iblk m c 2 t (ix3 0 k d)
    = m (c.tc.loc main_arg1) (ix3 ⟨t.val / 4, by have : t.val < 32 := t.isLt; omega⟩ k d) := by
  obtain ⟨e0, e1, e2, e3, e4, e5, e6, e7, e8, e9, e10, e11, e12, e13⟩ := blocks t
  have ht : t.val < 32 := t.isLt
  rw [← a1 m c]
  blk_ext [iblk, e2]

theorem b3 (d : Fin 1024) : iblk m c 3 t (ix2 0 d) = m (c.tc.loc main_arg3) (ix2 0 d) := by
  obtain ⟨e0, e1, e2, e3, e4, e5, e6, e7, e8, e9, e10, e11, e12, e13⟩ := blocks t
  rw [← v9 m c]
  blk_ext [iblk, e3]

theorem b4 (d : Fin 1024) (j : Fin 2048) : iblk m c 4 t (ix2 d j) = m (c.tc.loc main_arg5) (ix3 0 d j) := by
  obtain ⟨e0, e1, e2, e3, e4, e5, e6, e7, e8, e9, e10, e11, e12, e13⟩ := blocks t
  rw [← v1 m c]
  blk_ext [iblk, e4]

theorem b5 (d j : Fin 1024) : iblk m c 5 t (ix2 d j) = m (c.tc.loc main_arg4) (ix3 0 d j) := by
  obtain ⟨e0, e1, e2, e3, e4, e5, e6, e7, e8, e9, e10, e11, e12, e13⟩ := blocks t
  rw [← v3 m c]
  blk_ext [iblk, e5]

theorem b6 (d j : Fin 1024) : iblk m c 6 t (ix2 d j) = m (c.tc.loc main_arg6) (ix3 0 d j) := by
  obtain ⟨e0, e1, e2, e3, e4, e5, e6, e7, e8, e9, e10, e11, e12, e13⟩ := blocks t
  rw [← v5 m c]
  blk_ext [iblk, e6]

end

/-- A batch's normed memory rows. -/
def memOf (b : Fin 8) (k : Fin 256) : Fin 1024 → EReal :=
  rms (fun d => m (c.tc.loc main_arg1) (ix3 b k d)) (fun d => m (c.tc.loc main_arg3) (ix2 0 d))

/-- A row's normed entries. -/
def rowOf (b : Fin 8) (s : Fin 4096) : Fin 1024 → EReal :=
  rms (fun d => m (c.tc.loc main_arg0) (ix3 b s d)) (fun d => m (c.tc.loc main_arg2) (ix2 0 d))

theorem memRows_eq (t : Fin cfg0.N) : memRows m c t = memOf m c ⟨t.val / 4, by have : t.val < 32 := t.isLt; omega⟩ := by
  funext k d
  unfold memRows memOf
  simp only [b2, b3]

/-- After every point the scratch holds its batch's folded keys. -/
theorem keys_inv : ∀ (n : ℕ) (hn : n < cfg0.N) (d b : Fin 1024), (outsAt0 m c n hn).2.2.2.2.1 (ix2 d b)
    = foldKeys (memOf m c ⟨n / 4, by have : n < 32 := hn; omega⟩) (fun d j => m (c.tc.loc main_arg5) (ix3 0 d j)) (fun d j => m (c.tc.loc main_arg4) (ix3 0 d j)) d b := by
  intro n
  induction n with
  | zero =>
    intro hn d b
    rw [first_keys m c ⟨0, hn⟩ rfl d b, memRows_eq]
    simp only [b4, b5]
  | succ n ih =>
    intro hn d b
    by_cases h : (n + 1) % 4 = 0
    · rw [first_keys m c ⟨n + 1, hn⟩ h d b, memRows_eq]
      simp only [b4, b5]
    · have hq : (⟨(n + 1) / 4, by have : n + 1 < 32 := hn; omega⟩ : Fin 8) = ⟨n / 4, by have : n + 1 < 32 := hn; omega⟩ := Fin.ext (by show (n + 1) / 4 = n / 4; omega)
      rw [hq]
      exact (congrFun (later_keys m c ⟨n + 1, hn⟩ h) _).trans (ih (Nat.lt_of_succ_lt hn) d b)

/-- After every point the scratch holds its batch's folded values. -/
theorem vals_inv : ∀ (n : ℕ) (hn : n < cfg0.N) (d b : Fin 1024), (outsAt0 m c n hn).2.2.2.2.2 (ix2 d b)
    = foldVals (memOf m c ⟨n / 4, by have : n < 32 := hn; omega⟩) (fun d j => m (c.tc.loc main_arg5) (ix3 0 d j)) (fun d j => m (c.tc.loc main_arg6) (ix3 0 d j)) d b := by
  intro n
  induction n with
  | zero =>
    intro hn d b
    rw [first_vals m c ⟨0, hn⟩ rfl d b, memRows_eq]
    simp only [b4, b6]
  | succ n ih =>
    intro hn d b
    by_cases h : (n + 1) % 4 = 0
    · rw [first_vals m c ⟨n + 1, hn⟩ h d b, memRows_eq]
      simp only [b4, b6]
    · have hq : (⟨(n + 1) / 4, by have : n + 1 < 32 := hn; omega⟩ : Fin 8) = ⟨n / 4, by have : n + 1 < 32 := hn; omega⟩ := Fin.ext (by show (n + 1) / 4 = n / 4; omega)
      rw [hq]
      exact (congrFun (later_vals m c ⟨n + 1, hn⟩ h) _).trans (ih (Nat.lt_of_succ_lt hn) d b)

/-- A row of the result, folded. -/
def rowAt (b : Fin 8) (s : Fin 4096) (e : Fin 1024) : EReal :=
  foldedRow (fun d => m (c.tc.loc main_arg0) (ix3 b s d)) (rowOf m c b s)
    (foldKeys (memOf m c b) (fun d j => m (c.tc.loc main_arg5) (ix3 0 d j)) (fun d j => m (c.tc.loc main_arg4) (ix3 0 d j)))
    (foldVals (memOf m c b) (fun d j => m (c.tc.loc main_arg5) (ix3 0 d j)) (fun d j => m (c.tc.loc main_arg6) (ix3 0 d j))) e

theorem block (t : Fin cfg0.N) (s e : Fin 1024) : (outsAt0 m c t.val t.isLt).1 (ix3 0 s e)
    = rowAt m c ⟨t.val / 4, by have : t.val < 32 := t.isLt; omega⟩ ⟨t.val % 4 * 1024 + s, by omega⟩ e := by
  have h : (outsAt0 m c t.val t.isLt).1 (ix3 0 s e)
      = foldedRow (fun d => iblk m c 0 t (ix3 0 s d)) (rms (fun d => iblk m c 0 t (ix3 0 s d)) (fun d => iblk m c 1 t (ix2 0 d)))
        (fun d b => (outsAt0 m c t.val t.isLt).2.2.2.2.1 (ix2 d b)) (fun b e => (outsAt0 m c t.val t.isLt).2.2.2.2.2 (ix2 b e)) e := by
    by_cases h : t.val % 4 = 0
    · exact first_block m c t h s e
    · exact later_block m c t h s e
  rw [h]
  simp only [keys_inv, vals_inv, b0, b1]
  rfl

/-- What the call leaves in its first result array. -/
def result : Vec Ideal S8x4096x1024 .f32 := fun i => rowAt m c (i 0) (i 1) (i 2)

theorem final : (dats m 0 c).arrAt 10 cfg0.N = result m c := by
  refine (dats m 0 c).arrAt_eq_of_covers 10 (result m c) (by decide +kernel) (fun t hf y => ?_)
  blk_simp
  rw [after0_10]
  obtain ⟨e0, e1, e2, e3, e4, e5, e6, e7, e8, e9, e10, e11, e12, e13⟩ := blocks t
  idx_vars y
  obtain rfl : y0 = 0 := Subsingleton.elim _ _
  have ht : t.val < 32 := t.isLt
  have hG : (((View.whole main_v16_0).slice (win0_10.rect t)).emb (ix3 0 y1 y2)) = ix3 ⟨t.val / 4, by omega⟩ ⟨t.val % 4 * 1024 + y1.val, by omega⟩ y2 := by
    blk_ext [e10]
  rw [block, hG]
  rfl

theorem slice11 (t : Fin cfg0.N) (y : S1x32x2816.Idx) : (outsAt0 m c t.val t.isLt).2.1 y = iblk m c 7 t y := by
  by_cases h : t.val % 4 = 0
  · rw [outsAt0_A m c t h]
    frame_out
    generalize iblk m c 7 t = X
    idx_vars y
    pointwise [k0_pay12]
  · rw [outsAt0_B m c t h]
    frame_out
    generalize iblk m c 7 t = X
    idx_vars y
    pointwise [k0_pay12]

/-- The call's rounded weights: over the reals the argument itself, in slices. -/
def gateSlices : FVec Ideal S32x32x2816 .bf16 :=
  truncf .bf16 (shapeCast S32x32x2816 (m (c.tc.loc main_arg7) : FVec Ideal S1x1024x2816 .f32) wide_slices) bitsLt_bf16_f32

theorem final11 : (dats m 0 c).arrAt 11 cfg0.N = gateSlices m c := by
  refine (dats m 0 c).arrAt_eq_of_covers 11 (gateSlices m c) (by decide +kernel) (fun t hf y => ?_)
  blk_simp
  rw [after0_11, slice11]
  obtain ⟨e0, e1, e2, e3, e4, e5, e6, e7, e8, e9, e10, e11, e12, e13⟩ := blocks t
  idx_vars y
  obtain rfl : y0 = 0 := Subsingleton.elim _ _
  have ht : t.val < 32 := t.isLt
  have hG : (((View.whole main_v16_1).slice (win0_11.rect t)).emb (ix3 0 y1 y2)) = ix3 ⟨t.val, by omega⟩ y1 y2 := by
    blk_ext [e11]
  rw [hG]
  refine Eq.trans (b := V m c main_v13 (ix3 ⟨t.val, by omega⟩ y1 y2)) ?_ (congrFun (v13 m c) _)
  blk_ext [iblk, e7]

theorem slice12 (t : Fin cfg0.N) (y : S1x32x2816.Idx) : (outsAt0 m c t.val t.isLt).2.2.1 y = iblk m c 8 t y := by
  by_cases h : t.val % 4 = 0
  · rw [outsAt0_A m c t h]
    frame_out
    generalize iblk m c 8 t = X
    idx_vars y
    pointwise [k0_pay13]
  · rw [outsAt0_B m c t h]
    frame_out
    generalize iblk m c 8 t = X
    idx_vars y
    pointwise [k0_pay13]

/-- The call's rounded weights: over the reals the argument itself, in slices. -/
def upSlices : FVec Ideal S32x32x2816 .bf16 :=
  truncf .bf16 (shapeCast S32x32x2816 (m (c.tc.loc main_arg8) : FVec Ideal S1x1024x2816 .f32) wide_slices) bitsLt_bf16_f32

theorem final12 : (dats m 0 c).arrAt 12 cfg0.N = upSlices m c := by
  refine (dats m 0 c).arrAt_eq_of_covers 12 (upSlices m c) (by decide +kernel) (fun t hf y => ?_)
  blk_simp
  rw [after0_12, slice12]
  obtain ⟨e0, e1, e2, e3, e4, e5, e6, e7, e8, e9, e10, e11, e12, e13⟩ := blocks t
  idx_vars y
  obtain rfl : y0 = 0 := Subsingleton.elim _ _
  have ht : t.val < 32 := t.isLt
  have hG : (((View.whole main_v16_2).slice (win0_12.rect t)).emb (ix3 0 y1 y2)) = ix3 ⟨t.val, by omega⟩ y1 y2 := by
    blk_ext [e12]
  rw [hG]
  refine Eq.trans (b := V m c main_v14 (ix3 ⟨t.val, by omega⟩ y1 y2)) ?_ (congrFun (v14 m c) _)
  blk_ext [iblk, e8]

theorem slice13 (t : Fin cfg0.N) (y : S1x88x1024.Idx) : (outsAt0 m c t.val t.isLt).2.2.2.1 y = iblk m c 9 t y := by
  by_cases h : t.val % 4 = 0
  · rw [outsAt0_A m c t h]
    frame_out
    generalize iblk m c 9 t = X
    idx_vars y
    pointwise [k0_pay14]
  · rw [outsAt0_B m c t h]
    frame_out
    generalize iblk m c 9 t = X
    idx_vars y
    pointwise [k0_pay14]

/-- The call's rounded weights: over the reals the argument itself, in slices. -/
def downSlices : FVec Ideal S32x88x1024 .bf16 :=
  truncf .bf16 (shapeCast S32x88x1024 (m (c.tc.loc main_arg9) : FVec Ideal S1x2816x1024 .f32) tall_slices) bitsLt_bf16_f32

theorem final13 : (dats m 0 c).arrAt 13 cfg0.N = downSlices m c := by
  refine (dats m 0 c).arrAt_eq_of_covers 13 (downSlices m c) (by decide +kernel) (fun t hf y => ?_)
  blk_simp
  rw [after0_13, slice13]
  obtain ⟨e0, e1, e2, e3, e4, e5, e6, e7, e8, e9, e10, e11, e12, e13⟩ := blocks t
  idx_vars y
  obtain rfl : y0 = 0 := Subsingleton.elim _ _
  have ht : t.val < 32 := t.isLt
  have hG : (((View.whole main_v16_3).slice (win0_13.rect t)).emb (ix3 0 y1 y2)) = ix3 ⟨t.val, by omega⟩ y1 y2 := by
    blk_ext [e13]
  rw [hG]
  refine Eq.trans (b := V m c main_v15 (ix3 ⟨t.val, by omega⟩ y1 y2)) ?_ (congrFun (v15 m c) _)
  blk_ext [iblk, e9]

end Cert.Cross

end
-- ==== Proof.CrossReference.lean ====
/- The cross-attention call's reference, stage by stage, and its result array row by row. -/
module

public import proofs.«01_k».proof.Proof.CrossRows
public import proofs.«01_k».proof.Proof.Gen.Reference2Ideal.Run
public import Idealize.ShloMosaic.Lib.Pointwise
public import Idealize.ShloMosaic.Lib.Tactic.CleanTypes

@[expose] public section

set_option maxRecDepth 16384

noncomputable section

namespace Cert.Cross

open Cert.Reference2Ideal Cert.Reference2Ideal.Gen Cert.Reference2Ideal.Value Cert.Rows Idealize.ShloMosaic Idealize.ShloMosaic.TcCoe

/-- The normed input rows. -/
def normedRows (x : FVec Ideal S8x4096x1024 .f32) (g : FVec Ideal S1x1024 .f32) : FVec Ideal S8x4096x1024 .f32 :=
  mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast S1024 g shapeCasts_S1x1024_S1024)))

/-- The normed memory rows. -/
def normedMem (x : FVec Ideal S8x256x1024 .f32) (g : FVec Ideal S1x1024 .f32) : FVec Ideal S8x256x1024 .f32 :=
  mulf (mulf x (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf x x) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 (shapeCast S1024 g shapeCasts_S1x1024_S1024)))

/-- The queries by head. -/
def queries (h : FVec Ideal S8x4096x1024 .f32) (w : FVec Ideal S1x1024x1024 .f32) : FVec Ideal S8x4x4096x256 .f32 :=
  transpose S8x4x4096x256 [0, 2, 1, 3] (shapeCast S8x4096x4x256 (Host.dotGeneral dot_S8x4096x1024_S1024x1024_S8x4096x1024_2_0_01_1_n_n none h (shapeCast S1024x1024 w shapeCasts_S1x1024x1024_S1024x1024) : FVec Ideal S8x4096x1024 .f32) shapeCasts_S8x4096x1024_S8x4096x4x256) transposes_S8x4096x4x256_S8x4x4096x256_0_2_1_3

/-- The memory's keys and values, side by side. -/
def both (h : FVec Ideal S8x256x1024 .f32) (w : FVec Ideal S1x1024x2048 .f32) : FVec Ideal S8x256x2048 .f32 :=
  Host.dotGeneral dot_S8x256x1024_S1024x2048_S8x256x2048_2_0_01_1_n_n none h (shapeCast S1024x2048 w shapeCasts_S1x1024x2048_S1024x2048)

/-- The keys by head. -/
def keys (kv : FVec Ideal S8x256x2048 .f32) : FVec Ideal S8x4x256x256 .f32 :=
  transpose S8x4x256x256 [0, 2, 1, 3] (shapeCast S8x256x4x256 (extractStridedSlice S8x256x1024 ![0, 0, 0] kv slices_S8x256x2048_S8x256x1024_0_0_0) shapeCasts_S8x256x1024_S8x256x4x256) transposes_S8x256x4x256_S8x4x256x256_0_2_1_3

/-- The values by head. -/
def values (kv : FVec Ideal S8x256x2048 .f32) : FVec Ideal S8x4x256x256 .f32 :=
  transpose S8x4x256x256 [0, 2, 1, 3] (shapeCast S8x256x4x256 (extractStridedSlice S8x256x1024 ![0, 0, 1024] kv slices_S8x256x2048_S8x256x1024_0_0_1024) shapeCasts_S8x256x1024_S8x256x4x256) transposes_S8x256x4x256_S8x4x256x256_0_2_1_3

/-- The scaled scores. -/
def scaled (q : FVec Ideal S8x4x4096x256 .f32) (k : FVec Ideal S8x4x256x256 .f32) : FVec Ideal S8x4x4096x256 .f32 :=
  mulf (Host.dotGeneral dot_S8x4x4096x256_S8x4x256x256_S8x4x4096x256_3_3_2_2_01_01 none q k) (broadcastInDim S8x4x4096x256 ![] bcast_S_S8x4x4096x256 (constant S_ .f32 0x3D800000#32))

/-- Each row's largest score. -/
def peak (s : FVec Ideal S8x4x4096x256 .f32) : FVec Ideal S8x4x4096 .f32 :=
  Host.reduce FloatOps.maximumf s (constant S_ .f32 0xFF800000#32) reducesTo_S8x4x4096x256_S8x4x4096_d3 h_S_

/-- The exponentials of the scores less their largest. -/
def raised (s : FVec Ideal S8x4x4096x256 .f32) (p : FVec Ideal S8x4x4096 .f32) : FVec Ideal S8x4x4096x256 .f32 :=
  Host.exp (subf s (broadcastInDim S8x4x4096x256 ![0, 1, 2, 3] bcast_S8x4x4096x1_S8x4x4096x256_0_1_2_3 (broadcastInDim S8x4x4096x1 ![0, 1, 2] bcast_S8x4x4096_S8x4x4096x1_0_1_2 (maximumf (broadcastInDim S8x4x4096 ![] bcast_S_S8x4x4096 (constant S_ .f32 0xFF800000#32)) p))))

/-- Rows divided by their sums. -/
def shared (p : FVec Ideal S8x4x4096x256 .f32) : FVec Ideal S8x4x4096x256 .f32 :=
  Host.divf p (broadcastInDim S8x4x4096x256 ![0, 1, 2, 3] bcast_S8x4x4096x1_S8x4x4096x256_0_1_2_3 (broadcastInDim S8x4x4096x1 ![0, 1, 2] bcast_S8x4x4096_S8x4x4096x1_0_1_2 (Host.reduceAdd p (constant S_ .f32 0x00000000#32) reducesTo_S8x4x4096x256_S8x4x4096_d3 h_S_)))

/-- The input rows and the output product of the values taken by the shares. -/
def leave (x : FVec Ideal S8x4096x1024 .f32) (p : FVec Ideal S8x4x4096x256 .f32) (v : FVec Ideal S8x4x256x256 .f32) (w : FVec Ideal S1x1024x1024 .f32) : FVec Ideal S8x4096x1024 .f32 :=
  addf x (Host.dotGeneral dot_S8x4096x1024_S1024x1024_S8x4096x1024_2_0_01_1_n_n none (shapeCast S8x4096x1024 (transpose S8x4096x4x256 [0, 2, 1, 3] (Host.dotGeneral dot_S8x4x4096x256_S8x4x256x256_S8x4x4096x256_3_2_2_3_01_01 none p v : FVec Ideal S8x4x4096x256 .f32) transposes_S8x4x4096x256_S8x4096x4x256_0_2_1_3) shapeCasts_S8x4096x4x256_S8x4096x1024) (shapeCast S1024x1024 w shapeCasts_S1x1024x1024_S1024x1024))

theorem normedRows_apply (x : FVec Ideal S8x4096x1024 .f32) (g : FVec Ideal S1x1024 .f32) (b : Fin 8) (s : Fin 4096) (d : Fin 1024) :
    normedRows x g (ix3 b s d) = rms (fun d => x (ix3 b s d)) (fun d => g (ix2 0 d)) d := by
  generalize hG : rms _ _ d = G
  pointwise [normedRows]
  subst hG
  simp only [rms]

theorem normedMem_apply (x : FVec Ideal S8x256x1024 .f32) (g : FVec Ideal S1x1024 .f32) (b : Fin 8) (s : Fin 256) (d : Fin 1024) :
    normedMem x g (ix3 b s d) = rms (fun d => x (ix3 b s d)) (fun d => g (ix2 0 d)) d := by
  generalize hG : rms _ _ d = G
  pointwise [normedMem]
  subst hG
  simp only [rms]

theorem queries_apply (h : FVec Ideal S8x4096x1024 .f32) (w : FVec Ideal S1x1024x1024 .f32) (b : Fin 8) (n : Fin 4) (s : Fin 4096) (j : Fin 256) (q : Fin 1024)
    (hq : (q : ℕ) = n * 256 + j) : queries h w (ix4 b n s j) = ∑ d, h (ix3 b s d) * w (ix3 0 d q) := by
  have e : q = ⟨n * 256 + j, by omega⟩ := Fin.ext hq
  rw [e]
  pointwise [queries]

theorem both_apply (h : FVec Ideal S8x256x1024 .f32) (w : FVec Ideal S1x1024x2048 .f32) (b : Fin 8) (k : Fin 256) (j : Fin 2048) :
    both h w (ix3 b k j) = ∑ d, h (ix3 b k d) * w (ix3 0 d j) := by
  pointwise [both]

theorem keys_at (kv : FVec Ideal S8x256x2048 .f32) (b : Fin 8) (n : Fin 4) (k j : Fin 256) (q : Fin 2048) (hq : (q : ℕ) = n * 256 + j) :
    keys kv (ix4 b n k j) = kv (ix3 b k q) := by
  have e : q = ⟨n * 256 + j, by omega⟩ := Fin.ext hq
  rw [e]
  pointwise [keys]

theorem values_at (kv : FVec Ideal S8x256x2048 .f32) (b : Fin 8) (n : Fin 4) (k j : Fin 256) (q : Fin 2048) (hq : (q : ℕ) = 1024 + (n * 256 + j)) :
    values kv (ix4 b n k j) = kv (ix3 b k q) := by
  have e : q = ⟨1024 + (n * 256 + j), by omega⟩ := Fin.ext hq
  rw [e]
  pointwise [values]

theorem scaled_apply (q : FVec Ideal S8x4x4096x256 .f32) (k : FVec Ideal S8x4x256x256 .f32) (b : Fin 8) (n : Fin 4) (s : Fin 4096) (i : Fin 256) :
    scaled q k (ix4 b n s i) = (∑ j, q (ix4 b n s j) * k (ix4 b n i j)) * Ideal.ofBits .f32 0x3D800000#32 := by
  pointwise [scaled]

theorem shared_apply (p : FVec Ideal S8x4x4096x256 .f32) (b : Fin 8) (n : Fin 4) (s : Fin 4096) (i : Fin 256) :
    shared p (ix4 b n s i) = Ideal.div (p (ix4 b n s i)) (∑ j, p (ix4 b n s j)) := by
  pointwise [shared]

theorem peak_apply (p : FVec Ideal S8x4x4096x256 .f32) (b : Fin 8) (n : Fin 4) (s : Fin 4096) :
    peak p (ix3 b n s) = Finset.fold max (Ideal.ofBits .f32 0xFF800000#32) (fun j => p (ix4 b n s j)) Finset.univ := by
  pointwise [peak]

theorem raised_apply (p : FVec Ideal S8x4x4096x256 .f32) (q : FVec Ideal S8x4x4096 .f32) (b : Fin 8) (n : Fin 4) (s : Fin 4096) (i : Fin 256) :
    raised p q (ix4 b n s i) = Ideal.exp (p (ix4 b n s i) - max (Ideal.ofBits .f32 0xFF800000#32) (q (ix3 b n s))) := by
  pointwise [raised]

theorem leave_apply (x : FVec Ideal S8x4096x1024 .f32) (p : FVec Ideal S8x4x4096x256 .f32) (v : FVec Ideal S8x4x256x256 .f32) (w : FVec Ideal S1x1024x1024 .f32)
    (b : Fin 8) (s : Fin 4096) (e : Fin 1024) : leave x p v w (ix3 b s e)
      = x (ix3 b s e) + ∑ c : Fin 1024, (∑ k, p (ix4 b ⟨c / 256, by omega⟩ s k) * v (ix4 b ⟨c / 256, by omega⟩ k ⟨c % 256, by omega⟩)) * w (ix3 0 c e) := by
  pointwise [leave]

/-- The stages together, at a row and a column. -/
theorem combined (x : FVec Ideal S8x4096x1024 .f32) (mb : FVec Ideal S8x256x1024 .f32) (g gm : FVec Ideal S1x1024 .f32) (wq wo : FVec Ideal S1x1024x1024 .f32)
    (wkv : FVec Ideal S1x1024x2048 .f32) (b : Fin 8) (s : Fin 4096) (e : Fin 1024) :
    leave x (shared (raised (scaled (queries (normedRows x g) wq) (keys (both (normedMem mb gm) wkv)))
        (peak (scaled (queries (normedRows x g) wq) (keys (both (normedMem mb gm) wkv)))))) (values (both (normedMem mb gm) wkv)) wo (ix3 b s e)
    = crossRow (fun k => rms (fun d => mb (ix3 b k d)) (fun d => gm (ix2 0 d))) (fun d j => wkv (ix3 0 d j)) (fun d => x (ix3 b s d))
        (rms (fun d => x (ix3 b s d)) (fun d => g (ix2 0 d))) (fun d j => wq (ix3 0 d j)) (fun j e => wo (ix3 0 j e)) e := by
  rw [leave_apply]
  unfold crossRow
  refine congrArg (_ + ·) (Finset.sum_congr rfl fun q _ => congrArg (· * _) (Finset.sum_congr rfl fun k _ => congrArg₂ (· * ·) ?_ ?_))
  · have hs : ∀ k : Fin 256, scaled (queries (normedRows x g) wq) (keys (both (normedMem mb gm) wkv)) (ix4 b ⟨q / 256, by omega⟩ s k)
        = (∑ j : Fin 256, (∑ d, rms (fun d => x (ix3 b s d)) (fun d => g (ix2 0 d)) d * wq (ix3 0 d (headCol q j)))
          * keyAt (fun k => rms (fun d => mb (ix3 b k d)) (fun d => gm (ix2 0 d))) (fun d j => wkv (ix3 0 d j)) k (headCol q j)) * Ideal.ofBits .f32 0x3D800000#32 := by
      intro k
      rw [scaled_apply]
      refine congrArg (· * _) (Finset.sum_congr rfl fun j _ => congrArg₂ (· * ·) ?_ ?_)
      · rw [queries_apply _ _ b ⟨q / 256, by omega⟩ s j (headCol q j) rfl]
        simp only [normedRows_apply]
      · rw [keys_at _ b ⟨q / 256, by omega⟩ k j ⟨headCol q j, by omega⟩ rfl, both_apply]
        simp only [normedMem_apply]
        rfl
    rw [shared_apply]
    simp only [raised_apply, peak_apply, max_fold, hs]
    rfl
  · rw [values_at _ b ⟨q / 256, by omega⟩ k ⟨q % 256, by omega⟩ ⟨1024 + q, by omega⟩ (by show 1024 + (q : ℕ) = 1024 + (q / 256 * 256 + q % 256); omega), both_apply]
    simp only [normedMem_apply]
    rfl

variable (m : (ℓ : Loc nD τ sig) → Buf (Elt Ideal) ℓ)

theorem stages (c : Dev nD) : res_out0 m c
    = leave (m (c.tc.loc main_arg0)) (shared (raised (scaled (queries (normedRows (m (c.tc.loc main_arg0)) (m (c.tc.loc main_arg2))) (m (c.tc.loc main_arg4)))
        (keys (both (normedMem (m (c.tc.loc main_arg1)) (m (c.tc.loc main_arg3))) (m (c.tc.loc main_arg5)))))
        (peak (scaled (queries (normedRows (m (c.tc.loc main_arg0)) (m (c.tc.loc main_arg2))) (m (c.tc.loc main_arg4)))
        (keys (both (normedMem (m (c.tc.loc main_arg1)) (m (c.tc.loc main_arg3))) (m (c.tc.loc main_arg5))))))))
        (values (both (normedMem (m (c.tc.loc main_arg1)) (m (c.tc.loc main_arg3))) (m (c.tc.loc main_arg5)))) (m (c.tc.loc main_arg6)) := rfl

/-- The reference's result at a row and a column. -/
theorem reference_apply (c : Dev nD) (b : Fin 8) (s : Fin 4096) (e : Fin 1024) : res_out0 m c (ix3 b s e)
    = crossRow (fun k => rms (fun d => m (c.tc.loc main_arg1) (ix3 b k d)) (fun d => m (c.tc.loc main_arg3) (ix2 0 d)))
        (fun d j => m (c.tc.loc main_arg5) (ix3 0 d j)) (fun d => m (c.tc.loc main_arg0) (ix3 b s d))
        (rms (fun d => m (c.tc.loc main_arg0) (ix3 b s d)) (fun d => m (c.tc.loc main_arg2) (ix2 0 d)))
        (fun d j => m (c.tc.loc main_arg4) (ix3 0 d j)) (fun j e => m (c.tc.loc main_arg6) (ix3 0 j e)) e :=
  (congrFun (stages m c) _).trans (combined _ _ _ _ _ _ _ b s e)

end Cert.Cross

end
-- ==== Proof.CrossFinite.lean ====
/- What the precondition of the cross-attention claims says of each argument array: every entry is a real number. -/
module

public import proofs.«01_k».proof.Proof.Reals
public import proofs.«01_k».proof.Proof.Gen.Pre_finite2
public import Idealize.ShloMosaic.Lib.ReduceAll

@[expose] public section

set_option maxRecDepth 16384

noncomputable section

namespace Cert.Cross

open Cert.Rows Idealize.ShloMosaic

/-- An array whose absolute values all compare less than infinity has real entries. -/
theorem real_of_all {s t u : Shape} [Subsingleton t.Idx] {axes : List (Fin s.rank)} (x : FVec Ideal s .f32) (hb : Cert.Pre_finite2.S_.BroadcastsInDim s (![] : Fin 0 → Fin s.rank))
    (h : s.ReducesTo axes t) (hu : 0 < u.numel) (init : IVec u 1) (j : t.Idx)
    (e : Host.reduce IntOp.andi (cmpf .olt (Host.absf x) (broadcastInDim s ![] hb (constant Cert.Pre_finite2.S_ .f32 0x7F800000#32))) init h hu j = 1#1)
    (i : s.Idx) : IsR (x i) := by
  have h1 := Host.reduce_andi_all _ _ _ _ j e i
  have h2 : Ideal.ofBits .f32 0x7F800000#32 = ⊤ := by simp [Ideal.ofBits, Ideal.ieee]
  refine isR_of_abs_lt_top ?_
  rw [← h2]
  by_contra hn
  revert h1
  show ¬ (BitVec.ofBool (decide (max (x i) (-(x i)) < Ideal.ofBits .f32 0x7F800000#32)) = 1#1)
  rw [decide_eq_false hn]
  decide

attribute [local instance] Cert.Pre_finite2.Gen.facts in
/-- The seven arrays the claim's sums run over are real. -/
theorem finite_real (a0 : FVec Ideal Cert.Pre_finite2.S8x4096x1024 .f32) (a1 : FVec Ideal Cert.Pre_finite2.S8x256x1024 .f32)
    (a2 a3 : FVec Ideal Cert.Pre_finite2.S1x1024 .f32) (a4 : FVec Ideal Cert.Pre_finite2.S1x1024x1024 .f32) (a5 : FVec Ideal Cert.Pre_finite2.S1x1024x2048 .f32)
    (a6 : FVec Ideal Cert.Pre_finite2.S1x1024x1024 .f32) (a7 a8 : FVec Ideal Cert.Pre_finite2.S1x1024x2816 .f32) (a9 : FVec Ideal Cert.Pre_finite2.S1x2816x1024 .f32)
    (e : Cert.Pre_finite2.fn (F := Ideal) a0 a1 a2 a3 a4 a5 a6 a7 a8 a9 = fun _ => 1#1) :
    (∀ i, IsR (a0 i)) ∧ (∀ i, IsR (a1 i)) ∧ (∀ i, IsR (a2 i)) ∧ (∀ i, IsR (a3 i)) ∧ (∀ i, IsR (a4 i)) ∧ (∀ i, IsR (a5 i)) ∧ (∀ i, IsR (a6 i)) := by
  haveI : Subsingleton Cert.Pre_finite2.S_.Idx := ⟨fun a b => funext fun k => k.elim0⟩
  have e' := congrFun e (fun k => k.elim0)
  unfold Cert.Pre_finite2.fn Cert.Pre_finite2.fn_part1 at e'
  obtain ⟨e', h6⟩ := IntOp.andi_eq_one.1 e'
  obtain ⟨e', h5⟩ := IntOp.andi_eq_one.1 e'
  obtain ⟨e', h4⟩ := IntOp.andi_eq_one.1 e'
  obtain ⟨e', h3⟩ := IntOp.andi_eq_one.1 e'
  obtain ⟨e', h2⟩ := IntOp.andi_eq_one.1 e'
  obtain ⟨h0, h1⟩ := IntOp.andi_eq_one.1 e'
  exact ⟨real_of_all a0 _ _ _ _ _ h0, real_of_all a1 _ _ _ _ _ h1, real_of_all a2 _ _ _ _ _ h2, real_of_all a3 _ _ _ _ _ h3,
    real_of_all a4 _ _ _ _ _ h4, real_of_all a5 _ _ _ _ _ h5, real_of_all a6 _ _ _ _ _ h6⟩

end Cert.Cross

end
-- ==== Proof.CrossClaims.lean ====
/- The claims about the cross-attention call. -/
module

public import proofs.«01_k».proof.Defs
public import proofs.«01_k».proof.Proof.CrossValue
public import proofs.«01_k».proof.Proof.CrossReference
public import proofs.«01_k».proof.Proof.CrossFinite
public import proofs.«01_k».proof.Proof.Gen.Kernel2.Frame

@[expose] public section

noncomputable section

namespace Cert.Cross

open Cert.Rows Idealize.ShloMosaic Idealize.ShloMosaic.TcCoe Idealize.SL.Sem

theorem frame_p : Cert.quiescent_Kernel2 (hKernel2 := Cert.Kernel2.Gen.facts) := fun m ρ _ => Cert.Kernel2.Gen.frame m ρ

theorem frame_pi : Cert.quiescent_Kernel2Ideal (hKernel2Ideal := Cert.Kernel2Ideal.Gen.facts) := fun m ρ _ => Cert.Kernel2Ideal.Gen.frame m ρ

theorem frame_pi_finite : Cert.quiescent_Kernel2Ideal_pre_finite2 (hKernel2Ideal := Cert.Kernel2Ideal.Gen.facts) (hPre_finite2 := Cert.Pre_finite2.Gen.facts) :=
  fun m ρ _ => Cert.Kernel2Ideal.Gen.frame m ρ

theorem frame_ri : Cert.quiescent_Reference2Ideal (hReference2Ideal := Cert.Reference2Ideal.Gen.facts) := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)

theorem frame_ri_finite : Cert.quiescent_Reference2Ideal_pre_finite2 (hReference2Ideal := Cert.Reference2Ideal.Gen.facts) (hPre_finite2 := Cert.Pre_finite2.Gen.facts) :=
  fun m ρ _ => frame_ri m ρ trivial

theorem preserves : Cert.preserves_Kernel2_Kernel2Ideal := trivial

/-- The first results at equal arguments with real entries. -/
theorem same (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (hp : Cert.Pre_Kernel2Ideal_finite2 (hPre_finite2 := Cert.Pre_finite2.Gen.facts) m)
    (h0 : m' (c.tc.loc Cert.Reference2Ideal.main_arg0) = m (c.tc.loc Cert.Kernel2Ideal.main_arg0))
    (h1 : m' (c.tc.loc Cert.Reference2Ideal.main_arg1) = m (c.tc.loc Cert.Kernel2Ideal.main_arg1))
    (h2 : m' (c.tc.loc Cert.Reference2Ideal.main_arg2) = m (c.tc.loc Cert.Kernel2Ideal.main_arg2))
    (h3 : m' (c.tc.loc Cert.Reference2Ideal.main_arg3) = m (c.tc.loc Cert.Kernel2Ideal.main_arg3))
    (h4 : m' (c.tc.loc Cert.Reference2Ideal.main_arg4) = m (c.tc.loc Cert.Kernel2Ideal.main_arg4))
    (h5 : m' (c.tc.loc Cert.Reference2Ideal.main_arg5) = m (c.tc.loc Cert.Kernel2Ideal.main_arg5))
    (h6 : m' (c.tc.loc Cert.Reference2Ideal.main_arg6) = m (c.tc.loc Cert.Kernel2Ideal.main_arg6)) :
    Cert.Reference2Ideal.Value.res_out0 m' c = result m c := by
  funext i
  have hi : i = ix3 (n0 := 8) (n1 := 4096) (n2 := 1024) (i 0) (i 1) (i 2) := by funext a; fin_cases a <;> rfl
  rw [hi]
  refine (reference_apply m' c (i 0) (i 1) (i 2)).trans ?_
  rw [h0, h1, h2, h3, h4, h5, h6]
  obtain ⟨r0, r1, r2, r3, r4, r5, r6⟩ := finite_real _ _ _ _ _ _ _ _ _ _ (hp c)
  exact (folded_eq (fun k d => IsR.rms (fun d => r1 _) (fun d => r3 _) d) (fun d j => r5 _) (fun d j => r4 _) (fun j e => r6 _)
    (fun d => IsR.rms (fun d => r0 _) (fun d => r2 _) d) _ _).symm

theorem algebraic : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m ρ m' ρ' hp hagree
  refine ⟨fun c => result m c, fun c => gateSlices m c, fun c => upSlices m c, fun c => downSlices m c,
    (θ_run Cert.Kernel2Ideal.defs _ _).mono (fun r h c => ?_) (Cert.Kernel2Ideal.Value.run_blocks (F := Ideal) m ρ), ?_⟩
  · obtain ⟨q0, q1, q2, q3, q⟩ := h c
    exact ⟨q0.trans (final m c), q1.trans (final11 m c), q2.trans (final12 m c), q3.trans (final13 m c), q⟩
  refine (θ_run Cert.Reference2Ideal.defs _ _).mono (fun _ h c => ?_) (Cert.Reference2Ideal.Value.run (F := Ideal) m' ρ')
  obtain ⟨h0, h1, h2, h3, h4, h5, h6, h7, h8, h9⟩ := hagree c
  obtain ⟨q0, q1, q2, q3, q⟩ := h c
  refine ⟨q0.trans (same m m' c hp h0 h1 h2 h3 h4 h5 h6), q1.trans ?_, q2.trans ?_, q3.trans ?_, q⟩
  · rw [h7]; rfl
  · rw [h8]; rfl
  · rw [h9]; rfl

end Cert.Cross

end
-- ==== Proof.MixReal.lean ====
/- The retention over real numbers: the state one token at a time, and what a chunk of tokens makes of it. -/
module

public import proofs.«01_k».proof.Proof.Reals

@[expose] public section

noncomputable section

namespace Cert.Mix

/-- The decay of head `h`. -/
def gam (h : ℕ) : ℝ := 1 - 1 / 2 ^ (5 + h)

theorem gam_pos (h : ℕ) : 0 < gam h := by
  unfold gam
  have h1 : (2 : ℝ) ≤ 2 ^ (5 + h) := by
    calc (2 : ℝ) = 2 ^ 1 := by norm_num
      _ ≤ 2 ^ (5 + h) := pow_le_pow_right₀ (by norm_num) (by omega)
  have h2 : (1 : ℝ) / 2 ^ (5 + h) ≤ 1 / 2 := one_div_le_one_div_of_le (by norm_num) h1
  linarith

/-- Entry `d` of the state before token `n`, for one value column. -/
def state (g : ℝ) (k : ℕ → Fin 128 → ℝ) (v : ℕ → ℝ) : ℕ → Fin 128 → ℝ
  | 0, _ => 0
  | n + 1, d => g * state g k v n d + k n d * v n

/-- Token `n`'s result: its query on the state that includes it. -/
def ret (g : ℝ) (q k : ℕ → Fin 128 → ℝ) (v : ℕ → ℝ) (n : ℕ) : ℝ := ∑ d, q n d * state g k v (n + 1) d

variable (g : ℝ) (q k : ℕ → Fin 128 → ℝ) (v : ℕ → ℝ)

/-- The state a chunk of `C` tokens on. -/
theorem state_chunk (n : ℕ) (d : Fin 128) : ∀ C : ℕ,
    state g k v (n + C) d = g ^ C * state g k v n d + ∑ j ∈ Finset.range C, (k (n + j) d * g ^ (C - 1 - j)) * v (n + j)
  | 0 => by simp
  | C + 1 => by
    rw [← Nat.add_assoc, state, state_chunk n d C, Finset.sum_range_succ, mul_add, Finset.mul_sum]
    have : ∀ j ∈ Finset.range C, g * (k (n + j) d * g ^ (C - 1 - j) * v (n + j)) = k (n + j) d * g ^ (C + 1 - 1 - j) * v (n + j) := by
      intro j hj
      have hj := Finset.mem_range.1 hj
      rw [show C + 1 - 1 - j = (C - 1 - j) + 1 by omega, pow_succ]
      ring
    rw [Finset.sum_congr rfl this, show C + 1 - 1 - C = 0 by omega]
    ring

/-- How far key `j` has decayed at query `i`: not seen before its time. -/
def mask (i j : ℕ) : ℝ := if j ≤ i then g ^ (i - j) else 0

/-- A token's result from its chunk's scores and the state before the chunk. -/
theorem ret_chunk (n C i : ℕ) (hi : i < C) :
    (∑ j ∈ Finset.range C, ((∑ d, q (n + i) d * k (n + j) d) * mask g i j) * v (n + j))
      + (∑ d, q (n + i) d * state g k v n d) * g ^ (i + 1) = ret g q k v (n + i) := by
  unfold ret
  rw [show n + i + 1 = n + (i + 1) from rfl]
  simp only [state_chunk g k v n _ (i + 1), mul_add, Finset.sum_add_distrib]
  have e1 : ∑ j ∈ Finset.range C, ((∑ d, q (n + i) d * k (n + j) d) * mask g i j) * v (n + j)
      = ∑ j ∈ Finset.range (i + 1), ((∑ d, q (n + i) d * k (n + j) d) * g ^ (i - j)) * v (n + j) := by
    rw [← Finset.sum_subset (Finset.range_subset_range.2 (show i + 1 ≤ C by omega))]
    · refine Finset.sum_congr rfl fun j hj => ?_
      have hj := Finset.mem_range.1 hj
      rw [mask, if_pos (by omega)]
    · intro j _ hj
      rw [Finset.mem_range] at hj
      rw [mask, if_neg (by omega), mul_zero, zero_mul]
  rw [e1, add_comm]
  congr 1
  · rw [Finset.sum_mul]
    exact Finset.sum_congr rfl fun d _ => by ring
  · simp only [Finset.sum_mul, Finset.mul_sum]
    rw [Finset.sum_comm]
    exact Finset.sum_congr rfl fun d _ => Finset.sum_congr rfl fun j _ => by
      rw [show i + 1 - 1 - j = i - j by omega]; ring

end Cert.Mix

end
-- ==== Proof.MixRows.lean ====
/- A token's row of the retention's branch: the group norm of a head, the gates, the merge and the output projection. -/
module

public import proofs.«01_k».proof.Proof.CrossRows
public import proofs.«01_k».proof.Proof.MixReal

@[expose] public section

noncomputable section

namespace Cert.Mix

open Cert.Rows Idealize.ShloMosaic

/-- The mean of a head's 256 columns. -/
def mean (y : Fin 256 → EReal) : EReal := Ideal.div (∑ j, y j) (Ideal.ofBits .f32 0x43800000#32)

/-- A head's group norm. -/
def grp (y : Fin 256 → EReal) (e : Fin 256) : EReal :=
  (y e - mean y) * Ideal.rsqrt (Ideal.div (∑ j, (y j - mean y) * (y j - mean y)) (Ideal.ofBits .f32 0x43800000#32) + Ideal.ofBits .f32 0x358637BD#32)

/-- The gate of a number. -/
def swish (a : EReal) : EReal := a * logistic a

/-- A row of four heads, each normed, times its gates. -/
def gated (h : Fin 1024 → EReal) (w : Fin 1024 → Fin 6656 → EReal) (y : Fin 1024 → EReal) (c : Fin 1024) : EReal :=
  grp (fun j => y (headCol c j)) ⟨c % 256, by omega⟩ * swish (∑ d, h d * w d ⟨3584 + c, by omega⟩)

/-- The two branches merged by their gates. -/
def merged (h : Fin 1024 → EReal) (w : Fin 1024 → Fin 6656 → EReal) (ya : Fin 512 → EReal) (wa : Fin 512 → Fin 1024 → EReal)
    (yb : Fin 1024 → EReal) (wb : Fin 1024 → Fin 1024 → EReal) (c : Fin 1024) : EReal :=
  logistic (∑ d, h d * w d ⟨4608 + c, by omega⟩) * (∑ k, ya k * wa k c)
    + logistic (∑ d, h d * w d ⟨5632 + c, by omega⟩) * (∑ k, yb k * wb k c)

/-- A result row, from the retention's row `y`. -/
def mixRow (x g : Fin 1024 → EReal) (w : Fin 1024 → Fin 6656 → EReal) (ya : Fin 512 → EReal) (wa : Fin 512 → Fin 1024 → EReal)
    (wb wo : Fin 1024 → Fin 1024 → EReal) (y : Fin 1024 → EReal) (e : Fin 1024) : EReal :=
  x e + ∑ c, merged (rms x g) w ya wa (gated (rms x g) w y) wb c * wo c e

end Cert.Mix

end
-- ==== Proof.MixKernel.lean ====
/- The values the retention kernel computes, entry by entry. -/
module

public import proofs.«01_k».proof.Proof.MixRows
public import proofs.«01_k».proof.Proof.Gen.Kernel3Ideal.Skeleton
public import Idealize.ShloMosaic.Lib.Pointwise
public import Idealize.ShloMosaic.Lib.Pipeline.ValueKit

@[expose] public section

set_option maxRecDepth 16384

noncomputable section

namespace Cert.Mix

open Cert.Kernel3Ideal Cert.Kernel3Ideal.Gen Cert.Rows Idealize.ShloMosaic Idealize.ShloMosaic.TcCoe

/-! The scores of a chunk and a head. -/

section
variable (q : Vec Ideal S1x256x128 .bf16) (k : Vec Ideal S1x1x128x256 .bf16) (i j : Fin 256)

theorem att0 : k0_pay5 q k (ix2 i j) = ∑ d, q (ix3 0 i d) * k (ix4 0 0 d j) := by pointwise [k0_pay5]
theorem att1 : k0_pay6 q k (ix2 i j) = ∑ d, q (ix3 0 i d) * k (ix4 0 0 d j) := by pointwise [k0_pay6]
theorem att2 : k0_pay7 q k (ix2 i j) = ∑ d, q (ix3 0 i d) * k (ix4 0 0 d j) := by pointwise [k0_pay7]
theorem att3 : k0_pay8 q k (ix2 i j) = ∑ d, q (ix3 0 i d) * k (ix4 0 0 d j) := by pointwise [k0_pay8]
theorem att4 : k0_pay9 q k (ix2 i j) = ∑ d, q (ix3 0 i d) * k (ix4 0 0 d j) := by pointwise [k0_pay9]
theorem att5 : k0_pay10 q k (ix2 i j) = ∑ d, q (ix3 0 i d) * k (ix4 0 0 d j) := by pointwise [k0_pay10]
theorem att6 : k0_pay12 (k0_pay11 q) k (ix2 i j) = ∑ d, q (ix3 0 i d) * k (ix4 0 0 d j) := by pointwise [k0_pay12, k0_pay11]
theorem att7 : k0_pay13 q k (ix2 i j) = ∑ d, q (ix3 0 i d) * k (ix4 0 0 d j) := by pointwise [k0_pay13]
end

/-! What a chunk adds to a head's state. -/

section
variable (k : Vec Ideal S1x1x128x256 .bf16) (v : Vec Ideal S1x256x256 .bf16) (d : Fin 128) (e : Fin 256)

theorem kv0 : k0_pay14 k v (ix2 d e) = ∑ j, k (ix4 0 0 d j) * v (ix3 0 j e) := by pointwise [k0_pay14]
theorem kv1 : k0_pay15 k v (ix2 d e) = ∑ j, k (ix4 0 0 d j) * v (ix3 0 j e) := by pointwise [k0_pay15]
theorem kv2 : k0_pay16 k v (ix2 d e) = ∑ j, k (ix4 0 0 d j) * v (ix3 0 j e) := by pointwise [k0_pay16]
theorem kv3 : k0_pay17 k v (ix2 d e) = ∑ j, k (ix4 0 0 d j) * v (ix3 0 j e) := by pointwise [k0_pay17]
theorem kv4 : k0_pay18 k v (ix2 d e) = ∑ j, k (ix4 0 0 d j) * v (ix3 0 j e) := by pointwise [k0_pay18]
theorem kv5 : k0_pay19 k v (ix2 d e) = ∑ j, k (ix4 0 0 d j) * v (ix3 0 j e) := by pointwise [k0_pay19]
theorem kv6 : k0_pay20 k v (ix2 d e) = ∑ j, k (ix4 0 0 d j) * v (ix3 0 j e) := by pointwise [k0_pay20]
theorem kv7 : k0_pay23 (k0_pay21 k) (k0_pay22 v) (constant S128x256 .f32 0x00000000#32) (ix2 d e)
    = ∑ j, k (ix4 0 0 d j) * v (ix3 0 j e) := by pointwise [k0_pay23, k0_pay21, k0_pay22]
end

/-! A head's state, before and after each of the two chunks of a step. -/

/-- The 256th power of head `h`'s decay. -/
def decayed (h : Fin 4) : EReal := ((gam h ^ 256 : ℝ) : EReal)

theorem decay0_eq : (Named.named κ "decay0" 0x399ACCA1#32 : Ideal .f32) = decayed 0 := by
  show ((_ : ℝ) : EReal) = ((_ : ℝ) : EReal)
  congr 1
  show _ = gam 0 ^ 256
  unfold gam
  norm_num

theorem decay1_eq : (Named.named κ "decay1" 0x3C9160A5#32 : Ideal .f32) = decayed 1 := by
  show ((_ : ℝ) : EReal) = ((_ : ℝ) : EReal)
  congr 1
  show _ = gam 1 ^ 256
  unfold gam
  norm_num

theorem decay2_eq : (Named.named κ "decay2" 0x3E097FCE#32 : Ideal .f32) = decayed 2 := by
  show ((_ : ℝ) : EReal) = ((_ : ℝ) : EReal)
  congr 1
  show _ = gam 2 ^ 256
  unfold gam
  norm_num

theorem decay3_eq : (Named.named κ "decay3" 0x3EBBFC5D#32 : Ideal .f32) = decayed 3 := by
  show ((_ : ℝ) : EReal) = ((_ : ℝ) : EReal)
  congr 1
  show _ = gam 3 ^ 256
  unfold gam
  norm_num

section
variable (s : Vec Ideal S1x128x256 .f32) (a b : FVec Ideal S128x256 .f32) (q : Vec Ideal S1x256x128 .bf16) (i : Fin 256) (d : Fin 128) (e : Fin 256)

/-- A head's state after one chunk. -/
abbrev after1 (h : Fin 4) (d : Fin 128) (e : Fin 256) : EReal := decayed h * s (ix3 0 d e) + a (ix2 d e)

theorem cross0_0 : k0_pay26 s q (ix2 i e) = ∑ d, q (ix3 0 i d) * s (ix3 0 d e) := by pointwise [k0_pay26, k0_pay25]
theorem cross1_0 : k0_pay28 a s q (ix2 i e) = ∑ d, q (ix3 0 i d) * after1 s a 0 d e := by
  simp only [after1]; pointwise [k0_pay28, k0_pay27, k0_pay25, decay0_eq]
theorem next_0 : k0_pay29 a b s (ix3 0 d e) = decayed 0 * after1 s a 0 d e + b (ix2 d e) := by
  simp only [after1]; pointwise [k0_pay29, k0_pay27, k0_pay25, decay0_eq]
theorem cross0_1 : k0_pay31 s q (ix2 i e) = ∑ d, q (ix3 0 i d) * s (ix3 0 d e) := by pointwise [k0_pay31, k0_pay30]
theorem cross1_1 : k0_pay33 (k0_pay32 a s) q (ix2 i e) = ∑ d, q (ix3 0 i d) * after1 s a 1 d e := by
  simp only [after1]; pointwise [k0_pay33, k0_pay32, k0_pay30, decay1_eq]
theorem next_1 : k0_pay34 b (k0_pay32 a s) (ix3 0 d e) = decayed 1 * after1 s a 1 d e + b (ix2 d e) := by
  simp only [after1]; pointwise [k0_pay34, k0_pay32, k0_pay30, decay1_eq]
theorem cross0_2 : k0_pay36 s q (ix2 i e) = ∑ d, q (ix3 0 i d) * s (ix3 0 d e) := by pointwise [k0_pay36, k0_pay35]
theorem cross1_2 : k0_pay38 a s q (ix2 i e) = ∑ d, q (ix3 0 i d) * after1 s a 2 d e := by
  simp only [after1]; pointwise [k0_pay38, k0_pay37, k0_pay35, decay2_eq]
theorem next_2 : k0_pay39 a b s (ix3 0 d e) = decayed 2 * after1 s a 2 d e + b (ix2 d e) := by
  simp only [after1]; pointwise [k0_pay39, k0_pay37, k0_pay35, decay2_eq]
theorem cross0_3 : k0_pay41 (k0_pay40 s) q (ix2 i e) = ∑ d, q (ix3 0 i d) * s (ix3 0 d e) := by pointwise [k0_pay41, k0_pay40]
theorem cross1_3 : k0_pay43 a (k0_pay40 s) q (ix2 i e) = ∑ d, q (ix3 0 i d) * after1 s a 3 d e := by
  simp only [after1]; pointwise [k0_pay43, k0_pay42, k0_pay40, decay3_eq]
theorem next_3 : k0_pay44 a b (k0_pay40 s) (ix3 0 d e) = decayed 3 * after1 s a 3 d e + b (ix2 d e) := by
  simp only [after1]; pointwise [k0_pay44, k0_pay42, k0_pay40, decay3_eq]
end

/-! A chunk's rows of a head, normed and gated. -/

/-- A chunk's row of one head, before the norm. -/
def rowY (A C : FVec Ideal S256x256 .f32) (D Q : Vec Ideal S1x256x256 .f32) (v : Vec Ideal S1x256x256 .bf16) (r e : Fin 256) : EReal :=
  (∑ j, (A (ix2 r j) * D (ix3 0 r j)) * v (ix3 0 j e)) + C (ix2 r e) * Q (ix3 0 r e)

section
variable (A C : FVec Ideal S256x256 .f32) (G : FVec Ideal S512x1024 .f32) (D Q : Vec Ideal S1x256x256 .f32) (v : Vec Ideal S1x256x256 .bf16) (r e : Fin 256)

theorem unit0 : k0_pay47 C (k0_pay45 G) (k0_pay46 A D v) Q (ix2 r e)
    = grp (rowY A C D Q v r) e * swish (G (ix2 ⟨0 + r, by omega⟩ ⟨0 + e, by omega⟩)) := by
  pointwise [k0_pay47, k0_pay46, k0_pay45, grp, mean, swish, Rows.logistic, rowY]
  simp only [sub_eq_add_neg, zero_add]
theorem unit1 : k0_pay50 C (k0_pay45 G) (k0_pay49 A D v) Q (ix2 r e)
    = grp (rowY A C D Q v r) e * swish (G (ix2 ⟨0 + r, by omega⟩ ⟨256 + e, by omega⟩)) := by
  pointwise [k0_pay50, k0_pay49, k0_pay45, grp, mean, swish, Rows.logistic, rowY]
  simp only [sub_eq_add_neg, zero_add]
theorem unit2 : k0_pay53 A C (k0_pay45 G) D v Q (ix2 r e)
    = grp (rowY A C D Q v r) e * swish (G (ix2 ⟨0 + r, by omega⟩ ⟨512 + e, by omega⟩)) := by
  pointwise [k0_pay53, k0_pay45, grp, mean, swish, Rows.logistic, rowY]
  simp only [sub_eq_add_neg, zero_add]
theorem unit3 : k0_pay55 A C (k0_pay45 G) D v Q (ix2 r e)
    = grp (rowY A C D Q v r) e * swish (G (ix2 ⟨0 + r, by omega⟩ ⟨768 + e, by omega⟩)) := by
  pointwise [k0_pay55, k0_pay45, grp, mean, swish, Rows.logistic, rowY]
  simp only [sub_eq_add_neg, zero_add]
theorem unit4 : k0_pay59 A C (k0_pay45 G) D v Q (ix2 r e)
    = grp (rowY A C D Q v r) e * swish (G (ix2 ⟨256 + r, by omega⟩ ⟨0 + e, by omega⟩)) := by
  pointwise [k0_pay59, k0_pay45, grp, mean, swish, Rows.logistic, rowY]
  simp only [sub_eq_add_neg, zero_add]
theorem unit5 : k0_pay61 A C (k0_pay45 G) D v Q (ix2 r e)
    = grp (rowY A C D Q v r) e * swish (G (ix2 ⟨256 + r, by omega⟩ ⟨256 + e, by omega⟩)) := by
  pointwise [k0_pay61, k0_pay45, grp, mean, swish, Rows.logistic, rowY]
  simp only [sub_eq_add_neg, zero_add]
theorem unit6 : k0_pay65 A C (k0_pay45 G) D v Q (ix2 r e)
    = grp (rowY A C D Q v r) e * swish (G (ix2 ⟨256 + r, by omega⟩ ⟨512 + e, by omega⟩)) := by
  pointwise [k0_pay65, k0_pay45, grp, mean, swish, Rows.logistic, rowY]
  simp only [sub_eq_add_neg, zero_add]
theorem unit7 : k0_pay67 A C (k0_pay45 G) D v Q (ix2 r e)
    = grp (rowY A C D Q v r) e * swish (G (ix2 ⟨256 + r, by omega⟩ ⟨768 + e, by omega⟩)) := by
  pointwise [k0_pay67, k0_pay45, grp, mean, swish, Rows.logistic, rowY]
  simp only [sub_eq_add_neg, zero_add]
end

/-! The columns of the branches and their gates. -/

section
variable (y : Vec Ideal S1x512x512 .bf16) (a : Vec Ideal S512x256 .bf16) (h : FVec Ideal S512x1024 .bf16) (w : Vec Ideal S1024x256 .bf16) (r : Fin 512) (c : Fin 256)

theorem branch48 : k0_pay48 y a (ix2 r c) = ∑ k, y (ix3 0 r k) * a (ix2 k c) := by pointwise [k0_pay48]
theorem branch51 : k0_pay51 y a (ix2 r c) = ∑ k, y (ix3 0 r k) * a (ix2 k c) := by pointwise [k0_pay51]
theorem branch52 : k0_pay52 y a (ix2 r c) = ∑ k, y (ix3 0 r k) * a (ix2 k c) := by pointwise [k0_pay52]
theorem branch54 : k0_pay54 y a (ix2 r c) = ∑ k, y (ix3 0 r k) * a (ix2 k c) := by pointwise [k0_pay54]
theorem gate56 : k0_pay56 h w (ix2 r c) = ∑ d, h (ix2 r d) * w (ix2 d c) := by pointwise [k0_pay56, k0_pay57, k0_pay63]
theorem gate58 : k0_pay58 h (k0_pay57 w) (ix2 r c) = ∑ d, h (ix2 r d) * w (ix2 d c) := by pointwise [k0_pay58, k0_pay57, k0_pay63]
theorem gate60 : k0_pay60 h w (ix2 r c) = ∑ d, h (ix2 r d) * w (ix2 d c) := by pointwise [k0_pay60, k0_pay57, k0_pay63]
theorem gate62 : k0_pay62 h w (ix2 r c) = ∑ d, h (ix2 r d) * w (ix2 d c) := by pointwise [k0_pay62, k0_pay57, k0_pay63]
theorem gate64 : k0_pay64 h (k0_pay63 w) (ix2 r c) = ∑ d, h (ix2 r d) * w (ix2 d c) := by pointwise [k0_pay64, k0_pay57, k0_pay63]
theorem gate66 : k0_pay66 h w (ix2 r c) = ∑ d, h (ix2 r d) * w (ix2 d c) := by pointwise [k0_pay66, k0_pay57, k0_pay63]
theorem gate68 : k0_pay68 h w (ix2 r c) = ∑ d, h (ix2 r d) * w (ix2 d c) := by pointwise [k0_pay68, k0_pay57, k0_pay63]
end

section
variable (x v : Vec Ideal S1x512x1024 .f32) (g : Vec Ideal S1x1024 .f32) (r : Fin 512) (c : Fin 1024) (w : Vec Ideal S1024x1024 .bf16)

theorem row4 : k0_pay4 x g (ix2 r c) = rms (fun d => x (ix3 0 r d)) (fun d => g (ix2 0 d)) c := by
  pointwise [k0_pay4, k0_pay3, rms]
theorem gate24 (h : FVec Ideal S512x1024 .bf16) : k0_pay24 h w (ix2 r c) = ∑ d, h (ix2 r d) * w (ix2 d c) := by pointwise [k0_pay24]
end

/-! The merged branches and the result's rows. -/

section
variable (a b c d : FVec Ideal S512x256 .f32) (h : FVec Ideal S512x1024 .bf16) (w : Vec Ideal S1024x256 .bf16) (r : Fin 512) (j : Fin 1024)

/-- Four pieces of 256 columns side by side. -/
def beside (a b c d : FVec Ideal S512x256 .f32) (r : Fin 512) (j : Fin 1024) : EReal :=
  (![a, b, c, d] : Fin 4 → FVec Ideal S512x256 .f32) ⟨j / 256, by omega⟩ (ix2 r ⟨j % 256, by omega⟩)

theorem cat70 : k0_pay70 a b c d (ix2 r j) = beside a b c d r j := by
  unfold beside k0_pay70
  have hj := j.isLt
  have hd : (j : ℕ) / 256 = 0 ∨ (j : ℕ) / 256 = 1 ∨ (j : ℕ) / 256 = 2 ∨ (j : ℕ) / 256 = 3 := by omega
  rcases hd with hd | hd | hd | hd <;> simp only [hd]
  · refine concatenate_apply_piece (t := S512x1024) 1 [⟨S512x256, a⟩, ⟨S512x256, b⟩, ⟨S512x256, c⟩, ⟨S512x256, d⟩] _ _ 0 (show 0 < 4 by decide) S512x256 a rfl rfl 0 rfl _ (fun b hb => ?_) ?_
    · fin_cases b <;> simp_all
    · show _ + (j : ℕ) % 256 = j; omega
  · refine concatenate_apply_piece (t := S512x1024) 1 [⟨S512x256, a⟩, ⟨S512x256, b⟩, ⟨S512x256, c⟩, ⟨S512x256, d⟩] _ _ 1 (show 1 < 4 by decide) S512x256 b rfl rfl 256 rfl _ (fun b hb => ?_) ?_
    · fin_cases b <;> simp_all
    · show _ + (j : ℕ) % 256 = j; omega
  · refine concatenate_apply_piece (t := S512x1024) 1 [⟨S512x256, a⟩, ⟨S512x256, b⟩, ⟨S512x256, c⟩, ⟨S512x256, d⟩] _ _ 2 (show 2 < 4 by decide) S512x256 c rfl rfl 512 rfl _ (fun b hb => ?_) ?_
    · fin_cases b <;> simp_all
    · show _ + (j : ℕ) % 256 = j; omega
  · refine concatenate_apply_piece (t := S512x1024) 1 [⟨S512x256, a⟩, ⟨S512x256, b⟩, ⟨S512x256, c⟩, ⟨S512x256, d⟩] _ _ 3 (show 3 < 4 by decide) S512x256 d rfl rfl 768 rfl _ (fun b hb => ?_) ?_
    · fin_cases b <;> simp_all
    · show _ + (j : ℕ) % 256 = j; omega

theorem cat71 : k0_pay71 a b c d (ix2 r j) = beside a b c d r j := cat70 a b c d r j

theorem cat72 : k0_pay72 h a b c (k0_pay69 w) (ix2 r j) = beside a b c (k0_pay68 h w) r j := cat70 a b c (k0_pay68 h w) r j
end

section
variable (x T A B : FVec Ideal S512x1024 .f32) (t : FVec Ideal S256x1024 .f32) (y : Vec Ideal S256x1024 .bf16) (wb wo : Vec Ideal S1024x1024 .bf16) (r : Fin 256) (e : Fin 1024)

theorem late73 : k0_pay73 y wb (ix2 r e) = ∑ k, y (ix2 r k) * wb (ix2 k e) := by pointwise [k0_pay73]

theorem row76 : k0_pay76 x T A B t wo (ix2 r e)
    = x (ix2 ⟨256 + r, by omega⟩ e) + ∑ c, (Rows.logistic (A (ix2 ⟨256 + r, by omega⟩ c)) * T (ix2 ⟨256 + r, by omega⟩ c)
      + Rows.logistic (B (ix2 ⟨256 + r, by omega⟩ c)) * t (ix2 r c)) * wo (ix2 c e) := by
  pointwise [k0_pay76, Rows.logistic]
  simp only [sub_eq_add_neg, zero_add]

theorem row74 (h : FVec Ideal S512x1024 .bf16) (t0 t1 t2 t3 a0 a1 a2 a3 b0 b1 b2 : FVec Ideal S512x256 .f32) (w : Vec Ideal S1024x256 .bf16) :
    k0_pay74 x h t0 t1 t2 t3 a0 a1 a2 a3 b0 b1 b2 (k0_pay69 w) y wb wo (ix2 r e)
    = x (ix2 ⟨0 + r, by omega⟩ e) + ∑ c, (Rows.logistic (beside a0 a1 a2 a3 ⟨0 + r, by omega⟩ c) * beside t0 t1 t2 t3 ⟨0 + r, by omega⟩ c
      + Rows.logistic (beside b0 b1 b2 (k0_pay68 h w) ⟨0 + r, by omega⟩ c) * ∑ k, y (ix2 r k) * wb (ix2 k c)) * wo (ix2 c e) := by
  simp only [← cat70]
  rw [show k0_pay70 a0 a1 a2 a3 = k0_pay71 a0 a1 a2 a3 from rfl, show k0_pay70 b0 b1 b2 (k0_pay68 h w) = k0_pay72 h b0 b1 b2 (k0_pay69 w) from rfl]
  unfold k0_pay74
  generalize k0_pay71 a0 a1 a2 a3 = A
  generalize k0_pay70 t0 t1 t2 t3 = T
  generalize k0_pay72 h b0 b1 b2 (k0_pay69 w) = B
  pointwise [Rows.logistic]
  simp only [sub_eq_add_neg, zero_add]
end

end Cert.Mix

end
-- ==== Proof.MixBlock.lean ====
/- What the retention kernel leaves at a grid point: each head's state after the point's two chunks, and the result's rows. -/
module

public import proofs.«01_k».proof.Proof.CrossKernel
public import proofs.«01_k».proof.Proof.MixKernel
public import Idealize.ShloMosaic.Lib.Pipeline.ReadBack

@[expose] public section

set_option maxRecDepth 16384

noncomputable section

namespace Cert.Mix

open Cert.Kernel3Ideal Cert.Kernel3Ideal.Gen Cert.Rows Idealize.ShloMosaic Idealize.ShloMosaic.TcCoe
open Cert.Cross (canon_hit canon_miss)

/-- The four heads' states stored over what was there. -/
theorem state_apply (A0 A1 A2 A3 B0 B1 B2 B3 : FVec Ideal S128x256 .f32) (s0 s1 s2 s3 : Vec Ideal S1x128x256 .f32)
    (L : List (View.Piece (Elt Ideal) S4x128x256 .f32)) (a : Fin 4) (d : Fin 128) (e : Fin 256) :
    View.canon ((⟨Rect.unit ![3, 0, 0] ![1, 128, 256] inb_S4x128x256_S1x128x256_3_0_0, k0_pay44 A3 B3 (k0_pay40 s3)⟩ : View.Piece (Elt Ideal) S4x128x256 .f32)
      :: ⟨Rect.unit ![2, 0, 0] ![1, 128, 256] inb_S4x128x256_S1x128x256_2_0_0, k0_pay39 A2 B2 s2⟩
      :: ⟨Rect.unit ![1, 0, 0] ![1, 128, 256] inb_S4x128x256_S1x128x256_1_0_0, k0_pay34 B1 (k0_pay32 A1 s1)⟩
      :: ⟨Rect.unit ![0, 0, 0] ![1, 128, 256] inb_S4x128x256_S1x128x256_0_0_0, k0_pay29 A0 B0 s0⟩ :: L) (ix3 a d e)
    = decayed a * (decayed a * (![s0, s1, s2, s3] : Fin 4 → Vec Ideal S1x128x256 .f32) a (ix3 0 d e)
        + (![A0, A1, A2, A3] : Fin 4 → FVec Ideal S128x256 .f32) a (ix2 d e)) + (![B0, B1, B2, B3] : Fin 4 → FVec Ideal S128x256 .f32) a (ix2 d e) := by
  have at_ : ∀ (n : ℕ) (hn : (a : ℕ) = n) (b : Fin 3), ((ix3 a d e : S4x128x256.Idx) b : ℕ) = (![n, 0, 0] : Fin 3 → ℕ) b + ((ix3 0 d e : S1x128x256.Idx) b : ℕ) := by
    intro n hn b
    match b with
    | ⟨0, _⟩ => exact hn
    | ⟨1, _⟩ => exact (zero_add _).symm
    | ⟨2, _⟩ => exact (zero_add _).symm
  match a with
  | ⟨3, _⟩ => rw [canon_hit _ _ _ _ (ix3 0 d e) (at_ 3 rfl)]; exact next_3 _ _ _ _ _
  | ⟨2, _⟩ =>
    rw [canon_miss _ _ _ _ 0 (.inl (show 2 < 3 by decide)), canon_hit _ _ _ _ (ix3 0 d e) (at_ 2 rfl)]; exact next_2 _ _ _ _ _
  | ⟨1, _⟩ =>
    rw [canon_miss _ _ _ _ 0 (.inl (show 1 < 3 by decide)), canon_miss _ _ _ _ 0 (.inl (show 1 < 2 by decide)), canon_hit _ _ _ _ (ix3 0 d e) (at_ 1 rfl)]; exact next_1 _ _ _ _ _
  | ⟨0, _⟩ =>
    rw [canon_miss _ _ _ _ 0 (.inl (show 0 < 3 by decide)), canon_miss _ _ _ _ 0 (.inl (show 0 < 2 by decide)), canon_miss _ _ _ _ 0 (.inl (show 0 < 1 by decide)),
      canon_hit _ _ _ _ (ix3 0 d e) (at_ 0 rfl)]; exact next_0 _ _ _ _ _

/-! Loads of parts of a point's blocks. -/

section
variable (n : Fin 2) (h : Fin 4)

theorem ldQ (X : Vec Ideal S1x512x512 .bf16) (a b : ℕ) (io) (ha : a = n * 256) (hb : b = h * 128) (r : Fin 256) (d : Fin 128) :
    View.ld X (Rect.unit ![0, a, b] ![1, 256, 128] io) (ix3 0 r d) = X (ix3 0 ⟨n * 256 + r, by omega⟩ ⟨h * 128 + d, by omega⟩) := by
  subst ha hb
  refine congrArg X (funext fun a => Fin.ext ?_)
  match a with
  | ⟨0, _⟩ => rfl
  | ⟨1, _⟩ => show (n : ℕ) * 256 + 1 * (r : ℕ) = (n : ℕ) * 256 + (r : ℕ); omega
  | ⟨2, _⟩ => show (h : ℕ) * 128 + 1 * (d : ℕ) = (h : ℕ) * 128 + (d : ℕ); omega

theorem ldK (X : Vec Ideal S1x2x512x256 .bf16) (a b : ℕ) (io) (ha : a = n) (hb : b = h * 128) (d : Fin 128) (j : Fin 256) :
    View.ld X (Rect.unit ![0, a, b, 0] ![1, 1, 128, 256] io) (ix4 0 0 d j) = X (ix4 0 n ⟨h * 128 + d, by omega⟩ j) := by
  subst ha hb
  refine congrArg X (funext fun a => Fin.ext ?_)
  match a with
  | ⟨0, _⟩ => rfl
  | ⟨1, _⟩ => show (n : ℕ) + 1 * 0 = n; omega
  | ⟨2, _⟩ => show (h : ℕ) * 128 + 1 * (d : ℕ) = (h : ℕ) * 128 + (d : ℕ); omega
  | ⟨3, _⟩ => show 0 + 1 * (j : ℕ) = j; omega

theorem ldV (X : Vec Ideal S1x512x1024 .bf16) (a b : ℕ) (io) (ha : a = n * 256) (hb : b = h * 256) (r e : Fin 256) :
    View.ld X (Rect.unit ![0, a, b] ![1, 256, 256] io) (ix3 0 r e) = X (ix3 0 ⟨n * 256 + r, by omega⟩ ⟨h * 256 + e, by omega⟩) := by
  subst ha hb
  refine congrArg X (funext fun a => Fin.ext ?_)
  match a with
  | ⟨0, _⟩ => rfl
  | ⟨1, _⟩ => show (n : ℕ) * 256 + 1 * (r : ℕ) = (n : ℕ) * 256 + (r : ℕ); omega
  | ⟨2, _⟩ => show (h : ℕ) * 256 + 1 * (e : ℕ) = (h : ℕ) * 256 + (e : ℕ); omega

theorem ldT (X : Vec Ideal S4x256x256 .f32) (a : ℕ) (io) (ha : a = h) (r e : Fin 256) :
    View.ld X (Rect.unit ![a, 0, 0] ![1, 256, 256] io) (ix3 0 r e) = X (ix3 h r e) := by
  subst ha
  refine congrArg X (funext fun a => Fin.ext ?_)
  match a with
  | ⟨0, _⟩ => show (h : ℕ) + 1 * 0 = h; omega
  | ⟨1, _⟩ => show 0 + 1 * (r : ℕ) = r; omega
  | ⟨2, _⟩ => show 0 + 1 * (e : ℕ) = e; omega

theorem ldS (X : Vec Ideal S4x128x256 .f32) (a : ℕ) (io) (ha : a = h) (d : Fin 128) (e : Fin 256) :
    View.ld X (Rect.unit ![a, 0, 0] ![1, 128, 256] io) (ix3 0 d e) = X (ix3 h d e) := by
  subst ha
  refine congrArg X (funext fun a => Fin.ext ?_)
  match a with
  | ⟨0, _⟩ => show (h : ℕ) + 1 * 0 = h; omega
  | ⟨1, _⟩ => show 0 + 1 * (d : ℕ) = d; omega
  | ⟨2, _⟩ => show 0 + 1 * (e : ℕ) = e; omega

end

theorem ldW (X : Vec Ideal S1024x6656 .bf16) (a w : ℕ) (io) (haw : a + w ≤ 6656) (d : Fin 1024) (j : Fin w) :
    View.ld X (Rect.unit ![0, a] ![1024, w] io) (ix2 d j) = X (ix2 d ⟨a + j, by omega⟩) := by
  refine congrArg X (funext fun b => Fin.ext ?_)
  match b with
  | ⟨0, _⟩ => show 0 + 1 * (d : ℕ) = d; omega
  | ⟨1, _⟩ => show a + 1 * (j : ℕ) = a + (j : ℕ); omega

theorem ldA (X : Vec Ideal S512x1024 .bf16) (a : ℕ) (io) (ha : a + 256 ≤ 1024) (d : Fin 512) (j : Fin 256) :
    View.ld X (Rect.unit ![0, a] ![512, 256] io) (ix2 d j) = X (ix2 d ⟨a + j, by omega⟩) := by
  refine congrArg X (funext fun b => Fin.ext ?_)
  match b with
  | ⟨0, _⟩ => show 0 + 1 * (d : ℕ) = d; omega
  | ⟨1, _⟩ => show a + 1 * (j : ℕ) = a + (j : ℕ); omega

/-! The rows of a point, from its blocks and the states before it. -/

section
variable (X2 : Vec Ideal S1x512x512 .bf16) (X3 X4 : Vec Ideal S1x2x512x256 .bf16) (X5 : Vec Ideal S1x512x1024 .bf16)
  (X7 X8 : Vec Ideal S4x256x256 .f32) (S : Fin 4 → Fin 128 → Fin 256 → EReal)

/-- What chunk `n` of a point adds to a head's state. -/
def added (n : Fin 2) (h : Fin 4) (d : Fin 128) (e : Fin 256) : EReal :=
  ∑ j : Fin 256, X4 (ix4 0 n ⟨h * 128 + d, by omega⟩ j) * X5 (ix3 0 ⟨n * 256 + j, by omega⟩ ⟨h * 256 + e, by omega⟩)

/-- A head's state after a point's first chunk. -/
def half (h : Fin 4) (d : Fin 128) (e : Fin 256) : EReal := decayed h * S h d e + added X4 X5 0 h d e

/-- A head's state after a point. -/
def stepped (h : Fin 4) (d : Fin 128) (e : Fin 256) : EReal := decayed h * half X4 X5 S h d e + added X4 X5 1 h d e

/-- A head's state before chunk `n` of a point. -/
def before (n : Fin 2) (h : Fin 4) (d : Fin 128) (e : Fin 256) : EReal :=
  (![S h d e, half X4 X5 S h d e] : Fin 2 → EReal) n

/-- The retention of row `r` of chunk `n`, head `h`, column `e`. -/
def yB (n : Fin 2) (h : Fin 4) (r e : Fin 256) : EReal :=
  (∑ j : Fin 256, ((∑ d : Fin 128, X2 (ix3 0 ⟨n * 256 + r, by omega⟩ ⟨h * 128 + d, by omega⟩) * X3 (ix4 0 n ⟨h * 128 + d, by omega⟩ j)) * X7 (ix3 h r j))
      * X5 (ix3 0 ⟨n * 256 + j, by omega⟩ ⟨h * 256 + e, by omega⟩))
    + (∑ d : Fin 128, X2 (ix3 0 ⟨n * 256 + r, by omega⟩ ⟨h * 128 + d, by omega⟩) * before X4 X5 S n h d e) * X8 (ix3 h r e)

/-- The retention's row of a point's token. -/
def yRow (s : Fin 512) (c : Fin 1024) : EReal :=
  yB X2 X3 X4 X5 X7 X8 S ⟨s / 256, by omega⟩ ⟨c / 256, by omega⟩ ⟨s % 256, by omega⟩ ⟨c % 256, by omega⟩

theorem row_unit (n : Fin 2) (h : Fin 4) (A C : FVec Ideal S256x256 .f32) (D Q : Vec Ideal S1x256x256 .f32) (v : Vec Ideal S1x256x256 .bf16) (r : Fin 256)
    (hA : ∀ j, A (ix2 r j) = ∑ d : Fin 128, X2 (ix3 0 ⟨n * 256 + r, by omega⟩ ⟨h * 128 + d, by omega⟩) * X3 (ix4 0 n ⟨h * 128 + d, by omega⟩ j))
    (hC : ∀ e, C (ix2 r e) = ∑ d : Fin 128, X2 (ix3 0 ⟨n * 256 + r, by omega⟩ ⟨h * 128 + d, by omega⟩) * before X4 X5 S n h d e)
    (hD : ∀ j, D (ix3 0 r j) = X7 (ix3 h r j)) (hQ : ∀ j, Q (ix3 0 r j) = X8 (ix3 h r j))
    (hv : ∀ j e, v (ix3 0 j e) = X5 (ix3 0 ⟨n * 256 + j, by omega⟩ ⟨h * 256 + e, by omega⟩)) :
    rowY A C D Q v r = yB X2 X3 X4 X5 X7 X8 S n h r := by
  funext e
  simp only [rowY, yB, hA, hC, hD, hQ, hv]

end

/-! The eight units stored side by side, and the two halves of the result. -/

theorem yb_apply (F : Fin 2 → Fin 4 → Fin 256 → Fin 256 → EReal) (u00 u01 u02 u03 u10 u11 u12 u13 : FVec Ideal S256x256 .bf16)
    (h00 : ∀ r e, u00 (ix2 r e) = F 0 0 r e) (h01 : ∀ r e, u01 (ix2 r e) = F 0 1 r e) (h02 : ∀ r e, u02 (ix2 r e) = F 0 2 r e) (h03 : ∀ r e, u03 (ix2 r e) = F 0 3 r e)
    (h10 : ∀ r e, u10 (ix2 r e) = F 1 0 r e) (h11 : ∀ r e, u11 (ix2 r e) = F 1 1 r e) (h12 : ∀ r e, u12 (ix2 r e) = F 1 2 r e) (h13 : ∀ r e, u13 (ix2 r e) = F 1 3 r e)
    (i00 i01 i02 i03 i10 i11 i12 i13) (s : Fin 512) (c : Fin 1024) (y : S512x1024.Idx) (hy0 : (y 0 : ℕ) = s) (hy1 : (y 1 : ℕ) = c) :
    View.canon ((⟨Rect.unit ![256, 768] ![256, 256] i13, u13⟩ : View.Piece (Elt Ideal) S512x1024 .bf16) :: ⟨Rect.unit ![256, 512] ![256, 256] i12, u12⟩
      :: ⟨Rect.unit ![256, 256] ![256, 256] i11, u11⟩ :: ⟨Rect.unit ![256, 0] ![256, 256] i10, u10⟩ :: ⟨Rect.unit ![0, 768] ![256, 256] i03, u03⟩
      :: ⟨Rect.unit ![0, 512] ![256, 256] i02, u02⟩ :: ⟨Rect.unit ![0, 256] ![256, 256] i01, u01⟩ :: ⟨Rect.unit ![0, 0] ![256, 256] i00, u00⟩ :: []) y
    = F ⟨s / 256, by omega⟩ ⟨c / 256, by omega⟩ ⟨s % 256, by omega⟩ ⟨c % 256, by omega⟩ := by
  have hs := s.isLt
  have hc := c.isLt
  have cs : (s : ℕ) / 256 = 0 ∨ (s : ℕ) / 256 = 1 := by omega
  have cc : (c : ℕ) / 256 = 0 ∨ (c : ℕ) / 256 = 1 ∨ (c : ℕ) / 256 = 2 ∨ (c : ℕ) / 256 = 3 := by omega
  have at_ : ∀ a b : ℕ, a + (s : ℕ) % 256 = s → b + (c : ℕ) % 256 = c → ∀ k : Fin 2, (y k : ℕ) = (![a, b] : Fin 2 → ℕ) k + ((ix2 ⟨s % 256, by omega⟩ ⟨c % 256, by omega⟩ : S256x256.Idx) k : ℕ) := by
    intro a b ha hb k
    match k with
    | ⟨0, _⟩ => exact hy0.trans ha.symm
    | ⟨1, _⟩ => exact hy1.trans hb.symm
  have m0 : ∀ a : ℕ, ((s : ℕ) < a ∨ a + 256 ≤ (s : ℕ)) → ((y 0 : ℕ) < a ∨ a + 256 ≤ (y 0 : ℕ)) := by intro a h; omega
  have m1 : ∀ a : ℕ, ((c : ℕ) < a ∨ a + 256 ≤ (c : ℕ)) → ((y 1 : ℕ) < a ∨ a + 256 ≤ (y 1 : ℕ)) := by intro a h; omega
  rcases cs with cs | cs <;> rcases cc with cc | cc | cc | cc
  · rw [canon_miss _ _ _ _ 0 (m0 256 (by omega)), canon_miss _ _ _ _ 0 (m0 256 (by omega)), canon_miss _ _ _ _ 0 (m0 256 (by omega)), canon_miss _ _ _ _ 0 (m0 256 (by omega)), canon_miss _ _ _ _ 1 (m1 768 (by omega)), canon_miss _ _ _ _ 1 (m1 512 (by omega)), canon_miss _ _ _ _ 1 (m1 256 (by omega)), canon_hit _ _ _ _ _ (at_ 0 0 (by omega) (by omega)), h00]
    simp only [cs, cc]; rfl
  · rw [canon_miss _ _ _ _ 0 (m0 256 (by omega)), canon_miss _ _ _ _ 0 (m0 256 (by omega)), canon_miss _ _ _ _ 0 (m0 256 (by omega)), canon_miss _ _ _ _ 0 (m0 256 (by omega)), canon_miss _ _ _ _ 1 (m1 768 (by omega)), canon_miss _ _ _ _ 1 (m1 512 (by omega)), canon_hit _ _ _ _ _ (at_ 0 256 (by omega) (by omega)), h01]
    simp only [cs, cc]; rfl
  · rw [canon_miss _ _ _ _ 0 (m0 256 (by omega)), canon_miss _ _ _ _ 0 (m0 256 (by omega)), canon_miss _ _ _ _ 0 (m0 256 (by omega)), canon_miss _ _ _ _ 0 (m0 256 (by omega)), canon_miss _ _ _ _ 1 (m1 768 (by omega)), canon_hit _ _ _ _ _ (at_ 0 512 (by omega) (by omega)), h02]
    simp only [cs, cc]; rfl
  · rw [canon_miss _ _ _ _ 0 (m0 256 (by omega)), canon_miss _ _ _ _ 0 (m0 256 (by omega)), canon_miss _ _ _ _ 0 (m0 256 (by omega)), canon_miss _ _ _ _ 0 (m0 256 (by omega)), canon_hit _ _ _ _ _ (at_ 0 768 (by omega) (by omega)), h03]
    simp only [cs, cc]; rfl
  · rw [canon_miss _ _ _ _ 1 (m1 768 (by omega)), canon_miss _ _ _ _ 1 (m1 512 (by omega)), canon_miss _ _ _ _ 1 (m1 256 (by omega)), canon_hit _ _ _ _ _ (at_ 256 0 (by omega) (by omega)), h10]
    simp only [cs, cc]; rfl
  · rw [canon_miss _ _ _ _ 1 (m1 768 (by omega)), canon_miss _ _ _ _ 1 (m1 512 (by omega)), canon_hit _ _ _ _ _ (at_ 256 256 (by omega) (by omega)), h11]
    simp only [cs, cc]; rfl
  · rw [canon_miss _ _ _ _ 1 (m1 768 (by omega)), canon_hit _ _ _ _ _ (at_ 256 512 (by omega) (by omega)), h12]
    simp only [cs, cc]; rfl
  · rw [canon_hit _ _ _ _ _ (at_ 256 768 (by omega) (by omega)), h13]
    simp only [cs, cc]; rfl

theorem beside_eq (F : Fin 512 → Fin 1024 → EReal) (a b c d : FVec Ideal S512x256 .f32)
    (h0 : ∀ r (j : Fin 256), a (ix2 r j) = F r ⟨0 + j, by omega⟩) (h1 : ∀ r (j : Fin 256), b (ix2 r j) = F r ⟨256 + j, by omega⟩)
    (h2 : ∀ r (j : Fin 256), c (ix2 r j) = F r ⟨512 + j, by omega⟩) (h3 : ∀ r (j : Fin 256), d (ix2 r j) = F r ⟨768 + j, by omega⟩)
    (r : Fin 512) (j : Fin 1024) : beside a b c d r j = F r j := by
  unfold beside
  have hj := j.isLt
  have hd : (j : ℕ) / 256 = 0 ∨ (j : ℕ) / 256 = 1 ∨ (j : ℕ) / 256 = 2 ∨ (j : ℕ) / 256 = 3 := by omega
  rcases hd with hd | hd | hd | hd <;> simp only [hd]
  · exact (h0 r _).trans (congrArg (F r) (Fin.ext (by show _ + (j : ℕ) % 256 = j; omega)))
  · exact (h1 r _).trans (congrArg (F r) (Fin.ext (by show _ + (j : ℕ) % 256 = j; omega)))
  · exact (h2 r _).trans (congrArg (F r) (Fin.ext (by show _ + (j : ℕ) % 256 = j; omega)))
  · exact (h3 r _).trans (congrArg (F r) (Fin.ext (by show _ + (j : ℕ) % 256 = j; omega)))

theorem out1 (v : FVec Ideal S256x1024 .f32) (r : Fin 256) (e : Fin 1024) : k0_pay1 v (ix3 0 r e) = v (ix2 r e) := by pointwise [k0_pay1]
theorem out75 (v : FVec Ideal S256x1024 .f32) (r : Fin 256) (e : Fin 1024) : k0_pay75 v (ix3 0 r e) = v (ix2 r e) := by pointwise [k0_pay75]

theorem block_apply (fx fT fA fB fy : Fin 512 → Fin 1024 → EReal) (x T A B : FVec Ideal S512x1024 .f32) (t : FVec Ideal S256x1024 .f32)
    (h : FVec Ideal S512x1024 .bf16) (t0 t1 t2 t3 a0 a1 a2 a3 b0 b1 b2 : FVec Ideal S512x256 .f32) (w : Vec Ideal S1024x256 .bf16)
    (y : Vec Ideal S256x1024 .bf16) (wb wo : Vec Ideal S1024x1024 .bf16) (i0 i1)
    (hx : ∀ r e, x (ix2 r e) = fx r e) (hT : ∀ r e, T (ix2 r e) = fT r e) (hA : ∀ r e, A (ix2 r e) = fA r e) (hB : ∀ r e, B (ix2 r e) = fB r e)
    (ht : ∀ r e, t (ix2 r e) = ∑ k, fy ⟨256 + r, by omega⟩ k * wb (ix2 k e))
    (hT' : ∀ r e, beside t0 t1 t2 t3 r e = fT r e) (hA' : ∀ r e, beside a0 a1 a2 a3 r e = fA r e) (hB' : ∀ r e, beside b0 b1 b2 (k0_pay68 h w) r e = fB r e)
    (hy : ∀ r k, y (ix2 r k) = fy ⟨0 + r, by omega⟩ k) (s : Fin 512) (e : Fin 1024) :
    View.canon ((⟨Rect.unit ![0, 256, 0] ![1, 256, 1024] i1, k0_pay1 (k0_pay76 x T A B t wo)⟩ : View.Piece (Elt Ideal) S1x512x1024 .f32)
      :: ⟨Rect.unit ![0, 0, 0] ![1, 256, 1024] i0, k0_pay75 (k0_pay74 x h t0 t1 t2 t3 a0 a1 a2 a3 b0 b1 b2 (k0_pay69 w) y wb wo)⟩ :: []) (ix3 0 s e)
    = fx s e + ∑ c, (Rows.logistic (fA s c) * fT s c + Rows.logistic (fB s c) * ∑ k, fy s k * wb (ix2 k c)) * wo (ix2 c e) := by
  have hs := s.isLt
  have at_ : ∀ (a : ℕ) (q : Fin 256), a + (q : ℕ) = s → ∀ k : Fin 3, ((ix3 0 s e : S1x512x1024.Idx) k : ℕ) = (![0, a, 0] : Fin 3 → ℕ) k + ((ix3 0 q e : S1x256x1024.Idx) k : ℕ) := by
    intro a q ha k
    match k with
    | ⟨0, _⟩ => rfl
    | ⟨1, _⟩ => exact ha.symm
    | ⟨2, _⟩ => exact (zero_add _).symm
  by_cases h1 : (s : ℕ) < 256
  · obtain ⟨q, hq⟩ : ∃ q : Fin 256, s = ⟨0 + q, by omega⟩ := ⟨⟨s, h1⟩, Fin.ext (zero_add _).symm⟩
    rw [canon_miss _ _ _ _ 1 (.inl h1), canon_hit _ _ _ _ (ix3 0 q e) (at_ 0 q (congrArg Fin.val hq).symm)]
    refine (out75 _ q e).trans ((row74 _ _ _ _ q e _ _ _ _ _ _ _ _ _ _ _ _ _).trans ?_)
    rw [hq]
    simp only [hx, hT', hA', hB', hy]
  · obtain ⟨q, hq⟩ : ∃ q : Fin 256, s = ⟨256 + q, by omega⟩ := ⟨⟨s - 256, by omega⟩, Fin.ext (by show (s : ℕ) = 256 + (s - 256); omega)⟩
    rw [canon_hit _ _ _ _ (ix3 0 q e) (at_ 256 q (congrArg Fin.val hq).symm)]
    refine (out1 _ q e).trans ((row76 _ _ _ _ _ _ q e).trans ?_)
    rw [hq]
    simp only [hx, hT, hA, hB, ht]

end Cert.Mix

end
-- ==== Proof.MixPoint.lean ====
/- The retention kernel's result block and its states at each grid point. -/
module

public import proofs.«01_k».proof.Proof.MixBlock
public import proofs.«01_k».proof.Proof.Gen.Kernel3Ideal.Frame

@[expose] public section

set_option maxRecDepth 16384

noncomputable section

namespace Cert.Mix

open Cert.Kernel3Ideal Cert.Kernel3Ideal.Gen Cert.Rows Idealize.ShloMosaic Idealize.ShloMosaic.TcCoe
open Cert.Cross (canon_hit canon_miss)

/-! A batch's first point finds zeros. -/

/-- The stored zeros. -/
abbrev zeros : FVec Ideal S4x128x256 .f32 := k0_pay2

theorem zeros_apply (h : Fin 4) (d : Fin 128) (e : Fin 256) : zeros (ix3 h d e) = 0 := by pointwise [k0_pay2]

/-- A head's part of the carried states, read after the stores `L`. -/
abbrev stRead {κ sp} (v : View sig κ sp S4x128x256 .f32) (L : List (View.Piece (Elt Ideal) S4x128x256 .f32)) (a : ℕ) (io : ∀ b, ![a, 0, 0] b + ![1, 128, 256] b ≤ S4x128x256.size b) : Vec Ideal S1x128x256 .f32 :=
  v.readCov (Val := Elt Ideal) L (Rect.toLoadRect (Rect.unit ![a, 0, 0] ![1, 128, 256] io : Rect S4x128x256))

theorem read_at {κ sp} (v : View sig κ sp S4x128x256 .f32) (L : List (View.Piece (Elt Ideal) S4x128x256 .f32)) (h : Fin 4) (a : ℕ) (io) (ha : a = h) (d : Fin 128) (e : Fin 256) :
    stRead v L a io (ix3 0 d e) = View.canon L (ix3 h d e) := by
  subst ha
  unfold stRead
  rw [View.readCov_eq_canon']
  refine congrArg (View.canon L) (funext fun a => Fin.ext ?_)
  match a with
  | ⟨0, _⟩ => show (h : ℕ) + 1 * 0 = h; omega
  | ⟨1, _⟩ => show 0 + 1 * (d : ℕ) = d; omega
  | ⟨2, _⟩ => show 0 + 1 * (e : ℕ) = e; omega

theorem zeroed (io : ∀ b, ![0, 0, 0] b + ![4, 128, 256] b ≤ S4x128x256.size b) (h : Fin 4) (d : Fin 128) (e : Fin 256) :
    View.canon [(⟨Rect.unit ![0, 0, 0] ![4, 128, 256] io, zeros⟩ : View.Piece (Elt Ideal) S4x128x256 .f32)] (ix3 h d e) = 0 := by
  rw [canon_hit _ _ _ _ (ix3 h d e) (fun a => ?_)]
  · exact zeros_apply h d e
  · match a with
    | ⟨0, _⟩ => exact (zero_add _).symm
    | ⟨1, _⟩ => exact (zero_add _).symm
    | ⟨2, _⟩ => exact (zero_add _).symm

theorem found0 {κ sp} (v : View sig κ sp S4x128x256 .f32) (i0 : ∀ b, ![0, 0, 0] b + ![4, 128, 256] b ≤ S4x128x256.size b) (io) (d : Fin 128) (e : Fin 256) :
    stRead v [(⟨Rect.unit ![0, 0, 0] ![4, 128, 256] i0, zeros⟩ : View.Piece (Elt Ideal) S4x128x256 .f32)] 0 io (ix3 0 d e) = 0 :=
  (read_at _ _ 0 0 _ rfl d e).trans (zeroed _ _ _ _)

theorem found1 {κ sp} (v : View sig κ sp S4x128x256 .f32) (w0 : Vec Ideal S1x128x256 .f32) (i0 : ∀ b, ![0, 0, 0] b + ![4, 128, 256] b ≤ S4x128x256.size b) (j0 io) (d : Fin 128) (e : Fin 256) :
    stRead v ((⟨Rect.unit ![0, 0, 0] ![1, 128, 256] j0, w0⟩ : View.Piece (Elt Ideal) S4x128x256 .f32)
      :: [(⟨Rect.unit ![0, 0, 0] ![4, 128, 256] i0, zeros⟩ : View.Piece (Elt Ideal) S4x128x256 .f32)]) 1 io (ix3 0 d e) = 0 := by
  refine (read_at _ _ 1 1 _ rfl d e).trans ?_
  rw [canon_miss _ _ _ _ 0 (.inr (show 1 ≤ 1 by decide))]
  exact zeroed _ _ _ _

theorem found2 {κ sp} (v : View sig κ sp S4x128x256 .f32) (w0 w1 : Vec Ideal S1x128x256 .f32) (i0 : ∀ b, ![0, 0, 0] b + ![4, 128, 256] b ≤ S4x128x256.size b) (j0 j1 io) (d : Fin 128) (e : Fin 256) :
    stRead v ((⟨Rect.unit ![1, 0, 0] ![1, 128, 256] j1, w1⟩ : View.Piece (Elt Ideal) S4x128x256 .f32)
      :: (⟨Rect.unit ![0, 0, 0] ![1, 128, 256] j0, w0⟩ : View.Piece (Elt Ideal) S4x128x256 .f32)
      :: [(⟨Rect.unit ![0, 0, 0] ![4, 128, 256] i0, zeros⟩ : View.Piece (Elt Ideal) S4x128x256 .f32)]) 2 io (ix3 0 d e) = 0 := by
  refine (read_at _ _ 2 2 _ rfl d e).trans ?_
  rw [canon_miss _ _ _ _ 0 (.inr (show 2 ≤ 2 by decide)), canon_miss _ _ _ _ 0 (.inr (show 1 ≤ 2 by decide))]
  exact zeroed _ _ _ _

theorem found3 {κ sp} (v : View sig κ sp S4x128x256 .f32) (w0 w1 w2 : Vec Ideal S1x128x256 .f32) (i0 : ∀ b, ![0, 0, 0] b + ![4, 128, 256] b ≤ S4x128x256.size b) (j0 j1 j2 io) (d : Fin 128) (e : Fin 256) :
    stRead v ((⟨Rect.unit ![2, 0, 0] ![1, 128, 256] j2, w2⟩ : View.Piece (Elt Ideal) S4x128x256 .f32)
      :: (⟨Rect.unit ![1, 0, 0] ![1, 128, 256] j1, w1⟩ : View.Piece (Elt Ideal) S4x128x256 .f32)
      :: (⟨Rect.unit ![0, 0, 0] ![1, 128, 256] j0, w0⟩ : View.Piece (Elt Ideal) S4x128x256 .f32)
      :: [(⟨Rect.unit ![0, 0, 0] ![4, 128, 256] i0, zeros⟩ : View.Piece (Elt Ideal) S4x128x256 .f32)]) 3 io (ix3 0 d e) = 0 := by
  refine (read_at _ _ 3 3 _ rfl d e).trans ?_
  rw [canon_miss _ _ _ _ 0 (.inr (show 3 ≤ 3 by decide)), canon_miss _ _ _ _ 0 (.inr (show 2 ≤ 3 by decide)), canon_miss _ _ _ _ 0 (.inr (show 1 ≤ 3 by decide))]
  exact zeroed _ _ _ _

theorem state_step (S fA fB : Fin 4 → Fin 128 → Fin 256 → EReal) (A0 A1 A2 A3 B0 B1 B2 B3 : FVec Ideal S128x256 .f32) (s0 s1 s2 s3 : Vec Ideal S1x128x256 .f32)
    (L : List (View.Piece (Elt Ideal) S4x128x256 .f32)) (i0 i1 i2 i3)
    (hs0 : ∀ d e, s0 (ix3 0 d e) = S 0 d e) (hs1 : ∀ d e, s1 (ix3 0 d e) = S 1 d e) (hs2 : ∀ d e, s2 (ix3 0 d e) = S 2 d e) (hs3 : ∀ d e, s3 (ix3 0 d e) = S 3 d e)
    (hA0 : ∀ d e, A0 (ix2 d e) = fA 0 d e) (hA1 : ∀ d e, A1 (ix2 d e) = fA 1 d e) (hA2 : ∀ d e, A2 (ix2 d e) = fA 2 d e) (hA3 : ∀ d e, A3 (ix2 d e) = fA 3 d e)
    (hB0 : ∀ d e, B0 (ix2 d e) = fB 0 d e) (hB1 : ∀ d e, B1 (ix2 d e) = fB 1 d e) (hB2 : ∀ d e, B2 (ix2 d e) = fB 2 d e) (hB3 : ∀ d e, B3 (ix2 d e) = fB 3 d e)
    (a : Fin 4) (d : Fin 128) (e : Fin 256) :
    View.canon ((⟨Rect.unit ![3, 0, 0] ![1, 128, 256] i3, k0_pay44 A3 B3 (k0_pay40 s3)⟩ : View.Piece (Elt Ideal) S4x128x256 .f32)
      :: ⟨Rect.unit ![2, 0, 0] ![1, 128, 256] i2, k0_pay39 A2 B2 s2⟩
      :: ⟨Rect.unit ![1, 0, 0] ![1, 128, 256] i1, k0_pay34 B1 (k0_pay32 A1 s1)⟩
      :: ⟨Rect.unit ![0, 0, 0] ![1, 128, 256] i0, k0_pay29 A0 B0 s0⟩ :: L) (ix3 a d e)
    = decayed a * (decayed a * S a d e + fA a d e) + fB a d e := by
  rw [state_apply]
  match a with
  | ⟨0, _⟩ => show decayed 0 * (decayed 0 * s0 (ix3 0 d e) + A0 (ix2 d e)) + B0 (ix2 d e) = _; rw [hs0, hA0, hB0]; rfl
  | ⟨1, _⟩ => show decayed 1 * (decayed 1 * s1 (ix3 0 d e) + A1 (ix2 d e)) + B1 (ix2 d e) = _; rw [hs1, hA1, hB1]; rfl
  | ⟨2, _⟩ => show decayed 2 * (decayed 2 * s2 (ix3 0 d e) + A2 (ix2 d e)) + B2 (ix2 d e) = _; rw [hs2, hA2, hB2]; rfl
  | ⟨3, _⟩ => show decayed 3 * (decayed 3 * s3 (ix3 0 d e) + A3 (ix2 d e)) + B3 (ix2 d e) = _; rw [hs3, hA3, hB3]; rfl

variable (m : (ℓ : Loc nD τ sig) → Buf (Elt Ideal) ℓ) (c : Dev nD) (t : Fin cfg0.N)

theorem later_state (h : ¬ t.val % 8 = 0) (a : Fin 4) (d : Fin 128) (e : Fin 256) : (outsAt0 m c t.val t.isLt).2 (ix3 a d e)
    = stepped (iblk m c 4 t) (iblk m c 5 t) (fun a d e => (outsAt0 m c (t.val - 1) (by omega)).2 (ix3 a d e)) a d e := by
  rw [outsAt0_B m c t h]
  frame_out
  simp only [read_unread_whole]
  generalize (outsAt0 m c (t.val - 1) _).2 = S
  generalize iblk m c 4 t = X
  generalize iblk m c 5 t = Y
  refine (state_step (fun a d e => S (ix3 a d e)) (added X Y 0) (added X Y 1) _ _ _ _ _ _ _ _ _ _ _ _ _ _ _ _ _ ?_ ?_ ?_ ?_ ?_ ?_ ?_ ?_ ?_ ?_ ?_ ?_ a d e).trans rfl <;> intro d e
  · exact ldS 0 S 0 _ rfl d e
  · exact ldS 1 S 1 _ rfl d e
  · exact ldS 2 S 2 _ rfl d e
  · exact ldS 3 S 3 _ rfl d e
  · exact (kv0 _ _ d e).trans (Finset.sum_congr rfl fun j _ => congrArg₂ (· * ·) (ldK 0 0 X _ _ _ rfl rfl d j) (ldV 0 0 Y _ _ _ rfl rfl j e))
  · exact (kv1 _ _ d e).trans (Finset.sum_congr rfl fun j _ => congrArg₂ (· * ·) (ldK 0 1 X _ _ _ rfl rfl d j) (ldV 0 1 Y _ _ _ rfl rfl j e))
  · exact (kv2 _ _ d e).trans (Finset.sum_congr rfl fun j _ => congrArg₂ (· * ·) (ldK 0 2 X _ _ _ rfl rfl d j) (ldV 0 2 Y _ _ _ rfl rfl j e))
  · exact (kv3 _ _ d e).trans (Finset.sum_congr rfl fun j _ => congrArg₂ (· * ·) (ldK 0 3 X _ _ _ rfl rfl d j) (ldV 0 3 Y _ _ _ rfl rfl j e))
  · exact (kv4 _ _ d e).trans (Finset.sum_congr rfl fun j _ => congrArg₂ (· * ·) (ldK 1 0 X _ _ _ rfl rfl d j) (ldV 1 0 Y _ _ _ rfl rfl j e))
  · exact (kv5 _ _ d e).trans (Finset.sum_congr rfl fun j _ => congrArg₂ (· * ·) (ldK 1 1 X _ _ _ rfl rfl d j) (ldV 1 1 Y _ _ _ rfl rfl j e))
  · exact (kv6 _ _ d e).trans (Finset.sum_congr rfl fun j _ => congrArg₂ (· * ·) (ldK 1 2 X _ _ _ rfl rfl d j) (ldV 1 2 Y _ _ _ rfl rfl j e))
  · exact (kv7 _ _ d e).trans (Finset.sum_congr rfl fun j _ => congrArg₂ (· * ·) (ldK 1 3 X _ _ _ rfl rfl d j) (ldV 1 3 Y _ _ _ rfl rfl j e))

theorem first_state (h : t.val % 8 = 0) (a : Fin 4) (d : Fin 128) (e : Fin 256) : (outsAt0 m c t.val t.isLt).2 (ix3 a d e)
    = stepped (iblk m c 4 t) (iblk m c 5 t) (fun _ _ _ => 0) a d e := by
  rw [outsAt0_A m c t h]
  frame_out
  generalize iblk m c 4 t = X
  generalize iblk m c 5 t = Y
  refine (state_step (fun _ _ _ => 0) (added X Y 0) (added X Y 1) _ _ _ _ _ _ _ _ _ _ _ _ _ _ _ _ _ ?_ ?_ ?_ ?_ ?_ ?_ ?_ ?_ ?_ ?_ ?_ ?_ a d e).trans rfl <;> intro d e
  · exact found0 _ _ _ d e
  · exact found1 _ _ _ _ _ d e
  · exact found2 _ _ _ _ _ _ _ d e
  · exact found3 _ _ _ _ _ _ _ _ _ d e
  · exact (kv0 _ _ d e).trans (Finset.sum_congr rfl fun j _ => congrArg₂ (· * ·) (ldK 0 0 X _ _ _ rfl rfl d j) (ldV 0 0 Y _ _ _ rfl rfl j e))
  · exact (kv1 _ _ d e).trans (Finset.sum_congr rfl fun j _ => congrArg₂ (· * ·) (ldK 0 1 X _ _ _ rfl rfl d j) (ldV 0 1 Y _ _ _ rfl rfl j e))
  · exact (kv2 _ _ d e).trans (Finset.sum_congr rfl fun j _ => congrArg₂ (· * ·) (ldK 0 2 X _ _ _ rfl rfl d j) (ldV 0 2 Y _ _ _ rfl rfl j e))
  · exact (kv3 _ _ d e).trans (Finset.sum_congr rfl fun j _ => congrArg₂ (· * ·) (ldK 0 3 X _ _ _ rfl rfl d j) (ldV 0 3 Y _ _ _ rfl rfl j e))
  · exact (kv4 _ _ d e).trans (Finset.sum_congr rfl fun j _ => congrArg₂ (· * ·) (ldK 1 0 X _ _ _ rfl rfl d j) (ldV 1 0 Y _ _ _ rfl rfl j e))
  · exact (kv5 _ _ d e).trans (Finset.sum_congr rfl fun j _ => congrArg₂ (· * ·) (ldK 1 1 X _ _ _ rfl rfl d j) (ldV 1 1 Y _ _ _ rfl rfl j e))
  · exact (kv6 _ _ d e).trans (Finset.sum_congr rfl fun j _ => congrArg₂ (· * ·) (ldK 1 2 X _ _ _ rfl rfl d j) (ldV 1 2 Y _ _ _ rfl rfl j e))
  · exact (kv7 _ _ d e).trans (Finset.sum_congr rfl fun j _ => congrArg₂ (· * ·) (ldK 1 3 X _ _ _ rfl rfl d j) (ldV 1 3 Y _ _ _ rfl rfl j e))

end Cert.Mix

end
-- ==== Proof.MixOpen.lean ====
/- The opened forms of the retention kernel's stores: the same values with every intermediate word written out. -/
module

public import proofs.«01_k».proof.Proof.MixPoint

@[expose] public section

set_option maxRecDepth 16384

noncomputable section

namespace Cert.Mix

open Cert.Kernel3Ideal Cert.Kernel3Ideal.Gen Cert.Rows Idealize.ShloMosaic Idealize.ShloMosaic.TcCoe
open Cert.Cross (canon_hit canon_miss)

section
variable (A C : FVec Ideal S256x256 .f32) (G : FVec Ideal S512x1024 .f32) (D Q : Vec Ideal S1x256x256 .f32) (v : Vec Ideal S1x256x256 .bf16) (r e : Fin 256)

theorem open_unit0 : ((shapeCast S256x256 (truncf .bf16 (mulf (mulf (subf (addf ((matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32)) (mulf C (shapeCast S256x256 Q shapeCasts_S1x256x256_S256x256 : FVec Ideal S256x256 .f32) : FVec Ideal S256x256 .f32) : FVec Ideal S256x256 .f32) (broadcastTo S256x256 (divf (shapeCast S256x1 (multiReduction .add [1] S256 (addf ((matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32)) (mulf C (shapeCast S256x256 Q shapeCasts_S1x256x256_S256x256 : FVec Ideal S256x256 .f32) : FVec Ideal S256x256 .f32) : FVec Ideal S256x256 .f32) 0x00000000#32 reduces_S256x256_S256 (.inl rfl) rfl : FVec Ideal S256 .f32) shapeCasts_S256_S256x1 : FVec Ideal S256x1 .f32) (broadcast S256x1 (FloatOps.ofBits .f32 0x43800000#32 : Ideal .f32) : FVec Ideal S256x1 .f32) : FVec Ideal S256x1 .f32) broadcasts_S256x1_S256x256 : FVec Ideal S256x256 .f32) : FVec Ideal S256x256 .f32) (broadcastTo S256x256 (rsqrt (addf (divf (shapeCast S256x1 (multiReduction .add [1] S256 (mulf (subf (addf ((matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32)) (mulf C (shapeCast S256x256 Q shapeCasts_S1x256x256_S256x256 : FVec Ideal S256x256 .f32) : FVec Ideal S256x256 .f32) : FVec Ideal S256x256 .f32) (broadcastTo S256x256 (divf (shapeCast S256x1 (multiReduction .add [1] S256 (addf ((matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32)) (mulf C (shapeCast S256x256 Q shapeCasts_S1x256x256_S256x256 : FVec Ideal S256x256 .f32) : FVec Ideal S256x256 .f32) : FVec Ideal S256x256 .f32) 0x00000000#32 reduces_S256x256_S256 (.inl rfl) rfl : FVec Ideal S256 .f32) shapeCasts_S256_S256x1 : FVec Ideal S256x1 .f32) (broadcast S256x1 (FloatOps.ofBits .f32 0x43800000#32 : Ideal .f32) : FVec Ideal S256x1 .f32) : FVec Ideal S256x1 .f32) broadcasts_S256x1_S256x256 : FVec Ideal S256x256 .f32) : FVec Ideal S256x256 .f32) (subf (addf ((matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32)) (mulf C (shapeCast S256x256 Q shapeCasts_S1x256x256_S256x256 : FVec Ideal S256x256 .f32) : FVec Ideal S256x256 .f32) : FVec Ideal S256x256 .f32) (broadcastTo S256x256 (divf (shapeCast S256x1 (multiReduction .add [1] S256 (addf ((matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32)) (mulf C (shapeCast S256x256 Q shapeCasts_S1x256x256_S256x256 : FVec Ideal S256x256 .f32) : FVec Ideal S256x256 .f32) : FVec Ideal S256x256 .f32) 0x00000000#32 reduces_S256x256_S256 (.inl rfl) rfl : FVec Ideal S256 .f32) shapeCasts_S256_S256x1 : FVec Ideal S256x1 .f32) (broadcast S256x1 (FloatOps.ofBits .f32 0x43800000#32 : Ideal .f32) : FVec Ideal S256x1 .f32) : FVec Ideal S256x1 .f32) broadcasts_S256x1_S256x256 : FVec Ideal S256x256 .f32) : FVec Ideal S256x256 .f32) : FVec Ideal S256x256 .f32) 0x00000000#32 reduces_S256x256_S256 (.inl rfl) rfl : FVec Ideal S256 .f32) shapeCasts_S256_S256x1 : FVec Ideal S256x1 .f32) (broadcast S256x1 (FloatOps.ofBits .f32 0x43800000#32 : Ideal .f32) : FVec Ideal S256x1 .f32) : FVec Ideal S256x1 .f32) (broadcast S256x1 (FloatOps.ofBits .f32 0x358637BD#32 : Ideal .f32) : FVec Ideal S256x1 .f32) : FVec Ideal S256x1 .f32) : FVec Ideal S256x1 .f32) broadcasts_S256x1_S256x256 : FVec Ideal S256x256 .f32) : FVec Ideal S256x256 .f32) (extractStridedSlice S256x256 ![0, 0] (k0_pay45 G) slices_S512x1024_o0_0_S256x256 : FVec Ideal S256x256 .f32) : FVec Ideal S256x256 .f32) bitsLt_bf16_f32 : FVec Ideal S256x256 .bf16) shapeCasts_S256x256_S256x256 : FVec Ideal S256x256 .bf16)) (ix2 r e)
    = grp (rowY A C D Q v r) e * swish (G (ix2 ⟨0 + r, by omega⟩ ⟨0 + e, by omega⟩)) := unit0 A C G D Q v r e
theorem open_unit1 : ((shapeCast S256x256 (truncf .bf16 (mulf (mulf (subf (addf ((matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32)) (mulf C (shapeCast S256x256 Q shapeCasts_S1x256x256_S256x256 : FVec Ideal S256x256 .f32) : FVec Ideal S256x256 .f32) : FVec Ideal S256x256 .f32) (broadcastTo S256x256 (divf (shapeCast S256x1 (multiReduction .add [1] S256 (addf ((matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32)) (mulf C (shapeCast S256x256 Q shapeCasts_S1x256x256_S256x256 : FVec Ideal S256x256 .f32) : FVec Ideal S256x256 .f32) : FVec Ideal S256x256 .f32) 0x00000000#32 reduces_S256x256_S256 (.inl rfl) rfl : FVec Ideal S256 .f32) shapeCasts_S256_S256x1 : FVec Ideal S256x1 .f32) (broadcast S256x1 (FloatOps.ofBits .f32 0x43800000#32 : Ideal .f32) : FVec Ideal S256x1 .f32) : FVec Ideal S256x1 .f32) broadcasts_S256x1_S256x256 : FVec Ideal S256x256 .f32) : FVec Ideal S256x256 .f32) (broadcastTo S256x256 (rsqrt (addf (divf (shapeCast S256x1 (multiReduction .add [1] S256 (mulf (subf (addf ((matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32)) (mulf C (shapeCast S256x256 Q shapeCasts_S1x256x256_S256x256 : FVec Ideal S256x256 .f32) : FVec Ideal S256x256 .f32) : FVec Ideal S256x256 .f32) (broadcastTo S256x256 (divf (shapeCast S256x1 (multiReduction .add [1] S256 (addf ((matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32)) (mulf C (shapeCast S256x256 Q shapeCasts_S1x256x256_S256x256 : FVec Ideal S256x256 .f32) : FVec Ideal S256x256 .f32) : FVec Ideal S256x256 .f32) 0x00000000#32 reduces_S256x256_S256 (.inl rfl) rfl : FVec Ideal S256 .f32) shapeCasts_S256_S256x1 : FVec Ideal S256x1 .f32) (broadcast S256x1 (FloatOps.ofBits .f32 0x43800000#32 : Ideal .f32) : FVec Ideal S256x1 .f32) : FVec Ideal S256x1 .f32) broadcasts_S256x1_S256x256 : FVec Ideal S256x256 .f32) : FVec Ideal S256x256 .f32) (subf (addf ((matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32)) (mulf C (shapeCast S256x256 Q shapeCasts_S1x256x256_S256x256 : FVec Ideal S256x256 .f32) : FVec Ideal S256x256 .f32) : FVec Ideal S256x256 .f32) (broadcastTo S256x256 (divf (shapeCast S256x1 (multiReduction .add [1] S256 (addf ((matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32)) (mulf C (shapeCast S256x256 Q shapeCasts_S1x256x256_S256x256 : FVec Ideal S256x256 .f32) : FVec Ideal S256x256 .f32) : FVec Ideal S256x256 .f32) 0x00000000#32 reduces_S256x256_S256 (.inl rfl) rfl : FVec Ideal S256 .f32) shapeCasts_S256_S256x1 : FVec Ideal S256x1 .f32) (broadcast S256x1 (FloatOps.ofBits .f32 0x43800000#32 : Ideal .f32) : FVec Ideal S256x1 .f32) : FVec Ideal S256x1 .f32) broadcasts_S256x1_S256x256 : FVec Ideal S256x256 .f32) : FVec Ideal S256x256 .f32) : FVec Ideal S256x256 .f32) 0x00000000#32 reduces_S256x256_S256 (.inl rfl) rfl : FVec Ideal S256 .f32) shapeCasts_S256_S256x1 : FVec Ideal S256x1 .f32) (broadcast S256x1 (FloatOps.ofBits .f32 0x43800000#32 : Ideal .f32) : FVec Ideal S256x1 .f32) : FVec Ideal S256x1 .f32) (broadcast S256x1 (FloatOps.ofBits .f32 0x358637BD#32 : Ideal .f32) : FVec Ideal S256x1 .f32) : FVec Ideal S256x1 .f32) : FVec Ideal S256x1 .f32) broadcasts_S256x1_S256x256 : FVec Ideal S256x256 .f32) : FVec Ideal S256x256 .f32) (extractStridedSlice S256x256 ![0, 256] (k0_pay45 G) slices_S512x1024_o0_256_S256x256 : FVec Ideal S256x256 .f32) : FVec Ideal S256x256 .f32) bitsLt_bf16_f32 : FVec Ideal S256x256 .bf16) shapeCasts_S256x256_S256x256 : FVec Ideal S256x256 .bf16)) (ix2 r e)
    = grp (rowY A C D Q v r) e * swish (G (ix2 ⟨0 + r, by omega⟩ ⟨256 + e, by omega⟩)) := unit1 A C G D Q v r e
theorem open_unit2 : ((shapeCast S256x256 (truncf .bf16 (mulf (mulf (subf (addf (matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32) (mulf C (shapeCast S256x256 Q shapeCasts_S1x256x256_S256x256 : FVec Ideal S256x256 .f32) : FVec Ideal S256x256 .f32) : FVec Ideal S256x256 .f32) (broadcastTo S256x256 (divf (shapeCast S256x1 (multiReduction .add [1] S256 (addf (matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32) (mulf C (shapeCast S256x256 Q shapeCasts_S1x256x256_S256x256 : FVec Ideal S256x256 .f32) : FVec Ideal S256x256 .f32) : FVec Ideal S256x256 .f32) 0x00000000#32 reduces_S256x256_S256 (.inl rfl) rfl : FVec Ideal S256 .f32) shapeCasts_S256_S256x1 : FVec Ideal S256x1 .f32) (broadcast S256x1 (FloatOps.ofBits .f32 0x43800000#32 : Ideal .f32) : FVec Ideal S256x1 .f32) : FVec Ideal S256x1 .f32) broadcasts_S256x1_S256x256 : FVec Ideal S256x256 .f32) : FVec Ideal S256x256 .f32) (broadcastTo S256x256 (rsqrt (addf (divf (shapeCast S256x1 (multiReduction .add [1] S256 (mulf (subf (addf (matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32) (mulf C (shapeCast S256x256 Q shapeCasts_S1x256x256_S256x256 : FVec Ideal S256x256 .f32) : FVec Ideal S256x256 .f32) : FVec Ideal S256x256 .f32) (broadcastTo S256x256 (divf (shapeCast S256x1 (multiReduction .add [1] S256 (addf (matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32) (mulf C (shapeCast S256x256 Q shapeCasts_S1x256x256_S256x256 : FVec Ideal S256x256 .f32) : FVec Ideal S256x256 .f32) : FVec Ideal S256x256 .f32) 0x00000000#32 reduces_S256x256_S256 (.inl rfl) rfl : FVec Ideal S256 .f32) shapeCasts_S256_S256x1 : FVec Ideal S256x1 .f32) (broadcast S256x1 (FloatOps.ofBits .f32 0x43800000#32 : Ideal .f32) : FVec Ideal S256x1 .f32) : FVec Ideal S256x1 .f32) broadcasts_S256x1_S256x256 : FVec Ideal S256x256 .f32) : FVec Ideal S256x256 .f32) (subf (addf (matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32) (mulf C (shapeCast S256x256 Q shapeCasts_S1x256x256_S256x256 : FVec Ideal S256x256 .f32) : FVec Ideal S256x256 .f32) : FVec Ideal S256x256 .f32) (broadcastTo S256x256 (divf (shapeCast S256x1 (multiReduction .add [1] S256 (addf (matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32) (mulf C (shapeCast S256x256 Q shapeCasts_S1x256x256_S256x256 : FVec Ideal S256x256 .f32) : FVec Ideal S256x256 .f32) : FVec Ideal S256x256 .f32) 0x00000000#32 reduces_S256x256_S256 (.inl rfl) rfl : FVec Ideal S256 .f32) shapeCasts_S256_S256x1 : FVec Ideal S256x1 .f32) (broadcast S256x1 (FloatOps.ofBits .f32 0x43800000#32 : Ideal .f32) : FVec Ideal S256x1 .f32) : FVec Ideal S256x1 .f32) broadcasts_S256x1_S256x256 : FVec Ideal S256x256 .f32) : FVec Ideal S256x256 .f32) : FVec Ideal S256x256 .f32) 0x00000000#32 reduces_S256x256_S256 (.inl rfl) rfl : FVec Ideal S256 .f32) shapeCasts_S256_S256x1 : FVec Ideal S256x1 .f32) (broadcast S256x1 (FloatOps.ofBits .f32 0x43800000#32 : Ideal .f32) : FVec Ideal S256x1 .f32) : FVec Ideal S256x1 .f32) (broadcast S256x1 (FloatOps.ofBits .f32 0x358637BD#32 : Ideal .f32) : FVec Ideal S256x1 .f32) : FVec Ideal S256x1 .f32) : FVec Ideal S256x1 .f32) broadcasts_S256x1_S256x256 : FVec Ideal S256x256 .f32) : FVec Ideal S256x256 .f32) (extractStridedSlice S256x256 ![0, 512] (k0_pay45 G) slices_S512x1024_o0_512_S256x256 : FVec Ideal S256x256 .f32) : FVec Ideal S256x256 .f32) bitsLt_bf16_f32 : FVec Ideal S256x256 .bf16) shapeCasts_S256x256_S256x256 : FVec Ideal S256x256 .bf16)) (ix2 r e)
    = grp (rowY A C D Q v r) e * swish (G (ix2 ⟨0 + r, by omega⟩ ⟨512 + e, by omega⟩)) := unit2 A C G D Q v r e
theorem open_unit3 : ((shapeCast S256x256 (truncf .bf16 (mulf (mulf (subf (addf (matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32) (mulf C (shapeCast S256x256 Q shapeCasts_S1x256x256_S256x256 : FVec Ideal S256x256 .f32) : FVec Ideal S256x256 .f32) : FVec Ideal S256x256 .f32) (broadcastTo S256x256 (divf (shapeCast S256x1 (multiReduction .add [1] S256 (addf (matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32) (mulf C (shapeCast S256x256 Q shapeCasts_S1x256x256_S256x256 : FVec Ideal S256x256 .f32) : FVec Ideal S256x256 .f32) : FVec Ideal S256x256 .f32) 0x00000000#32 reduces_S256x256_S256 (.inl rfl) rfl : FVec Ideal S256 .f32) shapeCasts_S256_S256x1 : FVec Ideal S256x1 .f32) (broadcast S256x1 (FloatOps.ofBits .f32 0x43800000#32 : Ideal .f32) : FVec Ideal S256x1 .f32) : FVec Ideal S256x1 .f32) broadcasts_S256x1_S256x256 : FVec Ideal S256x256 .f32) : FVec Ideal S256x256 .f32) (broadcastTo S256x256 (rsqrt (addf (divf (shapeCast S256x1 (multiReduction .add [1] S256 (mulf (subf (addf (matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32) (mulf C (shapeCast S256x256 Q shapeCasts_S1x256x256_S256x256 : FVec Ideal S256x256 .f32) : FVec Ideal S256x256 .f32) : FVec Ideal S256x256 .f32) (broadcastTo S256x256 (divf (shapeCast S256x1 (multiReduction .add [1] S256 (addf (matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32) (mulf C (shapeCast S256x256 Q shapeCasts_S1x256x256_S256x256 : FVec Ideal S256x256 .f32) : FVec Ideal S256x256 .f32) : FVec Ideal S256x256 .f32) 0x00000000#32 reduces_S256x256_S256 (.inl rfl) rfl : FVec Ideal S256 .f32) shapeCasts_S256_S256x1 : FVec Ideal S256x1 .f32) (broadcast S256x1 (FloatOps.ofBits .f32 0x43800000#32 : Ideal .f32) : FVec Ideal S256x1 .f32) : FVec Ideal S256x1 .f32) broadcasts_S256x1_S256x256 : FVec Ideal S256x256 .f32) : FVec Ideal S256x256 .f32) (subf (addf (matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32) (mulf C (shapeCast S256x256 Q shapeCasts_S1x256x256_S256x256 : FVec Ideal S256x256 .f32) : FVec Ideal S256x256 .f32) : FVec Ideal S256x256 .f32) (broadcastTo S256x256 (divf (shapeCast S256x1 (multiReduction .add [1] S256 (addf (matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32) (mulf C (shapeCast S256x256 Q shapeCasts_S1x256x256_S256x256 : FVec Ideal S256x256 .f32) : FVec Ideal S256x256 .f32) : FVec Ideal S256x256 .f32) 0x00000000#32 reduces_S256x256_S256 (.inl rfl) rfl : FVec Ideal S256 .f32) shapeCasts_S256_S256x1 : FVec Ideal S256x1 .f32) (broadcast S256x1 (FloatOps.ofBits .f32 0x43800000#32 : Ideal .f32) : FVec Ideal S256x1 .f32) : FVec Ideal S256x1 .f32) broadcasts_S256x1_S256x256 : FVec Ideal S256x256 .f32) : FVec Ideal S256x256 .f32) : FVec Ideal S256x256 .f32) 0x00000000#32 reduces_S256x256_S256 (.inl rfl) rfl : FVec Ideal S256 .f32) shapeCasts_S256_S256x1 : FVec Ideal S256x1 .f32) (broadcast S256x1 (FloatOps.ofBits .f32 0x43800000#32 : Ideal .f32) : FVec Ideal S256x1 .f32) : FVec Ideal S256x1 .f32) (broadcast S256x1 (FloatOps.ofBits .f32 0x358637BD#32 : Ideal .f32) : FVec Ideal S256x1 .f32) : FVec Ideal S256x1 .f32) : FVec Ideal S256x1 .f32) broadcasts_S256x1_S256x256 : FVec Ideal S256x256 .f32) : FVec Ideal S256x256 .f32) (extractStridedSlice S256x256 ![0, 768] (k0_pay45 G) slices_S512x1024_o0_768_S256x256 : FVec Ideal S256x256 .f32) : FVec Ideal S256x256 .f32) bitsLt_bf16_f32 : FVec Ideal S256x256 .bf16) shapeCasts_S256x256_S256x256 : FVec Ideal S256x256 .bf16)) (ix2 r e)
    = grp (rowY A C D Q v r) e * swish (G (ix2 ⟨0 + r, by omega⟩ ⟨768 + e, by omega⟩)) := unit3 A C G D Q v r e
theorem open_unit4 : ((shapeCast S256x256 (truncf .bf16 (mulf (mulf (subf (addf (matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32) (mulf C (shapeCast S256x256 Q shapeCasts_S1x256x256_S256x256 : FVec Ideal S256x256 .f32) : FVec Ideal S256x256 .f32) : FVec Ideal S256x256 .f32) (broadcastTo S256x256 (divf (shapeCast S256x1 (multiReduction .add [1] S256 (addf (matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32) (mulf C (shapeCast S256x256 Q shapeCasts_S1x256x256_S256x256 : FVec Ideal S256x256 .f32) : FVec Ideal S256x256 .f32) : FVec Ideal S256x256 .f32) 0x00000000#32 reduces_S256x256_S256 (.inl rfl) rfl : FVec Ideal S256 .f32) shapeCasts_S256_S256x1 : FVec Ideal S256x1 .f32) (broadcast S256x1 (FloatOps.ofBits .f32 0x43800000#32 : Ideal .f32) : FVec Ideal S256x1 .f32) : FVec Ideal S256x1 .f32) broadcasts_S256x1_S256x256 : FVec Ideal S256x256 .f32) : FVec Ideal S256x256 .f32) (broadcastTo S256x256 (rsqrt (addf (divf (shapeCast S256x1 (multiReduction .add [1] S256 (mulf (subf (addf (matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32) (mulf C (shapeCast S256x256 Q shapeCasts_S1x256x256_S256x256 : FVec Ideal S256x256 .f32) : FVec Ideal S256x256 .f32) : FVec Ideal S256x256 .f32) (broadcastTo S256x256 (divf (shapeCast S256x1 (multiReduction .add [1] S256 (addf (matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32) (mulf C (shapeCast S256x256 Q shapeCasts_S1x256x256_S256x256 : FVec Ideal S256x256 .f32) : FVec Ideal S256x256 .f32) : FVec Ideal S256x256 .f32) 0x00000000#32 reduces_S256x256_S256 (.inl rfl) rfl : FVec Ideal S256 .f32) shapeCasts_S256_S256x1 : FVec Ideal S256x1 .f32) (broadcast S256x1 (FloatOps.ofBits .f32 0x43800000#32 : Ideal .f32) : FVec Ideal S256x1 .f32) : FVec Ideal S256x1 .f32) broadcasts_S256x1_S256x256 : FVec Ideal S256x256 .f32) : FVec Ideal S256x256 .f32) (subf (addf (matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32) (mulf C (shapeCast S256x256 Q shapeCasts_S1x256x256_S256x256 : FVec Ideal S256x256 .f32) : FVec Ideal S256x256 .f32) : FVec Ideal S256x256 .f32) (broadcastTo S256x256 (divf (shapeCast S256x1 (multiReduction .add [1] S256 (addf (matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32) (mulf C (shapeCast S256x256 Q shapeCasts_S1x256x256_S256x256 : FVec Ideal S256x256 .f32) : FVec Ideal S256x256 .f32) : FVec Ideal S256x256 .f32) 0x00000000#32 reduces_S256x256_S256 (.inl rfl) rfl : FVec Ideal S256 .f32) shapeCasts_S256_S256x1 : FVec Ideal S256x1 .f32) (broadcast S256x1 (FloatOps.ofBits .f32 0x43800000#32 : Ideal .f32) : FVec Ideal S256x1 .f32) : FVec Ideal S256x1 .f32) broadcasts_S256x1_S256x256 : FVec Ideal S256x256 .f32) : FVec Ideal S256x256 .f32) : FVec Ideal S256x256 .f32) 0x00000000#32 reduces_S256x256_S256 (.inl rfl) rfl : FVec Ideal S256 .f32) shapeCasts_S256_S256x1 : FVec Ideal S256x1 .f32) (broadcast S256x1 (FloatOps.ofBits .f32 0x43800000#32 : Ideal .f32) : FVec Ideal S256x1 .f32) : FVec Ideal S256x1 .f32) (broadcast S256x1 (FloatOps.ofBits .f32 0x358637BD#32 : Ideal .f32) : FVec Ideal S256x1 .f32) : FVec Ideal S256x1 .f32) : FVec Ideal S256x1 .f32) broadcasts_S256x1_S256x256 : FVec Ideal S256x256 .f32) : FVec Ideal S256x256 .f32) (extractStridedSlice S256x256 ![256, 0] (k0_pay45 G) slices_S512x1024_o256_0_S256x256 : FVec Ideal S256x256 .f32) : FVec Ideal S256x256 .f32) bitsLt_bf16_f32 : FVec Ideal S256x256 .bf16) shapeCasts_S256x256_S256x256 : FVec Ideal S256x256 .bf16)) (ix2 r e)
    = grp (rowY A C D Q v r) e * swish (G (ix2 ⟨256 + r, by omega⟩ ⟨0 + e, by omega⟩)) := unit4 A C G D Q v r e
theorem open_unit5 : ((shapeCast S256x256 (truncf .bf16 (mulf (mulf (subf (addf (matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32) (mulf C (shapeCast S256x256 Q shapeCasts_S1x256x256_S256x256 : FVec Ideal S256x256 .f32) : FVec Ideal S256x256 .f32) : FVec Ideal S256x256 .f32) (broadcastTo S256x256 (divf (shapeCast S256x1 (multiReduction .add [1] S256 (addf (matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32) (mulf C (shapeCast S256x256 Q shapeCasts_S1x256x256_S256x256 : FVec Ideal S256x256 .f32) : FVec Ideal S256x256 .f32) : FVec Ideal S256x256 .f32) 0x00000000#32 reduces_S256x256_S256 (.inl rfl) rfl : FVec Ideal S256 .f32) shapeCasts_S256_S256x1 : FVec Ideal S256x1 .f32) (broadcast S256x1 (FloatOps.ofBits .f32 0x43800000#32 : Ideal .f32) : FVec Ideal S256x1 .f32) : FVec Ideal S256x1 .f32) broadcasts_S256x1_S256x256 : FVec Ideal S256x256 .f32) : FVec Ideal S256x256 .f32) (broadcastTo S256x256 (rsqrt (addf (divf (shapeCast S256x1 (multiReduction .add [1] S256 (mulf (subf (addf (matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32) (mulf C (shapeCast S256x256 Q shapeCasts_S1x256x256_S256x256 : FVec Ideal S256x256 .f32) : FVec Ideal S256x256 .f32) : FVec Ideal S256x256 .f32) (broadcastTo S256x256 (divf (shapeCast S256x1 (multiReduction .add [1] S256 (addf (matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32) (mulf C (shapeCast S256x256 Q shapeCasts_S1x256x256_S256x256 : FVec Ideal S256x256 .f32) : FVec Ideal S256x256 .f32) : FVec Ideal S256x256 .f32) 0x00000000#32 reduces_S256x256_S256 (.inl rfl) rfl : FVec Ideal S256 .f32) shapeCasts_S256_S256x1 : FVec Ideal S256x1 .f32) (broadcast S256x1 (FloatOps.ofBits .f32 0x43800000#32 : Ideal .f32) : FVec Ideal S256x1 .f32) : FVec Ideal S256x1 .f32) broadcasts_S256x1_S256x256 : FVec Ideal S256x256 .f32) : FVec Ideal S256x256 .f32) (subf (addf (matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32) (mulf C (shapeCast S256x256 Q shapeCasts_S1x256x256_S256x256 : FVec Ideal S256x256 .f32) : FVec Ideal S256x256 .f32) : FVec Ideal S256x256 .f32) (broadcastTo S256x256 (divf (shapeCast S256x1 (multiReduction .add [1] S256 (addf (matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32) (mulf C (shapeCast S256x256 Q shapeCasts_S1x256x256_S256x256 : FVec Ideal S256x256 .f32) : FVec Ideal S256x256 .f32) : FVec Ideal S256x256 .f32) 0x00000000#32 reduces_S256x256_S256 (.inl rfl) rfl : FVec Ideal S256 .f32) shapeCasts_S256_S256x1 : FVec Ideal S256x1 .f32) (broadcast S256x1 (FloatOps.ofBits .f32 0x43800000#32 : Ideal .f32) : FVec Ideal S256x1 .f32) : FVec Ideal S256x1 .f32) broadcasts_S256x1_S256x256 : FVec Ideal S256x256 .f32) : FVec Ideal S256x256 .f32) : FVec Ideal S256x256 .f32) 0x00000000#32 reduces_S256x256_S256 (.inl rfl) rfl : FVec Ideal S256 .f32) shapeCasts_S256_S256x1 : FVec Ideal S256x1 .f32) (broadcast S256x1 (FloatOps.ofBits .f32 0x43800000#32 : Ideal .f32) : FVec Ideal S256x1 .f32) : FVec Ideal S256x1 .f32) (broadcast S256x1 (FloatOps.ofBits .f32 0x358637BD#32 : Ideal .f32) : FVec Ideal S256x1 .f32) : FVec Ideal S256x1 .f32) : FVec Ideal S256x1 .f32) broadcasts_S256x1_S256x256 : FVec Ideal S256x256 .f32) : FVec Ideal S256x256 .f32) (extractStridedSlice S256x256 ![256, 256] (k0_pay45 G) slices_S512x1024_o256_256_S256x256 : FVec Ideal S256x256 .f32) : FVec Ideal S256x256 .f32) bitsLt_bf16_f32 : FVec Ideal S256x256 .bf16) shapeCasts_S256x256_S256x256 : FVec Ideal S256x256 .bf16)) (ix2 r e)
    = grp (rowY A C D Q v r) e * swish (G (ix2 ⟨256 + r, by omega⟩ ⟨256 + e, by omega⟩)) := unit5 A C G D Q v r e
theorem open_unit6 : ((shapeCast S256x256 (truncf .bf16 (mulf (mulf (subf (addf (matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32) (mulf C (shapeCast S256x256 Q shapeCasts_S1x256x256_S256x256 : FVec Ideal S256x256 .f32) : FVec Ideal S256x256 .f32) : FVec Ideal S256x256 .f32) (broadcastTo S256x256 (divf (shapeCast S256x1 (multiReduction .add [1] S256 (addf (matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32) (mulf C (shapeCast S256x256 Q shapeCasts_S1x256x256_S256x256 : FVec Ideal S256x256 .f32) : FVec Ideal S256x256 .f32) : FVec Ideal S256x256 .f32) 0x00000000#32 reduces_S256x256_S256 (.inl rfl) rfl : FVec Ideal S256 .f32) shapeCasts_S256_S256x1 : FVec Ideal S256x1 .f32) (broadcast S256x1 (FloatOps.ofBits .f32 0x43800000#32 : Ideal .f32) : FVec Ideal S256x1 .f32) : FVec Ideal S256x1 .f32) broadcasts_S256x1_S256x256 : FVec Ideal S256x256 .f32) : FVec Ideal S256x256 .f32) (broadcastTo S256x256 (rsqrt (addf (divf (shapeCast S256x1 (multiReduction .add [1] S256 (mulf (subf (addf (matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32) (mulf C (shapeCast S256x256 Q shapeCasts_S1x256x256_S256x256 : FVec Ideal S256x256 .f32) : FVec Ideal S256x256 .f32) : FVec Ideal S256x256 .f32) (broadcastTo S256x256 (divf (shapeCast S256x1 (multiReduction .add [1] S256 (addf (matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32) (mulf C (shapeCast S256x256 Q shapeCasts_S1x256x256_S256x256 : FVec Ideal S256x256 .f32) : FVec Ideal S256x256 .f32) : FVec Ideal S256x256 .f32) 0x00000000#32 reduces_S256x256_S256 (.inl rfl) rfl : FVec Ideal S256 .f32) shapeCasts_S256_S256x1 : FVec Ideal S256x1 .f32) (broadcast S256x1 (FloatOps.ofBits .f32 0x43800000#32 : Ideal .f32) : FVec Ideal S256x1 .f32) : FVec Ideal S256x1 .f32) broadcasts_S256x1_S256x256 : FVec Ideal S256x256 .f32) : FVec Ideal S256x256 .f32) (subf (addf (matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32) (mulf C (shapeCast S256x256 Q shapeCasts_S1x256x256_S256x256 : FVec Ideal S256x256 .f32) : FVec Ideal S256x256 .f32) : FVec Ideal S256x256 .f32) (broadcastTo S256x256 (divf (shapeCast S256x1 (multiReduction .add [1] S256 (addf (matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32) (mulf C (shapeCast S256x256 Q shapeCasts_S1x256x256_S256x256 : FVec Ideal S256x256 .f32) : FVec Ideal S256x256 .f32) : FVec Ideal S256x256 .f32) 0x00000000#32 reduces_S256x256_S256 (.inl rfl) rfl : FVec Ideal S256 .f32) shapeCasts_S256_S256x1 : FVec Ideal S256x1 .f32) (broadcast S256x1 (FloatOps.ofBits .f32 0x43800000#32 : Ideal .f32) : FVec Ideal S256x1 .f32) : FVec Ideal S256x1 .f32) broadcasts_S256x1_S256x256 : FVec Ideal S256x256 .f32) : FVec Ideal S256x256 .f32) : FVec Ideal S256x256 .f32) 0x00000000#32 reduces_S256x256_S256 (.inl rfl) rfl : FVec Ideal S256 .f32) shapeCasts_S256_S256x1 : FVec Ideal S256x1 .f32) (broadcast S256x1 (FloatOps.ofBits .f32 0x43800000#32 : Ideal .f32) : FVec Ideal S256x1 .f32) : FVec Ideal S256x1 .f32) (broadcast S256x1 (FloatOps.ofBits .f32 0x358637BD#32 : Ideal .f32) : FVec Ideal S256x1 .f32) : FVec Ideal S256x1 .f32) : FVec Ideal S256x1 .f32) broadcasts_S256x1_S256x256 : FVec Ideal S256x256 .f32) : FVec Ideal S256x256 .f32) (extractStridedSlice S256x256 ![256, 512] (k0_pay45 G) slices_S512x1024_o256_512_S256x256 : FVec Ideal S256x256 .f32) : FVec Ideal S256x256 .f32) bitsLt_bf16_f32 : FVec Ideal S256x256 .bf16) shapeCasts_S256x256_S256x256 : FVec Ideal S256x256 .bf16)) (ix2 r e)
    = grp (rowY A C D Q v r) e * swish (G (ix2 ⟨256 + r, by omega⟩ ⟨512 + e, by omega⟩)) := unit6 A C G D Q v r e
theorem open_unit7 : ((shapeCast S256x256 (truncf .bf16 (mulf (mulf (subf (addf (matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32) (mulf C (shapeCast S256x256 Q shapeCasts_S1x256x256_S256x256 : FVec Ideal S256x256 .f32) : FVec Ideal S256x256 .f32) : FVec Ideal S256x256 .f32) (broadcastTo S256x256 (divf (shapeCast S256x1 (multiReduction .add [1] S256 (addf (matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32) (mulf C (shapeCast S256x256 Q shapeCasts_S1x256x256_S256x256 : FVec Ideal S256x256 .f32) : FVec Ideal S256x256 .f32) : FVec Ideal S256x256 .f32) 0x00000000#32 reduces_S256x256_S256 (.inl rfl) rfl : FVec Ideal S256 .f32) shapeCasts_S256_S256x1 : FVec Ideal S256x1 .f32) (broadcast S256x1 (FloatOps.ofBits .f32 0x43800000#32 : Ideal .f32) : FVec Ideal S256x1 .f32) : FVec Ideal S256x1 .f32) broadcasts_S256x1_S256x256 : FVec Ideal S256x256 .f32) : FVec Ideal S256x256 .f32) (broadcastTo S256x256 (rsqrt (addf (divf (shapeCast S256x1 (multiReduction .add [1] S256 (mulf (subf (addf (matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32) (mulf C (shapeCast S256x256 Q shapeCasts_S1x256x256_S256x256 : FVec Ideal S256x256 .f32) : FVec Ideal S256x256 .f32) : FVec Ideal S256x256 .f32) (broadcastTo S256x256 (divf (shapeCast S256x1 (multiReduction .add [1] S256 (addf (matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32) (mulf C (shapeCast S256x256 Q shapeCasts_S1x256x256_S256x256 : FVec Ideal S256x256 .f32) : FVec Ideal S256x256 .f32) : FVec Ideal S256x256 .f32) 0x00000000#32 reduces_S256x256_S256 (.inl rfl) rfl : FVec Ideal S256 .f32) shapeCasts_S256_S256x1 : FVec Ideal S256x1 .f32) (broadcast S256x1 (FloatOps.ofBits .f32 0x43800000#32 : Ideal .f32) : FVec Ideal S256x1 .f32) : FVec Ideal S256x1 .f32) broadcasts_S256x1_S256x256 : FVec Ideal S256x256 .f32) : FVec Ideal S256x256 .f32) (subf (addf (matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32) (mulf C (shapeCast S256x256 Q shapeCasts_S1x256x256_S256x256 : FVec Ideal S256x256 .f32) : FVec Ideal S256x256 .f32) : FVec Ideal S256x256 .f32) (broadcastTo S256x256 (divf (shapeCast S256x1 (multiReduction .add [1] S256 (addf (matmul dot_S256x256_S256x256_S256x256_1_0_0_1_n_n none (truncf .bf16 (mulf A (shapeCast S256x256 D shapeCasts_S1x256x256_S256x256 : FVec Ideal S256x256 .f32) : FVec Ideal S256x256 .f32) bitsLt_bf16_f32 : FVec Ideal S256x256 .bf16) (shapeCast S256x256 v shapeCasts_S1x256x256_S256x256 : FVec Ideal S256x256 .bf16) (constant S256x256 .f32 0x00000000#32 : FVec Ideal S256x256 .f32) : FVec Ideal S256x256 .f32) (mulf C (shapeCast S256x256 Q shapeCasts_S1x256x256_S256x256 : FVec Ideal S256x256 .f32) : FVec Ideal S256x256 .f32) : FVec Ideal S256x256 .f32) 0x00000000#32 reduces_S256x256_S256 (.inl rfl) rfl : FVec Ideal S256 .f32) shapeCasts_S256_S256x1 : FVec Ideal S256x1 .f32) (broadcast S256x1 (FloatOps.ofBits .f32 0x43800000#32 : Ideal .f32) : FVec Ideal S256x1 .f32) : FVec Ideal S256x1 .f32) broadcasts_S256x1_S256x256 : FVec Ideal S256x256 .f32) : FVec Ideal S256x256 .f32) : FVec Ideal S256x256 .f32) 0x00000000#32 reduces_S256x256_S256 (.inl rfl) rfl : FVec Ideal S256 .f32) shapeCasts_S256_S256x1 : FVec Ideal S256x1 .f32) (broadcast S256x1 (FloatOps.ofBits .f32 0x43800000#32 : Ideal .f32) : FVec Ideal S256x1 .f32) : FVec Ideal S256x1 .f32) (broadcast S256x1 (FloatOps.ofBits .f32 0x358637BD#32 : Ideal .f32) : FVec Ideal S256x1 .f32) : FVec Ideal S256x1 .f32) : FVec Ideal S256x1 .f32) broadcasts_S256x1_S256x256 : FVec Ideal S256x256 .f32) : FVec Ideal S256x256 .f32) (extractStridedSlice S256x256 ![256, 768] (k0_pay45 G) slices_S512x1024_o256_768_S256x256 : FVec Ideal S256x256 .f32) : FVec Ideal S256x256 .f32) bitsLt_bf16_f32 : FVec Ideal S256x256 .bf16) shapeCasts_S256x256_S256x256 : FVec Ideal S256x256 .bf16)) (ix2 r e)
    = grp (rowY A C D Q v r) e * swish (G (ix2 ⟨256 + r, by omega⟩ ⟨768 + e, by omega⟩)) := unit7 A C G D Q v r e
end

section
variable (x T A B : FVec Ideal S512x1024 .f32) (y : FVec Ideal S256x1024 .bf16) (wb wo : Vec Ideal S1024x1024 .bf16)

theorem open_lo (fx fT fA fB fy : Fin 512 → Fin 1024 → EReal)
    (hx : ∀ r e, x (ix2 r e) = fx r e) (hT : ∀ r e, T (ix2 r e) = fT r e) (hA : ∀ r e, A (ix2 r e) = fA r e) (hB : ∀ r e, B (ix2 r e) = fB r e)
    (r : Fin 256) (hy : ∀ k, y (ix2 r k) = fy ⟨0 + r, by omega⟩ k) (e : Fin 1024) :
    ((addf (extractStridedSlice S256x1024 ![0, 0] x slices_S512x1024_o0_0_S256x1024 : FVec Ideal S256x1024 .f32) (matmul dot_S256x1024_S1024x1024_S256x1024_1_0_0_1_n_n none (truncf .bf16 (addf (mulf (divf (broadcast S256x1024 (FloatOps.ofBits .f32 0x3F800000#32 : Ideal .f32) : FVec Ideal S256x1024 .f32) (addf (broadcast S256x1024 (FloatOps.ofBits .f32 0x3F800000#32 : Ideal .f32) : FVec Ideal S256x1024 .f32) (exp (subf (broadcast S256x1024 (FloatOps.ofBits .f32 0x00000000#32 : Ideal .f32) : FVec Ideal S256x1024 .f32) (extractStridedSlice S256x1024 ![0, 0] (A) slices_S512x1024_o0_0_S256x1024 : FVec Ideal S256x1024 .f32) : FVec Ideal S256x1024 .f32) : FVec Ideal S256x1024 .f32) : FVec Ideal S256x1024 .f32) : FVec Ideal S256x1024 .f32) (extractStridedSlice S256x1024 ![0, 0] (T) slices_S512x1024_o0_0_S256x1024 : FVec Ideal S256x1024 .f32) : FVec Ideal S256x1024 .f32) (mulf (divf (broadcast S256x1024 (FloatOps.ofBits .f32 0x3F800000#32 : Ideal .f32) : FVec Ideal S256x1024 .f32) (addf (broadcast S256x1024 (FloatOps.ofBits .f32 0x3F800000#32 : Ideal .f32) : FVec Ideal S256x1024 .f32) (exp (subf (broadcast S256x1024 (FloatOps.ofBits .f32 0x00000000#32 : Ideal .f32) : FVec Ideal S256x1024 .f32) (extractStridedSlice S256x1024 ![0, 0] (B) slices_S512x1024_o0_0_S256x1024 : FVec Ideal S256x1024 .f32) : FVec Ideal S256x1024 .f32) : FVec Ideal S256x1024 .f32) : FVec Ideal S256x1024 .f32) : FVec Ideal S256x1024 .f32) (matmul dot_S256x1024_S1024x1024_S256x1024_1_0_0_1_n_n none y (shapeCast S1024x1024 wb shapeCasts_S1024x1024_S1024x1024 : FVec Ideal S1024x1024 .bf16) (constant S256x1024 .f32 0x00000000#32 : FVec Ideal S256x1024 .f32) : FVec Ideal S256x1024 .f32) : FVec Ideal S256x1024 .f32) : FVec Ideal S256x1024 .f32) bitsLt_bf16_f32 : FVec Ideal S256x1024 .bf16) (shapeCast S1024x1024 wo shapeCasts_S1024x1024_S1024x1024 : FVec Ideal S1024x1024 .bf16) (constant S256x1024 .f32 0x00000000#32 : FVec Ideal S256x1024 .f32) : FVec Ideal S256x1024 .f32) : FVec Ideal S256x1024 .f32)) (ix2 r e)
    = fx ⟨0 + r, by omega⟩ e + ∑ c, (Rows.logistic (fA ⟨0 + r, by omega⟩ c) * fT ⟨0 + r, by omega⟩ c + Rows.logistic (fB ⟨0 + r, by omega⟩ c) * ∑ k, fy ⟨0 + r, by omega⟩ k * wb (ix2 k c)) * wo (ix2 c e) := by
  refine Eq.trans (b := x (ix2 ⟨0 + r, by omega⟩ e) + ∑ c, (Rows.logistic (A (ix2 ⟨0 + r, by omega⟩ c)) * T (ix2 ⟨0 + r, by omega⟩ c)
      + Rows.logistic (B (ix2 ⟨0 + r, by omega⟩ c)) * ∑ k, y (ix2 r k) * wb (ix2 k c)) * wo (ix2 c e)) ?_ ?_
  · pointwise [Rows.logistic]
    simp only [sub_eq_add_neg, zero_add]
  · simp only [hx, hT, hA, hB, hy]

theorem open_hi (fx fT fA fB fy : Fin 512 → Fin 1024 → EReal)
    (hx : ∀ r e, x (ix2 r e) = fx r e) (hT : ∀ r e, T (ix2 r e) = fT r e) (hA : ∀ r e, A (ix2 r e) = fA r e) (hB : ∀ r e, B (ix2 r e) = fB r e)
    (r : Fin 256) (hy : ∀ k, y (ix2 r k) = fy ⟨256 + r, by omega⟩ k) (e : Fin 1024) :
    ((addf (extractStridedSlice S256x1024 ![256, 0] x slices_S512x1024_o256_0_S256x1024 : FVec Ideal S256x1024 .f32) (matmul dot_S256x1024_S1024x1024_S256x1024_1_0_0_1_n_n none (truncf .bf16 (addf (mulf (divf (broadcast S256x1024 (FloatOps.ofBits .f32 0x3F800000#32 : Ideal .f32) : FVec Ideal S256x1024 .f32) (addf (broadcast S256x1024 (FloatOps.ofBits .f32 0x3F800000#32 : Ideal .f32) : FVec Ideal S256x1024 .f32) (exp (subf (broadcast S256x1024 (FloatOps.ofBits .f32 0x00000000#32 : Ideal .f32) : FVec Ideal S256x1024 .f32) (extractStridedSlice S256x1024 ![256, 0] A slices_S512x1024_o256_0_S256x1024 : FVec Ideal S256x1024 .f32) : FVec Ideal S256x1024 .f32) : FVec Ideal S256x1024 .f32) : FVec Ideal S256x1024 .f32) : FVec Ideal S256x1024 .f32) (extractStridedSlice S256x1024 ![256, 0] T slices_S512x1024_o256_0_S256x1024 : FVec Ideal S256x1024 .f32) : FVec Ideal S256x1024 .f32) (mulf (divf (broadcast S256x1024 (FloatOps.ofBits .f32 0x3F800000#32 : Ideal .f32) : FVec Ideal S256x1024 .f32) (addf (broadcast S256x1024 (FloatOps.ofBits .f32 0x3F800000#32 : Ideal .f32) : FVec Ideal S256x1024 .f32) (exp (subf (broadcast S256x1024 (FloatOps.ofBits .f32 0x00000000#32 : Ideal .f32) : FVec Ideal S256x1024 .f32) (extractStridedSlice S256x1024 ![256, 0] B slices_S512x1024_o256_0_S256x1024 : FVec Ideal S256x1024 .f32) : FVec Ideal S256x1024 .f32) : FVec Ideal S256x1024 .f32) : FVec Ideal S256x1024 .f32) : FVec Ideal S256x1024 .f32) ((matmul dot_S256x1024_S1024x1024_S256x1024_1_0_0_1_n_n none y (shapeCast S1024x1024 wb shapeCasts_S1024x1024_S1024x1024 : FVec Ideal S1024x1024 .bf16) (constant S256x1024 .f32 0x00000000#32 : FVec Ideal S256x1024 .f32) : FVec Ideal S256x1024 .f32)) : FVec Ideal S256x1024 .f32) : FVec Ideal S256x1024 .f32) bitsLt_bf16_f32 : FVec Ideal S256x1024 .bf16) (shapeCast S1024x1024 wo shapeCasts_S1024x1024_S1024x1024 : FVec Ideal S1024x1024 .bf16) (constant S256x1024 .f32 0x00000000#32 : FVec Ideal S256x1024 .f32) : FVec Ideal S256x1024 .f32) : FVec Ideal S256x1024 .f32)) (ix2 r e)
    = fx ⟨256 + r, by omega⟩ e + ∑ c, (Rows.logistic (fA ⟨256 + r, by omega⟩ c) * fT ⟨256 + r, by omega⟩ c + Rows.logistic (fB ⟨256 + r, by omega⟩ c) * ∑ k, fy ⟨256 + r, by omega⟩ k * wb (ix2 k c)) * wo (ix2 c e) := by
  refine Eq.trans (b := x (ix2 ⟨256 + r, by omega⟩ e) + ∑ c, (Rows.logistic (A (ix2 ⟨256 + r, by omega⟩ c)) * T (ix2 ⟨256 + r, by omega⟩ c)
      + Rows.logistic (B (ix2 ⟨256 + r, by omega⟩ c)) * ∑ k, y (ix2 r k) * wb (ix2 k c)) * wo (ix2 c e)) ?_ ?_
  · pointwise [Rows.logistic]
    simp only [sub_eq_add_neg, zero_add]
  · simp only [hx, hT, hA, hB, hy]

end

theorem open_block (G : Fin 512 → Fin 1024 → EReal) (P0 P1 : FVec Ideal S256x1024 .f32) (i0 i1)
    (h0 : ∀ (r : Fin 256) e, P0 (ix2 r e) = G ⟨0 + r, by omega⟩ e) (h1 : ∀ (r : Fin 256) e, P1 (ix2 r e) = G ⟨256 + r, by omega⟩ e) (s : Fin 512) (e : Fin 1024) :
    View.canon ((⟨Rect.unit ![0, 256, 0] ![1, 256, 1024] i1, k0_pay1 P1⟩ : View.Piece (Elt Ideal) S1x512x1024 .f32)
      :: ⟨Rect.unit ![0, 0, 0] ![1, 256, 1024] i0, k0_pay75 P0⟩ :: []) (ix3 0 s e) = G s e := by
  have hs := s.isLt
  have at_ : ∀ (a : ℕ) (q : Fin 256), a + (q : ℕ) = s → ∀ k : Fin 3, ((ix3 0 s e : S1x512x1024.Idx) k : ℕ) = (![0, a, 0] : Fin 3 → ℕ) k + ((ix3 0 q e : S1x256x1024.Idx) k : ℕ) := by
    intro a q ha k
    match k with
    | ⟨0, _⟩ => rfl
    | ⟨1, _⟩ => exact ha.symm
    | ⟨2, _⟩ => exact (zero_add _).symm
  by_cases h : (s : ℕ) < 256
  · obtain ⟨q, hq⟩ : ∃ q : Fin 256, s = ⟨0 + q, by omega⟩ := ⟨⟨s, h⟩, Fin.ext (zero_add _).symm⟩
    rw [canon_miss _ _ _ _ 1 (.inl h), canon_hit _ _ _ _ (ix3 0 q e) (at_ 0 q (congrArg Fin.val hq).symm)]
    exact (out75 _ q e).trans ((h0 q e).trans (congrArg (fun a => G a e) hq.symm))
  · obtain ⟨q, hq⟩ : ∃ q : Fin 256, s = ⟨256 + q, by omega⟩ := ⟨⟨s - 256, by omega⟩, Fin.ext (by show (s : ℕ) = 256 + (s - 256); omega)⟩
    rw [canon_hit _ _ _ _ (ix3 0 q e) (at_ 256 q (congrArg Fin.val hq).symm)]
    exact (out1 _ q e).trans ((h1 q e).trans (congrArg (fun a => G a e) hq.symm))

theorem open_x (X0 : Vec Ideal S1x512x1024 .f32) (r : Fin 512) (e : Fin 1024) : (shapeCast S512x1024 X0 shapeCasts_S1x512x1024_S512x1024) (ix2 r e) = X0 (ix3 0 r e) := by pointwise

theorem open_w (X : Vec Ideal S1024x1024 .bf16) (r : Fin 1024) (e : Fin 1024) : (shapeCast S1024x1024 X shapeCasts_S1024x1024_S1024x1024) (ix2 r e) = X (ix2 r e) := by pointwise

theorem open_beside (F : Fin 512 → Fin 1024 → EReal) (a b c d : FVec Ideal S512x256 .f32)
    (h0 : ∀ r (j : Fin 256), a (ix2 r j) = F r ⟨0 + j, by omega⟩) (h1 : ∀ r (j : Fin 256), b (ix2 r j) = F r ⟨256 + j, by omega⟩)
    (h2 : ∀ r (j : Fin 256), c (ix2 r j) = F r ⟨512 + j, by omega⟩) (h3 : ∀ r (j : Fin 256), d (ix2 r j) = F r ⟨768 + j, by omega⟩)
    (r : Fin 512) (j : Fin 1024) :
    (concatenate S512x1024 1 [⟨S512x256, a⟩, ⟨S512x256, b⟩, ⟨S512x256, c⟩, ⟨S512x256, d⟩] concatenates_S512x256_S512x256_S512x256_S512x256_S512x1024_d1) (ix2 r j) = F r j :=
  (cat70 a b c d r j).trans (beside_eq F a b c d h0 h1 h2 h3 r j)

section
variable (y : Vec Ideal S1x512x512 .bf16) (a : Vec Ideal S512x256 .bf16) (h : FVec Ideal S512x1024 .bf16) (w : Vec Ideal S1024x256 .bf16) (r : Fin 512) (c : Fin 256)
theorem open_branch : ((matmul dot_S512x512_S512x256_S512x256_1_0_0_1_n_n none (shapeCast S512x512 y shapeCasts_S1x512x512_S512x512 : FVec Ideal S512x512 .bf16) (shapeCast S512x256 a shapeCasts_S512x256_S512x256 : FVec Ideal S512x256 .bf16) (constant S512x256 .f32 0x00000000#32 : FVec Ideal S512x256 .f32) : FVec Ideal S512x256 .f32)) (ix2 r c) = ∑ k, y (ix3 0 r k) * a (ix2 k c) := branch48 y a r c
theorem open_gate : ((matmul dot_S512x1024_S1024x256_S512x256_1_0_0_1_n_n none h (shapeCast S1024x256 w shapeCasts_S1024x256_S1024x256 : FVec Ideal S1024x256 .bf16) (constant S512x256 .f32 0x00000000#32 : FVec Ideal S512x256 .f32) : FVec Ideal S512x256 .f32)) (ix2 r c) = ∑ d, h (ix2 r d) * w (ix2 d c) := gate68 h w r c
end

section
variable (q : Vec Ideal S1x256x128 .bf16) (k : Vec Ideal S1x1x128x256 .bf16) (i j : Fin 256)
theorem open_att : ((matmul dot_S256x128_S128x256_S256x256_1_0_0_1_n_n none (shapeCast S256x128 q shapeCasts_S1x256x128_S256x128 : FVec Ideal S256x128 .bf16) (shapeCast S128x256 k shapeCasts_S1x1x128x256_S128x256 : FVec Ideal S128x256 .bf16) (constant S256x256 .f32 0x00000000#32 : FVec Ideal S256x256 .f32) : FVec Ideal S256x256 .f32)) (ix2 i j) = ∑ d, q (ix3 0 i d) * k (ix4 0 0 d j) := att0 q k i j
end

section
variable (k : Vec Ideal S1x1x128x256 .bf16) (v : Vec Ideal S1x256x256 .bf16) (d : Fin 128) (e : Fin 256)
theorem open_kv : ((matmul dot_S128x256_S256x256_S128x256_1_0_0_1_n_n none (shapeCast S128x256 k shapeCasts_S1x1x128x256_S128x256 : FVec Ideal S128x256 .bf16) (shapeCast S256x256 v shapeCasts_S1x256x256_S256x256 : FVec Ideal S256x256 .bf16) (constant S128x256 .f32 0x00000000#32 : FVec Ideal S128x256 .f32) : FVec Ideal S128x256 .f32)) (ix2 d e) = ∑ j, k (ix4 0 0 d j) * v (ix3 0 j e) := kv0 k v d e
end

section
variable (x : Vec Ideal S1x512x1024 .f32) (g : Vec Ideal S1x1024 .f32) (r : Fin 512) (c : Fin 1024)
theorem open_row : ((truncf .bf16 (mulf (mulf ((shapeCast S512x1024 x shapeCasts_S1x512x1024_S512x1024 : FVec Ideal S512x1024 .f32)) (broadcastTo S512x1024 (rsqrt (addf (divf (shapeCast S512x1 (multiReduction .add [1] S512 (mulf ((shapeCast S512x1024 x shapeCasts_S1x512x1024_S512x1024 : FVec Ideal S512x1024 .f32)) ((shapeCast S512x1024 x shapeCasts_S1x512x1024_S512x1024 : FVec Ideal S512x1024 .f32)) : FVec Ideal S512x1024 .f32) 0x00000000#32 reduces_S512x1024_S512 (.inl rfl) rfl : FVec Ideal S512 .f32) shapeCasts_S512_S512x1 : FVec Ideal S512x1 .f32) (broadcast S512x1 (FloatOps.ofBits .f32 0x44800000#32 : Ideal .f32) : FVec Ideal S512x1 .f32) : FVec Ideal S512x1 .f32) (broadcast S512x1 (FloatOps.ofBits .f32 0x358637BD#32 : Ideal .f32) : FVec Ideal S512x1 .f32) : FVec Ideal S512x1 .f32) : FVec Ideal S512x1 .f32) broadcasts_S512x1_S512x1024 : FVec Ideal S512x1024 .f32) : FVec Ideal S512x1024 .f32) (broadcastTo S512x1024 (shapeCast S1x1024 g shapeCasts_S1x1024_S1x1024 : FVec Ideal S1x1024 .f32) broadcasts_S1x1024_S512x1024 : FVec Ideal S512x1024 .f32) : FVec Ideal S512x1024 .f32) bitsLt_bf16_f32 : FVec Ideal S512x1024 .bf16)) (ix2 r c) = rms (fun d => x (ix3 0 r d)) (fun d => g (ix2 0 d)) c := row4 x g r c
end

end Cert.Mix

end
-- ==== Proof.MixResult.lean ====
/- The retention kernel's result block at each grid point. -/
module

public import proofs.«01_k».proof.Proof.MixOpen

@[expose] public section

set_option maxRecDepth 16384

noncomputable section

namespace Cert.Mix

open Cert.Kernel3Ideal Cert.Kernel3Ideal.Gen Cert.Rows Idealize.ShloMosaic Idealize.ShloMosaic.TcCoe
open Cert.Cross (canon_hit canon_miss)

section
variable (X0 : Vec Ideal S1x512x1024 .f32) (X1 : Vec Ideal S1x1024 .f32) (X2 : Vec Ideal S1x512x512 .bf16) (X3 X4 : Vec Ideal S1x2x512x256 .bf16)
  (X5 : Vec Ideal S1x512x1024 .bf16) (X6 : Vec Ideal S1x512x512 .bf16) (X7 X8 : Vec Ideal S4x256x256 .f32) (X9 : Vec Ideal S1024x6656 .bf16)
  (X10 : Vec Ideal S512x1024 .bf16) (X11 X12 : Vec Ideal S1024x1024 .bf16) (S : Fin 4 → Fin 128 → Fin 256 → EReal)

/-- A token's row. -/
def xRow (r : Fin 512) (d : Fin 1024) : EReal := X0 (ix3 0 r d)

/-- A token's normed row. -/
def hRow (r : Fin 512) : Fin 1024 → EReal := rms (xRow X0 r) (fun d => X1 (ix2 0 d))

/-- The attention's branch of a token. -/
def tRow (r : Fin 512) (j : Fin 1024) : EReal := ∑ k, X6 (ix3 0 r k) * X10 (ix2 k j)

/-- The columns of the fused projection from `a` on. -/
def pRow (a : ℕ) (ha : a + 1024 ≤ 6656) (r : Fin 512) (q : Fin 1024) : EReal := ∑ d, hRow X0 X1 r d * X9 (ix2 d ⟨a + q, by omega⟩)

/-- The retention's gated row of a token. -/
def bRow (r : Fin 512) : Fin 1024 → EReal := gated (hRow X0 X1 r) (fun d j => X9 (ix2 d j)) (yRow X2 X3 X4 X5 X7 X8 S r)

/-- A point's result row. -/
def pointRow (s : Fin 512) : Fin 1024 → EReal :=
  mixRow (xRow X0 s) (fun d => X1 (ix2 0 d)) (fun d j => X9 (ix2 d j)) (fun k => X6 (ix3 0 s k)) (fun k j => X10 (ix2 k j)) (fun k j => X11 (ix2 k j))
    (fun k j => X12 (ix2 k j)) (yRow X2 X3 X4 X5 X7 X8 S s)

/-- One gated entry of the retention. -/
def fB (n : Fin 2) (h : Fin 4) (r e : Fin 256) : EReal :=
  grp (yB X2 X3 X4 X5 X7 X8 S n h r) e * swish (pRow X0 X1 X9 3584 (by decide) ⟨n * 256 + r, by omega⟩ ⟨h * 256 + e, by omega⟩)

theorem fB_row (s : Fin 512) (c : Fin 1024) : fB X0 X1 X2 X3 X4 X5 X7 X8 X9 S ⟨s / 256, by omega⟩ ⟨c / 256, by omega⟩ ⟨s % 256, by omega⟩ ⟨c % 256, by omega⟩
    = bRow X0 X1 X2 X3 X4 X5 X7 X8 X9 S s c := by
  have hs := s.isLt
  have hc := c.isLt
  unfold fB bRow gated
  have e1 : (⟨(s : ℕ) / 256 * 256 + s % 256, by omega⟩ : Fin 512) = s := Fin.ext (by show (s : ℕ) / 256 * 256 + s % 256 = s; omega)
  have e2 : (⟨(c : ℕ) / 256 * 256 + c % 256, by omega⟩ : Fin 1024) = c := Fin.ext (by show (c : ℕ) / 256 * 256 + c % 256 = c; omega)
  have e3 : (fun j : Fin 256 => yRow X2 X3 X4 X5 X7 X8 S s (headCol c j)) = yB X2 X3 X4 X5 X7 X8 S ⟨s / 256, by omega⟩ ⟨c / 256, by omega⟩ ⟨s % 256, by omega⟩ := by
    funext j
    unfold yRow headCol
    have hj := j.isLt
    have a1 : (⟨((c : ℕ) / 256 * 256 + j) / 256, by omega⟩ : Fin 4) = ⟨c / 256, by omega⟩ := Fin.ext (by show ((c : ℕ) / 256 * 256 + j) / 256 = c / 256; omega)
    have a2 : (⟨((c : ℕ) / 256 * 256 + j) % 256, by omega⟩ : Fin 256) = j := Fin.ext (by show ((c : ℕ) / 256 * 256 + j) % 256 = j; omega)
    exact (congrArg₂ (fun a b => yB X2 X3 X4 X5 X7 X8 S ⟨s / 256, by omega⟩ a ⟨s % 256, by omega⟩ b) a1 a2)
  show grp _ _ * swish (pRow X0 X1 X9 3584 _ ⟨(s : ℕ) / 256 * 256 + s % 256, _⟩ ⟨(c : ℕ) / 256 * 256 + c % 256, _⟩) = _
  rw [e1, e2, e3]
  rfl

theorem point_eq (s : Fin 512) (e : Fin 1024) :
    xRow X0 s e + ∑ c, (Rows.logistic (pRow X0 X1 X9 4608 (by decide) s c) * tRow X6 X10 s c + Rows.logistic (pRow X0 X1 X9 5632 (by decide) s c)
      * ∑ k, bRow X0 X1 X2 X3 X4 X5 X7 X8 X9 S s k * X11 (ix2 k c)) * X12 (ix2 c e)
    = pointRow X0 X1 X2 X3 X4 X5 X6 X7 X8 X9 X10 X11 X12 S s e := rfl

end

section
variable (X0 : Vec Ideal S1x512x1024 .f32) (X1 : Vec Ideal S1x1024 .f32) (X9 : Vec Ideal S1024x6656 .bf16)

theorem gate_eq (g : FVec Ideal S512x1024 .bf16) (w : Vec Ideal S1024x256 .bf16) (r : Fin 512) (j : Fin 256) (a b : ℕ) (hb : b + 256 ≤ 1024) (ha : a + 1024 ≤ 6656)
    (k : FVec Ideal S512x256 .f32) (hk : k (ix2 r j) = ∑ d, g (ix2 r d) * w (ix2 d j))
    (hg : ∀ r d, g (ix2 r d) = hRow X0 X1 r d) (hw : ∀ d (j : Fin 256), w (ix2 d j) = X9 (ix2 d ⟨a + b + j, by omega⟩)) :
    k (ix2 r j) = pRow X0 X1 X9 a ha r ⟨b + j, by omega⟩ := by
  rw [hk]
  unfold pRow
  refine Finset.sum_congr rfl fun d _ => ?_
  rw [hg, hw]
  exact congrArg (fun q => hRow X0 X1 r d * X9 (ix2 d q)) (Fin.ext (Nat.add_assoc _ _ _))

end

theorem full3 (X : Vec Ideal S1x512x1024 .f32) (io) : View.ld X (Rect.unit ![0, 0, 0] ![1, 512, 1024] io) = X := by
  funext y
  refine congrArg X (funext fun a => Fin.ext ?_)
  match a with
  | ⟨0, _⟩ => show 0 + 1 * (y 0 : ℕ) = y 0; omega
  | ⟨1, _⟩ => show 0 + 1 * (y 1 : ℕ) = y 1; omega
  | ⟨2, _⟩ => show 0 + 1 * (y 2 : ℕ) = y 2; omega

theorem full2 (X : Vec Ideal S1x1024 .f32) (io) : View.ld X (Rect.unit ![0, 0] ![1, 1024] io) = X := by
  funext y
  refine congrArg X (funext fun a => Fin.ext ?_)
  match a with
  | ⟨0, _⟩ => show 0 + 1 * (y 0 : ℕ) = y 0; omega
  | ⟨1, _⟩ => show 0 + 1 * (y 1 : ℕ) = y 1; omega

theorem full3b (X : Vec Ideal S1x512x512 .bf16) (io) : View.ld X (Rect.unit ![0, 0, 0] ![1, 512, 512] io) = X := by
  funext y
  refine congrArg X (funext fun a => Fin.ext ?_)
  match a with
  | ⟨0, _⟩ => show 0 + 1 * (y 0 : ℕ) = y 0; omega
  | ⟨1, _⟩ => show 0 + 1 * (y 1 : ℕ) = y 1; omega
  | ⟨2, _⟩ => show 0 + 1 * (y 2 : ℕ) = y 2; omega

theorem gate1024 (X0 : Vec Ideal S1x512x1024 .f32) (X1 : Vec Ideal S1x1024 .f32) (X9 : Vec Ideal S1024x6656 .bf16) (g : FVec Ideal S512x1024 .bf16) (w : Vec Ideal S1024x1024 .bf16) (r : Fin 512) (j : Fin 1024)
    {k : FVec Ideal S512x1024 .f32} (hk : k (ix2 r j) = ∑ d, g (ix2 r d) * w (ix2 d j))
    (hg : ∀ r d, g (ix2 r d) = hRow X0 X1 r d) (hw : ∀ d (j : Fin 1024), w (ix2 d j) = X9 (ix2 d ⟨3584 + j, by omega⟩)) :
    k (ix2 r j) = pRow X0 X1 X9 3584 (by decide) r j := by
  rw [hk]
  unfold pRow
  refine Finset.sum_congr rfl fun d _ => ?_
  rw [hg, hw]

variable (m : (ℓ : Loc nD τ sig) → Buf (Elt Ideal) ℓ) (c : Dev nD) (t : Fin cfg0.N)

set_option maxHeartbeats 4000000 in
theorem later_block (h : ¬ t.val % 8 = 0) (s : Fin 512) (e : Fin 1024) : (outsAt0 m c t.val t.isLt).1 (ix3 0 s e)
    = pointRow (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (fun a d e => (outsAt0 m c (t.val - 1) (by omega)).2 (ix3 a d e)) s e := by
  rw [outsAt0_B m c t h]
  frame_out
  simp only [read_unread_whole]
  generalize (outsAt0 m c (t.val - 1) _).2 = S
  generalize iblk m c 0 t = X0
  generalize iblk m c 1 t = X1
  generalize iblk m c 2 t = X2
  generalize iblk m c 3 t = X3
  generalize iblk m c 4 t = X4
  generalize iblk m c 5 t = X5
  generalize iblk m c 6 t = X6
  generalize iblk m c 7 t = X7
  generalize iblk m c 8 t = X8
  generalize iblk m c 9 t = X9
  generalize iblk m c 10 t = X10
  generalize iblk m c 11 t = X11
  generalize iblk m c 12 t = X12
  refine (open_block (pointRow X0 X1 X2 X3 X4 X5 X6 X7 X8 X9 X10 X11 X12 (fun a d e => S (ix3 a d e))) _ _ _ _ ?h0 ?h1 s e)
  case h0 =>
    intro r e
    refine (open_lo _ _ _ _ _ _ _ (xRow X0) (tRow X6 X10) (pRow X0 X1 X9 4608 (by decide)) (pRow X0 X1 X9 5632 (by decide))
      (bRow X0 X1 X2 X3 X4 X5 X7 X8 X9 (fun a d e => S (ix3 a d e))) (fun r d => open_x X0 r d) ?hT ?hA ?hB r ?hy e).trans ?_
    case hT =>
      refine open_beside (tRow X6 X10) _ _ _ _ ?_ ?_ ?_ ?_ <;> intro r j <;> refine (open_branch _ _ r j).trans ?_ <;>
        (rw [Memref.IsWhole.read_unread, Memref.IsWhole.read_unread, full3b]; refine Finset.sum_congr rfl fun k _ => congrArg (@HMul.hMul EReal EReal EReal _ (X6 (ix3 0 r k))) ?_)
      · exact ldA X10 0 _ (by decide) k j
      · exact ldA X10 256 _ (by decide) k j
      · exact ldA X10 512 _ (by decide) k j
      · exact ldA X10 768 _ (by decide) k j
    case hA =>
      refine open_beside (pRow X0 X1 X9 4608 (by decide)) _ _ _ _ ?_ ?_ ?_ ?_ <;> intro r j <;>
        rw [Memref.IsWhole.read_unread, Memref.IsWhole.read_unread, Memref.IsWhole.read_unread, full3, full2]
      · exact gate_eq X0 X1 X9 _ _ r j 4608 0 (by decide) (by decide) _ (open_gate _ _ r j) (fun r d => open_row X0 X1 r d) (fun d j => ldW X9 4608 256 _ (by decide) d j)
      · exact gate_eq X0 X1 X9 _ _ r j 4608 256 (by decide) (by decide) _ (open_gate _ _ r j) (fun r d => open_row X0 X1 r d) (fun d j => ldW X9 4864 256 _ (by decide) d j)
      · exact gate_eq X0 X1 X9 _ _ r j 4608 512 (by decide) (by decide) _ (open_gate _ _ r j) (fun r d => open_row X0 X1 r d) (fun d j => ldW X9 5120 256 _ (by decide) d j)
      · exact gate_eq X0 X1 X9 _ _ r j 4608 768 (by decide) (by decide) _ (open_gate _ _ r j) (fun r d => open_row X0 X1 r d) (fun d j => ldW X9 5376 256 _ (by decide) d j)
    case hB =>
      refine open_beside (pRow X0 X1 X9 5632 (by decide)) _ _ _ _ ?_ ?_ ?_ ?_ <;> intro r j <;>
        rw [Memref.IsWhole.read_unread, Memref.IsWhole.read_unread, Memref.IsWhole.read_unread, full3, full2]
      · exact gate_eq X0 X1 X9 _ _ r j 5632 0 (by decide) (by decide) _ (open_gate _ _ r j) (fun r d => open_row X0 X1 r d) (fun d j => ldW X9 5632 256 _ (by decide) d j)
      · exact gate_eq X0 X1 X9 _ _ r j 5632 256 (by decide) (by decide) _ (open_gate _ _ r j) (fun r d => open_row X0 X1 r d) (fun d j => ldW X9 5888 256 _ (by decide) d j)
      · exact gate_eq X0 X1 X9 _ _ r j 5632 512 (by decide) (by decide) _ (open_gate _ _ r j) (fun r d => open_row X0 X1 r d) (fun d j => ldW X9 6144 256 _ (by decide) d j)
      · exact gate_eq X0 X1 X9 _ _ r j 5632 768 (by decide) (by decide) _ (open_gate _ _ r j) (fun r d => open_row X0 X1 r d) (fun d j => ldW X9 6400 256 _ (by decide) d j)
    case hy =>
      intro k
      rw [View.readCov_eq_canon']
      refine (yb_apply (fB X0 X1 X2 X3 X4 X5 X7 X8 X9 (fun a d e => S (ix3 a d e))) _ _ _ _ _ _ _ _ ?u0 ?u1 ?u2 ?u3 ?u4 ?u5 ?u6 ?u7 _ _ _ _ _ _ _ _ ⟨0 + r, by omega⟩ k _ ?y0 ?y1).trans
        (fB_row X0 X1 X2 X3 X4 X5 X7 X8 X9 (fun a d e => S (ix3 a d e)) ⟨0 + r, by omega⟩ k)
      case y0 => show 0 + 1 * (r : ℕ) = 0 + r; omega
      case y1 => show 0 + 1 * (k : ℕ) = k; omega
      case u0 =>
        intro r e
        refine (open_unit0 _ _ _ _ _ _ r e).trans (congrArg₂ (fun f g => grp f e * swish g) (row_unit X2 X3 X4 X5 X7 X8 (fun a d e => S (ix3 a d e)) 0 0 _ _ _ _ _ r ?ua ?uc ?ud ?uq ?uv)
          (gate1024 X0 X1 X9 _ _ _ _ (gate24 _ _ _ _) (fun r d => open_row X0 X1 r d) (fun d j => ldW X9 3584 1024 _ (by decide) d j)))
        case ua => intro j; exact (open_att _ _ r j).trans (Finset.sum_congr rfl fun d _ => congrArg₂ (· * ·) (ldQ 0 0 X2 _ _ _ rfl rfl r d) (ldK 0 0 X3 _ _ _ rfl rfl d j))
        case uc => intro e; exact (cross0_0 _ _ r e).trans (Finset.sum_congr rfl fun d _ => congrArg₂ (· * ·) (ldQ 0 0 X2 _ _ _ rfl rfl r d) (ldS 0 S 0 _ rfl d e))
        case ud => intro j; exact ldT 0 X7 0 _ rfl r j
        case uq => intro j; exact ldT 0 X8 0 _ rfl r j
        case uv => intro j e; exact ldV 0 0 X5 _ _ _ rfl rfl j e
      case u1 =>
        intro r e
        refine (open_unit1 _ _ _ _ _ _ r e).trans (congrArg₂ (fun f g => grp f e * swish g) (row_unit X2 X3 X4 X5 X7 X8 (fun a d e => S (ix3 a d e)) 0 1 _ _ _ _ _ r ?ua ?uc ?ud ?uq ?uv)
          (gate1024 X0 X1 X9 _ _ _ _ (gate24 _ _ _ _) (fun r d => open_row X0 X1 r d) (fun d j => ldW X9 3584 1024 _ (by decide) d j)))
        case ua => intro j; exact (open_att _ _ r j).trans (Finset.sum_congr rfl fun d _ => congrArg₂ (· * ·) (ldQ 0 1 X2 _ _ _ rfl rfl r d) (ldK 0 1 X3 _ _ _ rfl rfl d j))
        case uc => intro e; exact (cross0_1 _ _ r e).trans (Finset.sum_congr rfl fun d _ => congrArg₂ (· * ·) (ldQ 0 1 X2 _ _ _ rfl rfl r d) (ldS 1 S 1 _ rfl d e))
        case ud => intro j; exact ldT 1 X7 1 _ rfl r j
        case uq => intro j; exact ldT 1 X8 1 _ rfl r j
        case uv => intro j e; exact ldV 0 1 X5 _ _ _ rfl rfl j e
      case u2 =>
        intro r e
        refine (open_unit2 _ _ _ _ _ _ r e).trans (congrArg₂ (fun f g => grp f e * swish g) (row_unit X2 X3 X4 X5 X7 X8 (fun a d e => S (ix3 a d e)) 0 2 _ _ _ _ _ r ?ua ?uc ?ud ?uq ?uv)
          (gate1024 X0 X1 X9 _ _ _ _ (gate24 _ _ _ _) (fun r d => open_row X0 X1 r d) (fun d j => ldW X9 3584 1024 _ (by decide) d j)))
        case ua => intro j; exact (open_att _ _ r j).trans (Finset.sum_congr rfl fun d _ => congrArg₂ (· * ·) (ldQ 0 2 X2 _ _ _ rfl rfl r d) (ldK 0 2 X3 _ _ _ rfl rfl d j))
        case uc => intro e; exact (cross0_2 _ _ r e).trans (Finset.sum_congr rfl fun d _ => congrArg₂ (· * ·) (ldQ 0 2 X2 _ _ _ rfl rfl r d) (ldS 2 S 2 _ rfl d e))
        case ud => intro j; exact ldT 2 X7 2 _ rfl r j
        case uq => intro j; exact ldT 2 X8 2 _ rfl r j
        case uv => intro j e; exact ldV 0 2 X5 _ _ _ rfl rfl j e
      case u3 =>
        intro r e
        refine (open_unit3 _ _ _ _ _ _ r e).trans (congrArg₂ (fun f g => grp f e * swish g) (row_unit X2 X3 X4 X5 X7 X8 (fun a d e => S (ix3 a d e)) 0 3 _ _ _ _ _ r ?ua ?uc ?ud ?uq ?uv)
          (gate1024 X0 X1 X9 _ _ _ _ (gate24 _ _ _ _) (fun r d => open_row X0 X1 r d) (fun d j => ldW X9 3584 1024 _ (by decide) d j)))
        case ua => intro j; exact (open_att _ _ r j).trans (Finset.sum_congr rfl fun d _ => congrArg₂ (· * ·) (ldQ 0 3 X2 _ _ _ rfl rfl r d) (ldK 0 3 X3 _ _ _ rfl rfl d j))
        case uc => intro e; exact (cross0_3 _ _ r e).trans (Finset.sum_congr rfl fun d _ => congrArg₂ (· * ·) (ldQ 0 3 X2 _ _ _ rfl rfl r d) (ldS 3 S 3 _ rfl d e))
        case ud => intro j; exact ldT 3 X7 3 _ rfl r j
        case uq => intro j; exact ldT 3 X8 3 _ rfl r j
        case uv => intro j e; exact ldV 0 3 X5 _ _ _ rfl rfl j e
      case u4 =>
        intro r e
        refine (open_unit4 _ _ _ _ _ _ r e).trans (congrArg₂ (fun f g => grp f e * swish g) (row_unit X2 X3 X4 X5 X7 X8 (fun a d e => S (ix3 a d e)) 1 0 _ _ _ _ _ r ?ua ?uc ?ud ?uq ?uv)
          (gate1024 X0 X1 X9 _ _ _ _ (gate24 _ _ _ _) (fun r d => open_row X0 X1 r d) (fun d j => ldW X9 3584 1024 _ (by decide) d j)))
        case ua => intro j; exact (open_att _ _ r j).trans (Finset.sum_congr rfl fun d _ => congrArg₂ (· * ·) (ldQ 1 0 X2 _ _ _ rfl rfl r d) (ldK 1 0 X3 _ _ _ rfl rfl d j))
        case uc => intro e; exact (cross1_0 _ _ _ r e).trans (Finset.sum_congr rfl fun d _ => congrArg₂ (· * ·) (ldQ 1 0 X2 _ _ _ rfl rfl r d) (congrArg₂ (fun a b => decayed 0 * a + b) (ldS 0 S 0 _ rfl d e) ((open_kv _ _ d e).trans (Finset.sum_congr rfl fun j _ => congrArg₂ (· * ·) (ldK 0 0 X4 _ _ _ rfl rfl d j) (ldV 0 0 X5 _ _ _ rfl rfl j e)))))
        case ud => intro j; exact ldT 0 X7 0 _ rfl r j
        case uq => intro j; exact ldT 0 X8 0 _ rfl r j
        case uv => intro j e; exact ldV 1 0 X5 _ _ _ rfl rfl j e
      case u5 =>
        intro r e
        refine (open_unit5 _ _ _ _ _ _ r e).trans (congrArg₂ (fun f g => grp f e * swish g) (row_unit X2 X3 X4 X5 X7 X8 (fun a d e => S (ix3 a d e)) 1 1 _ _ _ _ _ r ?ua ?uc ?ud ?uq ?uv)
          (gate1024 X0 X1 X9 _ _ _ _ (gate24 _ _ _ _) (fun r d => open_row X0 X1 r d) (fun d j => ldW X9 3584 1024 _ (by decide) d j)))
        case ua => intro j; exact (open_att _ _ r j).trans (Finset.sum_congr rfl fun d _ => congrArg₂ (· * ·) (ldQ 1 1 X2 _ _ _ rfl rfl r d) (ldK 1 1 X3 _ _ _ rfl rfl d j))
        case uc => intro e; exact (cross1_1 _ _ _ r e).trans (Finset.sum_congr rfl fun d _ => congrArg₂ (· * ·) (ldQ 1 1 X2 _ _ _ rfl rfl r d) (congrArg₂ (fun a b => decayed 1 * a + b) (ldS 1 S 1 _ rfl d e) ((open_kv _ _ d e).trans (Finset.sum_congr rfl fun j _ => congrArg₂ (· * ·) (ldK 0 1 X4 _ _ _ rfl rfl d j) (ldV 0 1 X5 _ _ _ rfl rfl j e)))))
        case ud => intro j; exact ldT 1 X7 1 _ rfl r j
        case uq => intro j; exact ldT 1 X8 1 _ rfl r j
        case uv => intro j e; exact ldV 1 1 X5 _ _ _ rfl rfl j e
      case u6 =>
        intro r e
        refine (open_unit6 _ _ _ _ _ _ r e).trans (congrArg₂ (fun f g => grp f e * swish g) (row_unit X2 X3 X4 X5 X7 X8 (fun a d e => S (ix3 a d e)) 1 2 _ _ _ _ _ r ?ua ?uc ?ud ?uq ?uv)
          (gate1024 X0 X1 X9 _ _ _ _ (gate24 _ _ _ _) (fun r d => open_row X0 X1 r d) (fun d j => ldW X9 3584 1024 _ (by decide) d j)))
        case ua => intro j; exact (open_att _ _ r j).trans (Finset.sum_congr rfl fun d _ => congrArg₂ (· * ·) (ldQ 1 2 X2 _ _ _ rfl rfl r d) (ldK 1 2 X3 _ _ _ rfl rfl d j))
        case uc => intro e; exact (cross1_2 _ _ _ r e).trans (Finset.sum_congr rfl fun d _ => congrArg₂ (· * ·) (ldQ 1 2 X2 _ _ _ rfl rfl r d) (congrArg₂ (fun a b => decayed 2 * a + b) (ldS 2 S 2 _ rfl d e) ((open_kv _ _ d e).trans (Finset.sum_congr rfl fun j _ => congrArg₂ (· * ·) (ldK 0 2 X4 _ _ _ rfl rfl d j) (ldV 0 2 X5 _ _ _ rfl rfl j e)))))
        case ud => intro j; exact ldT 2 X7 2 _ rfl r j
        case uq => intro j; exact ldT 2 X8 2 _ rfl r j
        case uv => intro j e; exact ldV 1 2 X5 _ _ _ rfl rfl j e
      case u7 =>
        intro r e
        refine (open_unit7 _ _ _ _ _ _ r e).trans (congrArg₂ (fun f g => grp f e * swish g) (row_unit X2 X3 X4 X5 X7 X8 (fun a d e => S (ix3 a d e)) 1 3 _ _ _ _ _ r ?ua ?uc ?ud ?uq ?uv)
          (gate1024 X0 X1 X9 _ _ _ _ (gate24 _ _ _ _) (fun r d => open_row X0 X1 r d) (fun d j => ldW X9 3584 1024 _ (by decide) d j)))
        case ua => intro j; exact (open_att _ _ r j).trans (Finset.sum_congr rfl fun d _ => congrArg₂ (· * ·) (ldQ 1 3 X2 _ _ _ rfl rfl r d) (ldK 1 3 X3 _ _ _ rfl rfl d j))
        case uc => intro e; exact (cross1_3 _ _ _ r e).trans (Finset.sum_congr rfl fun d _ => congrArg₂ (· * ·) (ldQ 1 3 X2 _ _ _ rfl rfl r d) (congrArg₂ (fun a b => decayed 3 * a + b) (ldS 3 S 3 _ rfl d e) ((open_kv _ _ d e).trans (Finset.sum_congr rfl fun j _ => congrArg₂ (· * ·) (ldK 0 3 X4 _ _ _ rfl rfl d j) (ldV 0 3 X5 _ _ _ rfl rfl j e)))))
        case ud => intro j; exact ldT 3 X7 3 _ rfl r j
        case uq => intro j; exact ldT 3 X8 3 _ rfl r j
        case uv => intro j e; exact ldV 1 3 X5 _ _ _ rfl rfl j e
    exact point_eq X0 X1 X2 X3 X4 X5 X6 X7 X8 X9 X10 X11 X12 (fun a d e => S (ix3 a d e)) _ e
  case h1 =>
    intro r e
    refine (open_hi _ _ _ _ _ _ _ (xRow X0) (tRow X6 X10) (pRow X0 X1 X9 4608 (by decide)) (pRow X0 X1 X9 5632 (by decide))
      (bRow X0 X1 X2 X3 X4 X5 X7 X8 X9 (fun a d e => S (ix3 a d e))) (fun r d => open_x X0 r d) ?hT ?hA ?hB r ?hy e).trans ?_
    case hT =>
      refine open_beside (tRow X6 X10) _ _ _ _ ?_ ?_ ?_ ?_ <;> intro r j <;> refine (open_branch _ _ r j).trans ?_ <;>
        (rw [Memref.IsWhole.read_unread, Memref.IsWhole.read_unread, full3b]; refine Finset.sum_congr rfl fun k _ => congrArg (@HMul.hMul EReal EReal EReal _ (X6 (ix3 0 r k))) ?_)
      · exact ldA X10 0 _ (by decide) k j
      · exact ldA X10 256 _ (by decide) k j
      · exact ldA X10 512 _ (by decide) k j
      · exact ldA X10 768 _ (by decide) k j
    case hA =>
      refine open_beside (pRow X0 X1 X9 4608 (by decide)) _ _ _ _ ?_ ?_ ?_ ?_ <;> intro r j <;>
        rw [Memref.IsWhole.read_unread, Memref.IsWhole.read_unread, Memref.IsWhole.read_unread, full3, full2]
      · exact gate_eq X0 X1 X9 _ _ r j 4608 0 (by decide) (by decide) _ (open_gate _ _ r j) (fun r d => open_row X0 X1 r d) (fun d j => ldW X9 4608 256 _ (by decide) d j)
      · exact gate_eq X0 X1 X9 _ _ r j 4608 256 (by decide) (by decide) _ (open_gate _ _ r j) (fun r d => open_row X0 X1 r d) (fun d j => ldW X9 4864 256 _ (by decide) d j)
      · exact gate_eq X0 X1 X9 _ _ r j 4608 512 (by decide) (by decide) _ (open_gate _ _ r j) (fun r d => open_row X0 X1 r d) (fun d j => ldW X9 5120 256 _ (by decide) d j)
      · exact gate_eq X0 X1 X9 _ _ r j 4608 768 (by decide) (by decide) _ (open_gate _ _ r j) (fun r d => open_row X0 X1 r d) (fun d j => ldW X9 5376 256 _ (by decide) d j)
    case hB =>
      refine open_beside (pRow X0 X1 X9 5632 (by decide)) _ _ _ _ ?_ ?_ ?_ ?_ <;> intro r j <;>
        rw [Memref.IsWhole.read_unread, Memref.IsWhole.read_unread, Memref.IsWhole.read_unread, full3, full2]
      · exact gate_eq X0 X1 X9 _ _ r j 5632 0 (by decide) (by decide) _ (open_gate _ _ r j) (fun r d => open_row X0 X1 r d) (fun d j => ldW X9 5632 256 _ (by decide) d j)
      · exact gate_eq X0 X1 X9 _ _ r j 5632 256 (by decide) (by decide) _ (open_gate _ _ r j) (fun r d => open_row X0 X1 r d) (fun d j => ldW X9 5888 256 _ (by decide) d j)
      · exact gate_eq X0 X1 X9 _ _ r j 5632 512 (by decide) (by decide) _ (open_gate _ _ r j) (fun r d => open_row X0 X1 r d) (fun d j => ldW X9 6144 256 _ (by decide) d j)
      · exact gate_eq X0 X1 X9 _ _ r j 5632 768 (by decide) (by decide) _ (open_gate _ _ r j) (fun r d => open_row X0 X1 r d) (fun d j => ldW X9 6400 256 _ (by decide) d j)
    case hy =>
      intro k
      rw [View.readCov_eq_canon']
      refine (yb_apply (fB X0 X1 X2 X3 X4 X5 X7 X8 X9 (fun a d e => S (ix3 a d e))) _ _ _ _ _ _ _ _ ?u0 ?u1 ?u2 ?u3 ?u4 ?u5 ?u6 ?u7 _ _ _ _ _ _ _ _ ⟨256 + r, by omega⟩ k _ ?y0 ?y1).trans
        (fB_row X0 X1 X2 X3 X4 X5 X7 X8 X9 (fun a d e => S (ix3 a d e)) ⟨256 + r, by omega⟩ k)
      case y0 => show 256 + 1 * (r : ℕ) = 256 + r; omega
      case y1 => show 0 + 1 * (k : ℕ) = k; omega
      case u0 =>
        intro r e
        refine (open_unit0 _ _ _ _ _ _ r e).trans (congrArg₂ (fun f g => grp f e * swish g) (row_unit X2 X3 X4 X5 X7 X8 (fun a d e => S (ix3 a d e)) 0 0 _ _ _ _ _ r ?ua ?uc ?ud ?uq ?uv)
          (gate1024 X0 X1 X9 _ _ _ _ (gate24 _ _ _ _) (fun r d => open_row X0 X1 r d) (fun d j => ldW X9 3584 1024 _ (by decide) d j)))
        case ua => intro j; exact (open_att _ _ r j).trans (Finset.sum_congr rfl fun d _ => congrArg₂ (· * ·) (ldQ 0 0 X2 _ _ _ rfl rfl r d) (ldK 0 0 X3 _ _ _ rfl rfl d j))
        case uc => intro e; exact (cross0_0 _ _ r e).trans (Finset.sum_congr rfl fun d _ => congrArg₂ (· * ·) (ldQ 0 0 X2 _ _ _ rfl rfl r d) (ldS 0 S 0 _ rfl d e))
        case ud => intro j; exact ldT 0 X7 0 _ rfl r j
        case uq => intro j; exact ldT 0 X8 0 _ rfl r j
        case uv => intro j e; exact ldV 0 0 X5 _ _ _ rfl rfl j e
      case u1 =>
        intro r e
        refine (open_unit1 _ _ _ _ _ _ r e).trans (congrArg₂ (fun f g => grp f e * swish g) (row_unit X2 X3 X4 X5 X7 X8 (fun a d e => S (ix3 a d e)) 0 1 _ _ _ _ _ r ?ua ?uc ?ud ?uq ?uv)
          (gate1024 X0 X1 X9 _ _ _ _ (gate24 _ _ _ _) (fun r d => open_row X0 X1 r d) (fun d j => ldW X9 3584 1024 _ (by decide) d j)))
        case ua => intro j; exact (open_att _ _ r j).trans (Finset.sum_congr rfl fun d _ => congrArg₂ (· * ·) (ldQ 0 1 X2 _ _ _ rfl rfl r d) (ldK 0 1 X3 _ _ _ rfl rfl d j))
        case uc => intro e; exact (cross0_1 _ _ r e).trans (Finset.sum_congr rfl fun d _ => congrArg₂ (· * ·) (ldQ 0 1 X2 _ _ _ rfl rfl r d) (ldS 1 S 1 _ rfl d e))
        case ud => intro j; exact ldT 1 X7 1 _ rfl r j
        case uq => intro j; exact ldT 1 X8 1 _ rfl r j
        case uv => intro j e; exact ldV 0 1 X5 _ _ _ rfl rfl j e
      case u2 =>
        intro r e
        refine (open_unit2 _ _ _ _ _ _ r e).trans (congrArg₂ (fun f g => grp f e * swish g) (row_unit X2 X3 X4 X5 X7 X8 (fun a d e => S (ix3 a d e)) 0 2 _ _ _ _ _ r ?ua ?uc ?ud ?uq ?uv)
          (gate1024 X0 X1 X9 _ _ _ _ (gate24 _ _ _ _) (fun r d => open_row X0 X1 r d) (fun d j => ldW X9 3584 1024 _ (by decide) d j)))
        case ua => intro j; exact (open_att _ _ r j).trans (Finset.sum_congr rfl fun d _ => congrArg₂ (· * ·) (ldQ 0 2 X2 _ _ _ rfl rfl r d) (ldK 0 2 X3 _ _ _ rfl rfl d j))
        case uc => intro e; exact (cross0_2 _ _ r e).trans (Finset.sum_congr rfl fun d _ => congrArg₂ (· * ·) (ldQ 0 2 X2 _ _ _ rfl rfl r d) (ldS 2 S 2 _ rfl d e))
        case ud => intro j; exact ldT 2 X7 2 _ rfl r j
        case uq => intro j; exact ldT 2 X8 2 _ rfl r j
        case uv => intro j e; exact ldV 0 2 X5 _ _ _ rfl rfl j e
      case u3 =>
        intro r e
        refine (open_unit3 _ _ _ _ _ _ r e).trans (congrArg₂ (fun f g => grp f e * swish g) (row_unit X2 X3 X4 X5 X7 X8 (fun a d e => S (ix3 a d e)) 0 3 _ _ _ _ _ r ?ua ?uc ?ud ?uq ?uv)
          (gate1024 X0 X1 X9 _ _ _ _ (gate24 _ _ _ _) (fun r d => open_row X0 X1 r d) (fun d j => ldW X9 3584 1024 _ (by decide) d j)))
        case ua => intro j; exact (open_att _ _ r j).trans (Finset.sum_congr rfl fun d _ => congrArg₂ (· * ·) (ldQ 0 3 X2 _ _ _ rfl rfl r d) (ldK 0 3 X3 _ _ _ rfl rfl d j))
        case uc => intro e; exact (cross0_3 _ _ r e).trans (Finset.sum_congr rfl fun d _ => congrArg₂ (· * ·) (ldQ 0 3 X2 _ _ _ rfl rfl r d) (ldS 3 S 3 _ rfl d e))
        case ud => intro j; exact ldT 3 X7 3 _ rfl r j
        case uq => intro j; exact ldT 3 X8 3 _ rfl r j
        case uv => intro j e; exact ldV 0 3 X5 _ _ _ rfl rfl j e
      case u4 =>
        intro r e
        refine (open_unit4 _ _ _ _ _ _ r e).trans (congrArg₂ (fun f g => grp f e * swish g) (row_unit X2 X3 X4 X5 X7 X8 (fun a d e => S (ix3 a d e)) 1 0 _ _ _ _ _ r ?ua ?uc ?ud ?uq ?uv)
          (gate1024 X0 X1 X9 _ _ _ _ (gate24 _ _ _ _) (fun r d => open_row X0 X1 r d) (fun d j => ldW X9 3584 1024 _ (by decide) d j)))
        case ua => intro j; exact (open_att _ _ r j).trans (Finset.sum_congr rfl fun d _ => congrArg₂ (· * ·) (ldQ 1 0 X2 _ _ _ rfl rfl r d) (ldK 1 0 X3 _ _ _ rfl rfl d j))
        case uc => intro e; exact (cross1_0 _ _ _ r e).trans (Finset.sum_congr rfl fun d _ => congrArg₂ (· * ·) (ldQ 1 0 X2 _ _ _ rfl rfl r d) (congrArg₂ (fun a b => decayed 0 * a + b) (ldS 0 S 0 _ rfl d e) ((open_kv _ _ d e).trans (Finset.sum_congr rfl fun j _ => congrArg₂ (· * ·) (ldK 0 0 X4 _ _ _ rfl rfl d j) (ldV 0 0 X5 _ _ _ rfl rfl j e)))))
        case ud => intro j; exact ldT 0 X7 0 _ rfl r j
        case uq => intro j; exact ldT 0 X8 0 _ rfl r j
        case uv => intro j e; exact ldV 1 0 X5 _ _ _ rfl rfl j e
      case u5 =>
        intro r e
        refine (open_unit5 _ _ _ _ _ _ r e).trans (congrArg₂ (fun f g => grp f e * swish g) (row_unit X2 X3 X4 X5 X7 X8 (fun a d e => S (ix3 a d e)) 1 1 _ _ _ _ _ r ?ua ?uc ?ud ?uq ?uv)
          (gate1024 X0 X1 X9 _ _ _ _ (gate24 _ _ _ _) (fun r d => open_row X0 X1 r d) (fun d j => ldW X9 3584 1024 _ (by decide) d j)))
        case ua => intro j; exact (open_att _ _ r j).trans (Finset.sum_congr rfl fun d _ => congrArg₂ (· * ·) (ldQ 1 1 X2 _ _ _ rfl rfl r d) (ldK 1 1 X3 _ _ _ rfl rfl d j))
        case uc => intro e; exact (cross1_1 _ _ _ r e).trans (Finset.sum_congr rfl fun d _ => congrArg₂ (· * ·) (ldQ 1 1 X2 _ _ _ rfl rfl r d) (congrArg₂ (fun a b => decayed 1 * a + b) (ldS 1 S 1 _ rfl d e) ((open_kv _ _ d e).trans (Finset.sum_congr rfl fun j _ => congrArg₂ (· * ·) (ldK 0 1 X4 _ _ _ rfl rfl d j) (ldV 0 1 X5 _ _ _ rfl rfl j e)))))
        case ud => intro j; exact ldT 1 X7 1 _ rfl r j
        case uq => intro j; exact ldT 1 X8 1 _ rfl r j
        case uv => intro j e; exact ldV 1 1 X5 _ _ _ rfl rfl j e
      case u6 =>
        intro r e
        refine (open_unit6 _ _ _ _ _ _ r e).trans (congrArg₂ (fun f g => grp f e * swish g) (row_unit X2 X3 X4 X5 X7 X8 (fun a d e => S (ix3 a d e)) 1 2 _ _ _ _ _ r ?ua ?uc ?ud ?uq ?uv)
          (gate1024 X0 X1 X9 _ _ _ _ (gate24 _ _ _ _) (fun r d => open_row X0 X1 r d) (fun d j => ldW X9 3584 1024 _ (by decide) d j)))
        case ua => intro j; exact (open_att _ _ r j).trans (Finset.sum_congr rfl fun d _ => congrArg₂ (· * ·) (ldQ 1 2 X2 _ _ _ rfl rfl r d) (ldK 1 2 X3 _ _ _ rfl rfl d j))
        case uc => intro e; exact (cross1_2 _ _ _ r e).trans (Finset.sum_congr rfl fun d _ => congrArg₂ (· * ·) (ldQ 1 2 X2 _ _ _ rfl rfl r d) (congrArg₂ (fun a b => decayed 2 * a + b) (ldS 2 S 2 _ rfl d e) ((open_kv _ _ d e).trans (Finset.sum_congr rfl fun j _ => congrArg₂ (· * ·) (ldK 0 2 X4 _ _ _ rfl rfl d j) (ldV 0 2 X5 _ _ _ rfl rfl j e)))))
        case ud => intro j; exact ldT 2 X7 2 _ rfl r j
        case uq => intro j; exact ldT 2 X8 2 _ rfl r j
        case uv => intro j e; exact ldV 1 2 X5 _ _ _ rfl rfl j e
      case u7 =>
        intro r e
        refine (open_unit7 _ _ _ _ _ _ r e).trans (congrArg₂ (fun f g => grp f e * swish g) (row_unit X2 X3 X4 X5 X7 X8 (fun a d e => S (ix3 a d e)) 1 3 _ _ _ _ _ r ?ua ?uc ?ud ?uq ?uv)
          (gate1024 X0 X1 X9 _ _ _ _ (gate24 _ _ _ _) (fun r d => open_row X0 X1 r d) (fun d j => ldW X9 3584 1024 _ (by decide) d j)))
        case ua => intro j; exact (open_att _ _ r j).trans (Finset.sum_congr rfl fun d _ => congrArg₂ (· * ·) (ldQ 1 3 X2 _ _ _ rfl rfl r d) (ldK 1 3 X3 _ _ _ rfl rfl d j))
        case uc => intro e; exact (cross1_3 _ _ _ r e).trans (Finset.sum_congr rfl fun d _ => congrArg₂ (· * ·) (ldQ 1 3 X2 _ _ _ rfl rfl r d) (congrArg₂ (fun a b => decayed 3 * a + b) (ldS 3 S 3 _ rfl d e) ((open_kv _ _ d e).trans (Finset.sum_congr rfl fun j _ => congrArg₂ (· * ·) (ldK 0 3 X4 _ _ _ rfl rfl d j) (ldV 0 3 X5 _ _ _ rfl rfl j e)))))
        case ud => intro j; exact ldT 3 X7 3 _ rfl r j
        case uq => intro j; exact ldT 3 X8 3 _ rfl r j
        case uv => intro j e; exact ldV 1 3 X5 _ _ _ rfl rfl j e
    exact point_eq X0 X1 X2 X3 X4 X5 X6 X7 X8 X9 X10 X11 X12 (fun a d e => S (ix3 a d e)) _ e

set_option maxHeartbeats 4000000 in
theorem first_block (h : t.val % 8 = 0) (s : Fin 512) (e : Fin 1024) : (outsAt0 m c t.val t.isLt).1 (ix3 0 s e)
    = pointRow (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (fun _ _ _ => 0) s e := by
  rw [outsAt0_A m c t h]
  frame_out
  generalize iblk m c 0 t = X0
  generalize iblk m c 1 t = X1
  generalize iblk m c 2 t = X2
  generalize iblk m c 3 t = X3
  generalize iblk m c 4 t = X4
  generalize iblk m c 5 t = X5
  generalize iblk m c 6 t = X6
  generalize iblk m c 7 t = X7
  generalize iblk m c 8 t = X8
  generalize iblk m c 9 t = X9
  generalize iblk m c 10 t = X10
  generalize iblk m c 11 t = X11
  generalize iblk m c 12 t = X12
  refine (open_block (pointRow X0 X1 X2 X3 X4 X5 X6 X7 X8 X9 X10 X11 X12 (fun _ _ _ => 0)) _ _ _ _ ?h0 ?h1 s e)
  case h0 =>
    intro r e
    refine (open_lo _ _ _ _ _ _ _ (xRow X0) (tRow X6 X10) (pRow X0 X1 X9 4608 (by decide)) (pRow X0 X1 X9 5632 (by decide))
      (bRow X0 X1 X2 X3 X4 X5 X7 X8 X9 (fun _ _ _ => 0)) (fun r d => open_x X0 r d) ?hT ?hA ?hB r ?hy e).trans ?_
    case hT =>
      refine open_beside (tRow X6 X10) _ _ _ _ ?_ ?_ ?_ ?_ <;> intro r j <;> refine (open_branch _ _ r j).trans ?_ <;>
        (rw [Memref.IsWhole.read_unread, Memref.IsWhole.read_unread, full3b]; refine Finset.sum_congr rfl fun k _ => congrArg (@HMul.hMul EReal EReal EReal _ (X6 (ix3 0 r k))) ?_)
      · exact ldA X10 0 _ (by decide) k j
      · exact ldA X10 256 _ (by decide) k j
      · exact ldA X10 512 _ (by decide) k j
      · exact ldA X10 768 _ (by decide) k j
    case hA =>
      refine open_beside (pRow X0 X1 X9 4608 (by decide)) _ _ _ _ ?_ ?_ ?_ ?_ <;> intro r j <;>
        rw [Memref.IsWhole.read_unread, Memref.IsWhole.read_unread, Memref.IsWhole.read_unread, full3, full2]
      · exact gate_eq X0 X1 X9 _ _ r j 4608 0 (by decide) (by decide) _ (open_gate _ _ r j) (fun r d => open_row X0 X1 r d) (fun d j => ldW X9 4608 256 _ (by decide) d j)
      · exact gate_eq X0 X1 X9 _ _ r j 4608 256 (by decide) (by decide) _ (open_gate _ _ r j) (fun r d => open_row X0 X1 r d) (fun d j => ldW X9 4864 256 _ (by decide) d j)
      · exact gate_eq X0 X1 X9 _ _ r j 4608 512 (by decide) (by decide) _ (open_gate _ _ r j) (fun r d => open_row X0 X1 r d) (fun d j => ldW X9 5120 256 _ (by decide) d j)
      · exact gate_eq X0 X1 X9 _ _ r j 4608 768 (by decide) (by decide) _ (open_gate _ _ r j) (fun r d => open_row X0 X1 r d) (fun d j => ldW X9 5376 256 _ (by decide) d j)
    case hB =>
      refine open_beside (pRow X0 X1 X9 5632 (by decide)) _ _ _ _ ?_ ?_ ?_ ?_ <;> intro r j <;>
        rw [Memref.IsWhole.read_unread, Memref.IsWhole.read_unread, Memref.IsWhole.read_unread, full3, full2]
      · exact gate_eq X0 X1 X9 _ _ r j 5632 0 (by decide) (by decide) _ (open_gate _ _ r j) (fun r d => open_row X0 X1 r d) (fun d j => ldW X9 5632 256 _ (by decide) d j)
      · exact gate_eq X0 X1 X9 _ _ r j 5632 256 (by decide) (by decide) _ (open_gate _ _ r j) (fun r d => open_row X0 X1 r d) (fun d j => ldW X9 5888 256 _ (by decide) d j)
      · exact gate_eq X0 X1 X9 _ _ r j 5632 512 (by decide) (by decide) _ (open_gate _ _ r j) (fun r d => open_row X0 X1 r d) (fun d j => ldW X9 6144 256 _ (by decide) d j)
      · exact gate_eq X0 X1 X9 _ _ r j 5632 768 (by decide) (by decide) _ (open_gate _ _ r j) (fun r d => open_row X0 X1 r d) (fun d j => ldW X9 6400 256 _ (by decide) d j)
    case hy =>
      intro k
      rw [View.readCov_eq_canon']
      refine (yb_apply (fB X0 X1 X2 X3 X4 X5 X7 X8 X9 (fun _ _ _ => 0)) _ _ _ _ _ _ _ _ ?u0 ?u1 ?u2 ?u3 ?u4 ?u5 ?u6 ?u7 _ _ _ _ _ _ _ _ ⟨0 + r, by omega⟩ k _ ?y0 ?y1).trans
        (fB_row X0 X1 X2 X3 X4 X5 X7 X8 X9 (fun _ _ _ => 0) ⟨0 + r, by omega⟩ k)
      case y0 => show 0 + 1 * (r : ℕ) = 0 + r; omega
      case y1 => show 0 + 1 * (k : ℕ) = k; omega
      case u0 =>
        intro r e
        refine (open_unit0 _ _ _ _ _ _ r e).trans (congrArg₂ (fun f g => grp f e * swish g) (row_unit X2 X3 X4 X5 X7 X8 (fun _ _ _ => 0) 0 0 _ _ _ _ _ r ?ua ?uc ?ud ?uq ?uv)
          (gate1024 X0 X1 X9 _ _ _ _ (gate24 _ _ _ _) (fun r d => open_row X0 X1 r d) (fun d j => ldW X9 3584 1024 _ (by decide) d j)))
        case ua => intro j; exact (open_att _ _ r j).trans (Finset.sum_congr rfl fun d _ => congrArg₂ (· * ·) (ldQ 0 0 X2 _ _ _ rfl rfl r d) (ldK 0 0 X3 _ _ _ rfl rfl d j))
        case uc => intro e; exact (cross0_0 _ _ r e).trans (Finset.sum_congr rfl fun d _ => congrArg₂ (· * ·) (ldQ 0 0 X2 _ _ _ rfl rfl r d) (found0 _ _ _ d e))
        case ud => intro j; exact ldT 0 X7 0 _ rfl r j
        case uq => intro j; exact ldT 0 X8 0 _ rfl r j
        case uv => intro j e; exact ldV 0 0 X5 _ _ _ rfl rfl j e
      case u1 =>
        intro r e
        refine (open_unit1 _ _ _ _ _ _ r e).trans (congrArg₂ (fun f g => grp f e * swish g) (row_unit X2 X3 X4 X5 X7 X8 (fun _ _ _ => 0) 0 1 _ _ _ _ _ r ?ua ?uc ?ud ?uq ?uv)
          (gate1024 X0 X1 X9 _ _ _ _ (gate24 _ _ _ _) (fun r d => open_row X0 X1 r d) (fun d j => ldW X9 3584 1024 _ (by decide) d j)))
        case ua => intro j; exact (open_att _ _ r j).trans (Finset.sum_congr rfl fun d _ => congrArg₂ (· * ·) (ldQ 0 1 X2 _ _ _ rfl rfl r d) (ldK 0 1 X3 _ _ _ rfl rfl d j))
        case uc => intro e; exact (cross0_1 _ _ r e).trans (Finset.sum_congr rfl fun d _ => congrArg₂ (· * ·) (ldQ 0 1 X2 _ _ _ rfl rfl r d) (found1 _ _ _ _ _ d e))
        case ud => intro j; exact ldT 1 X7 1 _ rfl r j
        case uq => intro j; exact ldT 1 X8 1 _ rfl r j
        case uv => intro j e; exact ldV 0 1 X5 _ _ _ rfl rfl j e
      case u2 =>
        intro r e
        refine (open_unit2 _ _ _ _ _ _ r e).trans (congrArg₂ (fun f g => grp f e * swish g) (row_unit X2 X3 X4 X5 X7 X8 (fun _ _ _ => 0) 0 2 _ _ _ _ _ r ?ua ?uc ?ud ?uq ?uv)
          (gate1024 X0 X1 X9 _ _ _ _ (gate24 _ _ _ _) (fun r d => open_row X0 X1 r d) (fun d j => ldW X9 3584 1024 _ (by decide) d j)))
        case ua => intro j; exact (open_att _ _ r j).trans (Finset.sum_congr rfl fun d _ => congrArg₂ (· * ·) (ldQ 0 2 X2 _ _ _ rfl rfl r d) (ldK 0 2 X3 _ _ _ rfl rfl d j))
        case uc => intro e; exact (cross0_2 _ _ r e).trans (Finset.sum_congr rfl fun d _ => congrArg₂ (· * ·) (ldQ 0 2 X2 _ _ _ rfl rfl r d) (found2 _ _ _ _ _ _ _ d e))
        case ud => intro j; exact ldT 2 X7 2 _ rfl r j
        case uq => intro j; exact ldT 2 X8 2 _ rfl r j
        case uv => intro j e; exact ldV 0 2 X5 _ _ _ rfl rfl j e
      case u3 =>
        intro r e
        refine (open_unit3 _ _ _ _ _ _ r e).trans (congrArg₂ (fun f g => grp f e * swish g) (row_unit X2 X3 X4 X5 X7 X8 (fun _ _ _ => 0) 0 3 _ _ _ _ _ r ?ua ?uc ?ud ?uq ?uv)
          (gate1024 X0 X1 X9 _ _ _ _ (gate24 _ _ _ _) (fun r d => open_row X0 X1 r d) (fun d j => ldW X9 3584 1024 _ (by decide) d j)))
        case ua => intro j; exact (open_att _ _ r j).trans (Finset.sum_congr rfl fun d _ => congrArg₂ (· * ·) (ldQ 0 3 X2 _ _ _ rfl rfl r d) (ldK 0 3 X3 _ _ _ rfl rfl d j))
        case uc => intro e; exact (cross0_3 _ _ r e).trans (Finset.sum_congr rfl fun d _ => congrArg₂ (· * ·) (ldQ 0 3 X2 _ _ _ rfl rfl r d) (found3 _ _ _ _ _ _ _ _ _ d e))
        case ud => intro j; exact ldT 3 X7 3 _ rfl r j
        case uq => intro j; exact ldT 3 X8 3 _ rfl r j
        case uv => intro j e; exact ldV 0 3 X5 _ _ _ rfl rfl j e
      case u4 =>
        intro r e
        refine (open_unit4 _ _ _ _ _ _ r e).trans (congrArg₂ (fun f g => grp f e * swish g) (row_unit X2 X3 X4 X5 X7 X8 (fun _ _ _ => 0) 1 0 _ _ _ _ _ r ?ua ?uc ?ud ?uq ?uv)
          (gate1024 X0 X1 X9 _ _ _ _ (gate24 _ _ _ _) (fun r d => open_row X0 X1 r d) (fun d j => ldW X9 3584 1024 _ (by decide) d j)))
        case ua => intro j; exact (open_att _ _ r j).trans (Finset.sum_congr rfl fun d _ => congrArg₂ (· * ·) (ldQ 1 0 X2 _ _ _ rfl rfl r d) (ldK 1 0 X3 _ _ _ rfl rfl d j))
        case uc => intro e; exact (cross1_0 _ _ _ r e).trans (Finset.sum_congr rfl fun d _ => congrArg₂ (· * ·) (ldQ 1 0 X2 _ _ _ rfl rfl r d) (congrArg₂ (fun a b => decayed 0 * a + b) (found0 _ _ _ d e) ((open_kv _ _ d e).trans (Finset.sum_congr rfl fun j _ => congrArg₂ (· * ·) (ldK 0 0 X4 _ _ _ rfl rfl d j) (ldV 0 0 X5 _ _ _ rfl rfl j e)))))
        case ud => intro j; exact ldT 0 X7 0 _ rfl r j
        case uq => intro j; exact ldT 0 X8 0 _ rfl r j
        case uv => intro j e; exact ldV 1 0 X5 _ _ _ rfl rfl j e
      case u5 =>
        intro r e
        refine (open_unit5 _ _ _ _ _ _ r e).trans (congrArg₂ (fun f g => grp f e * swish g) (row_unit X2 X3 X4 X5 X7 X8 (fun _ _ _ => 0) 1 1 _ _ _ _ _ r ?ua ?uc ?ud ?uq ?uv)
          (gate1024 X0 X1 X9 _ _ _ _ (gate24 _ _ _ _) (fun r d => open_row X0 X1 r d) (fun d j => ldW X9 3584 1024 _ (by decide) d j)))
        case ua => intro j; exact (open_att _ _ r j).trans (Finset.sum_congr rfl fun d _ => congrArg₂ (· * ·) (ldQ 1 1 X2 _ _ _ rfl rfl r d) (ldK 1 1 X3 _ _ _ rfl rfl d j))
        case uc => intro e; exact (cross1_1 _ _ _ r e).trans (Finset.sum_congr rfl fun d _ => congrArg₂ (· * ·) (ldQ 1 1 X2 _ _ _ rfl rfl r d) (congrArg₂ (fun a b => decayed 1 * a + b) (found1 _ _ _ _ _ d e) ((open_kv _ _ d e).trans (Finset.sum_congr rfl fun j _ => congrArg₂ (· * ·) (ldK 0 1 X4 _ _ _ rfl rfl d j) (ldV 0 1 X5 _ _ _ rfl rfl j e)))))
        case ud => intro j; exact ldT 1 X7 1 _ rfl r j
        case uq => intro j; exact ldT 1 X8 1 _ rfl r j
        case uv => intro j e; exact ldV 1 1 X5 _ _ _ rfl rfl j e
      case u6 =>
        intro r e
        refine (open_unit6 _ _ _ _ _ _ r e).trans (congrArg₂ (fun f g => grp f e * swish g) (row_unit X2 X3 X4 X5 X7 X8 (fun _ _ _ => 0) 1 2 _ _ _ _ _ r ?ua ?uc ?ud ?uq ?uv)
          (gate1024 X0 X1 X9 _ _ _ _ (gate24 _ _ _ _) (fun r d => open_row X0 X1 r d) (fun d j => ldW X9 3584 1024 _ (by decide) d j)))
        case ua => intro j; exact (open_att _ _ r j).trans (Finset.sum_congr rfl fun d _ => congrArg₂ (· * ·) (ldQ 1 2 X2 _ _ _ rfl rfl r d) (ldK 1 2 X3 _ _ _ rfl rfl d j))
        case uc => intro e; exact (cross1_2 _ _ _ r e).trans (Finset.sum_congr rfl fun d _ => congrArg₂ (· * ·) (ldQ 1 2 X2 _ _ _ rfl rfl r d) (congrArg₂ (fun a b => decayed 2 * a + b) (found2 _ _ _ _ _ _ _ d e) ((open_kv _ _ d e).trans (Finset.sum_congr rfl fun j _ => congrArg₂ (· * ·) (ldK 0 2 X4 _ _ _ rfl rfl d j) (ldV 0 2 X5 _ _ _ rfl rfl j e)))))
        case ud => intro j; exact ldT 2 X7 2 _ rfl r j
        case uq => intro j; exact ldT 2 X8 2 _ rfl r j
        case uv => intro j e; exact ldV 1 2 X5 _ _ _ rfl rfl j e
      case u7 =>
        intro r e
        refine (open_unit7 _ _ _ _ _ _ r e).trans (congrArg₂ (fun f g => grp f e * swish g) (row_unit X2 X3 X4 X5 X7 X8 (fun _ _ _ => 0) 1 3 _ _ _ _ _ r ?ua ?uc ?ud ?uq ?uv)
          (gate1024 X0 X1 X9 _ _ _ _ (gate24 _ _ _ _) (fun r d => open_row X0 X1 r d) (fun d j => ldW X9 3584 1024 _ (by decide) d j)))
        case ua => intro j; exact (open_att _ _ r j).trans (Finset.sum_congr rfl fun d _ => congrArg₂ (· * ·) (ldQ 1 3 X2 _ _ _ rfl rfl r d) (ldK 1 3 X3 _ _ _ rfl rfl d j))
        case uc => intro e; exact (cross1_3 _ _ _ r e).trans (Finset.sum_congr rfl fun d _ => congrArg₂ (· * ·) (ldQ 1 3 X2 _ _ _ rfl rfl r d) (congrArg₂ (fun a b => decayed 3 * a + b) (found3 _ _ _ _ _ _ _ _ _ d e) ((open_kv _ _ d e).trans (Finset.sum_congr rfl fun j _ => congrArg₂ (· * ·) (ldK 0 3 X4 _ _ _ rfl rfl d j) (ldV 0 3 X5 _ _ _ rfl rfl j e)))))
        case ud => intro j; exact ldT 3 X7 3 _ rfl r j
        case uq => intro j; exact ldT 3 X8 3 _ rfl r j
        case uv => intro j e; exact ldV 1 3 X5 _ _ _ rfl rfl j e
    exact point_eq X0 X1 X2 X3 X4 X5 X6 X7 X8 X9 X10 X11 X12 (fun _ _ _ => 0) _ e
  case h1 =>
    intro r e
    refine (open_hi _ _ _ _ _ _ _ (xRow X0) (tRow X6 X10) (pRow X0 X1 X9 4608 (by decide)) (pRow X0 X1 X9 5632 (by decide))
      (bRow X0 X1 X2 X3 X4 X5 X7 X8 X9 (fun _ _ _ => 0)) (fun r d => open_x X0 r d) ?hT ?hA ?hB r ?hy e).trans ?_
    case hT =>
      refine open_beside (tRow X6 X10) _ _ _ _ ?_ ?_ ?_ ?_ <;> intro r j <;> refine (open_branch _ _ r j).trans ?_ <;>
        (rw [Memref.IsWhole.read_unread, Memref.IsWhole.read_unread, full3b]; refine Finset.sum_congr rfl fun k _ => congrArg (@HMul.hMul EReal EReal EReal _ (X6 (ix3 0 r k))) ?_)
      · exact ldA X10 0 _ (by decide) k j
      · exact ldA X10 256 _ (by decide) k j
      · exact ldA X10 512 _ (by decide) k j
      · exact ldA X10 768 _ (by decide) k j
    case hA =>
      refine open_beside (pRow X0 X1 X9 4608 (by decide)) _ _ _ _ ?_ ?_ ?_ ?_ <;> intro r j <;>
        rw [Memref.IsWhole.read_unread, Memref.IsWhole.read_unread, Memref.IsWhole.read_unread, full3, full2]
      · exact gate_eq X0 X1 X9 _ _ r j 4608 0 (by decide) (by decide) _ (open_gate _ _ r j) (fun r d => open_row X0 X1 r d) (fun d j => ldW X9 4608 256 _ (by decide) d j)
      · exact gate_eq X0 X1 X9 _ _ r j 4608 256 (by decide) (by decide) _ (open_gate _ _ r j) (fun r d => open_row X0 X1 r d) (fun d j => ldW X9 4864 256 _ (by decide) d j)
      · exact gate_eq X0 X1 X9 _ _ r j 4608 512 (by decide) (by decide) _ (open_gate _ _ r j) (fun r d => open_row X0 X1 r d) (fun d j => ldW X9 5120 256 _ (by decide) d j)
      · exact gate_eq X0 X1 X9 _ _ r j 4608 768 (by decide) (by decide) _ (open_gate _ _ r j) (fun r d => open_row X0 X1 r d) (fun d j => ldW X9 5376 256 _ (by decide) d j)
    case hB =>
      refine open_beside (pRow X0 X1 X9 5632 (by decide)) _ _ _ _ ?_ ?_ ?_ ?_ <;> intro r j <;>
        rw [Memref.IsWhole.read_unread, Memref.IsWhole.read_unread, Memref.IsWhole.read_unread, full3, full2]
      · exact gate_eq X0 X1 X9 _ _ r j 5632 0 (by decide) (by decide) _ (open_gate _ _ r j) (fun r d => open_row X0 X1 r d) (fun d j => ldW X9 5632 256 _ (by decide) d j)
      · exact gate_eq X0 X1 X9 _ _ r j 5632 256 (by decide) (by decide) _ (open_gate _ _ r j) (fun r d => open_row X0 X1 r d) (fun d j => ldW X9 5888 256 _ (by decide) d j)
      · exact gate_eq X0 X1 X9 _ _ r j 5632 512 (by decide) (by decide) _ (open_gate _ _ r j) (fun r d => open_row X0 X1 r d) (fun d j => ldW X9 6144 256 _ (by decide) d j)
      · exact gate_eq X0 X1 X9 _ _ r j 5632 768 (by decide) (by decide) _ (open_gate _ _ r j) (fun r d => open_row X0 X1 r d) (fun d j => ldW X9 6400 256 _ (by decide) d j)
    case hy =>
      intro k
      rw [View.readCov_eq_canon']
      refine (yb_apply (fB X0 X1 X2 X3 X4 X5 X7 X8 X9 (fun _ _ _ => 0)) _ _ _ _ _ _ _ _ ?u0 ?u1 ?u2 ?u3 ?u4 ?u5 ?u6 ?u7 _ _ _ _ _ _ _ _ ⟨256 + r, by omega⟩ k _ ?y0 ?y1).trans
        (fB_row X0 X1 X2 X3 X4 X5 X7 X8 X9 (fun _ _ _ => 0) ⟨256 + r, by omega⟩ k)
      case y0 => show 256 + 1 * (r : ℕ) = 256 + r; omega
      case y1 => show 0 + 1 * (k : ℕ) = k; omega
      case u0 =>
        intro r e
        refine (open_unit0 _ _ _ _ _ _ r e).trans (congrArg₂ (fun f g => grp f e * swish g) (row_unit X2 X3 X4 X5 X7 X8 (fun _ _ _ => 0) 0 0 _ _ _ _ _ r ?ua ?uc ?ud ?uq ?uv)
          (gate1024 X0 X1 X9 _ _ _ _ (gate24 _ _ _ _) (fun r d => open_row X0 X1 r d) (fun d j => ldW X9 3584 1024 _ (by decide) d j)))
        case ua => intro j; exact (open_att _ _ r j).trans (Finset.sum_congr rfl fun d _ => congrArg₂ (· * ·) (ldQ 0 0 X2 _ _ _ rfl rfl r d) (ldK 0 0 X3 _ _ _ rfl rfl d j))
        case uc => intro e; exact (cross0_0 _ _ r e).trans (Finset.sum_congr rfl fun d _ => congrArg₂ (· * ·) (ldQ 0 0 X2 _ _ _ rfl rfl r d) (found0 _ _ _ d e))
        case ud => intro j; exact ldT 0 X7 0 _ rfl r j
        case uq => intro j; exact ldT 0 X8 0 _ rfl r j
        case uv => intro j e; exact ldV 0 0 X5 _ _ _ rfl rfl j e
      case u1 =>
        intro r e
        refine (open_unit1 _ _ _ _ _ _ r e).trans (congrArg₂ (fun f g => grp f e * swish g) (row_unit X2 X3 X4 X5 X7 X8 (fun _ _ _ => 0) 0 1 _ _ _ _ _ r ?ua ?uc ?ud ?uq ?uv)
          (gate1024 X0 X1 X9 _ _ _ _ (gate24 _ _ _ _) (fun r d => open_row X0 X1 r d) (fun d j => ldW X9 3584 1024 _ (by decide) d j)))
        case ua => intro j; exact (open_att _ _ r j).trans (Finset.sum_congr rfl fun d _ => congrArg₂ (· * ·) (ldQ 0 1 X2 _ _ _ rfl rfl r d) (ldK 0 1 X3 _ _ _ rfl rfl d j))
        case uc => intro e; exact (cross0_1 _ _ r e).trans (Finset.sum_congr rfl fun d _ => congrArg₂ (· * ·) (ldQ 0 1 X2 _ _ _ rfl rfl r d) (found1 _ _ _ _ _ d e))
        case ud => intro j; exact ldT 1 X7 1 _ rfl r j
        case uq => intro j; exact ldT 1 X8 1 _ rfl r j
        case uv => intro j e; exact ldV 0 1 X5 _ _ _ rfl rfl j e
      case u2 =>
        intro r e
        refine (open_unit2 _ _ _ _ _ _ r e).trans (congrArg₂ (fun f g => grp f e * swish g) (row_unit X2 X3 X4 X5 X7 X8 (fun _ _ _ => 0) 0 2 _ _ _ _ _ r ?ua ?uc ?ud ?uq ?uv)
          (gate1024 X0 X1 X9 _ _ _ _ (gate24 _ _ _ _) (fun r d => open_row X0 X1 r d) (fun d j => ldW X9 3584 1024 _ (by decide) d j)))
        case ua => intro j; exact (open_att _ _ r j).trans (Finset.sum_congr rfl fun d _ => congrArg₂ (· * ·) (ldQ 0 2 X2 _ _ _ rfl rfl r d) (ldK 0 2 X3 _ _ _ rfl rfl d j))
        case uc => intro e; exact (cross0_2 _ _ r e).trans (Finset.sum_congr rfl fun d _ => congrArg₂ (· * ·) (ldQ 0 2 X2 _ _ _ rfl rfl r d) (found2 _ _ _ _ _ _ _ d e))
        case ud => intro j; exact ldT 2 X7 2 _ rfl r j
        case uq => intro j; exact ldT 2 X8 2 _ rfl r j
        case uv => intro j e; exact ldV 0 2 X5 _ _ _ rfl rfl j e
      case u3 =>
        intro r e
        refine (open_unit3 _ _ _ _ _ _ r e).trans (congrArg₂ (fun f g => grp f e * swish g) (row_unit X2 X3 X4 X5 X7 X8 (fun _ _ _ => 0) 0 3 _ _ _ _ _ r ?ua ?uc ?ud ?uq ?uv)
          (gate1024 X0 X1 X9 _ _ _ _ (gate24 _ _ _ _) (fun r d => open_row X0 X1 r d) (fun d j => ldW X9 3584 1024 _ (by decide) d j)))
        case ua => intro j; exact (open_att _ _ r j).trans (Finset.sum_congr rfl fun d _ => congrArg₂ (· * ·) (ldQ 0 3 X2 _ _ _ rfl rfl r d) (ldK 0 3 X3 _ _ _ rfl rfl d j))
        case uc => intro e; exact (cross0_3 _ _ r e).trans (Finset.sum_congr rfl fun d _ => congrArg₂ (· * ·) (ldQ 0 3 X2 _ _ _ rfl rfl r d) (found3 _ _ _ _ _ _ _ _ _ d e))
        case ud => intro j; exact ldT 3 X7 3 _ rfl r j
        case uq => intro j; exact ldT 3 X8 3 _ rfl r j
        case uv => intro j e; exact ldV 0 3 X5 _ _ _ rfl rfl j e
      case u4 =>
        intro r e
        refine (open_unit4 _ _ _ _ _ _ r e).trans (congrArg₂ (fun f g => grp f e * swish g) (row_unit X2 X3 X4 X5 X7 X8 (fun _ _ _ => 0) 1 0 _ _ _ _ _ r ?ua ?uc ?ud ?uq ?uv)
          (gate1024 X0 X1 X9 _ _ _ _ (gate24 _ _ _ _) (fun r d => open_row X0 X1 r d) (fun d j => ldW X9 3584 1024 _ (by decide) d j)))
        case ua => intro j; exact (open_att _ _ r j).trans (Finset.sum_congr rfl fun d _ => congrArg₂ (· * ·) (ldQ 1 0 X2 _ _ _ rfl rfl r d) (ldK 1 0 X3 _ _ _ rfl rfl d j))
        case uc => intro e; exact (cross1_0 _ _ _ r e).trans (Finset.sum_congr rfl fun d _ => congrArg₂ (· * ·) (ldQ 1 0 X2 _ _ _ rfl rfl r d) (congrArg₂ (fun a b => decayed 0 * a + b) (found0 _ _ _ d e) ((open_kv _ _ d e).trans (Finset.sum_congr rfl fun j _ => congrArg₂ (· * ·) (ldK 0 0 X4 _ _ _ rfl rfl d j) (ldV 0 0 X5 _ _ _ rfl rfl j e)))))
        case ud => intro j; exact ldT 0 X7 0 _ rfl r j
        case uq => intro j; exact ldT 0 X8 0 _ rfl r j
        case uv => intro j e; exact ldV 1 0 X5 _ _ _ rfl rfl j e
      case u5 =>
        intro r e
        refine (open_unit5 _ _ _ _ _ _ r e).trans (congrArg₂ (fun f g => grp f e * swish g) (row_unit X2 X3 X4 X5 X7 X8 (fun _ _ _ => 0) 1 1 _ _ _ _ _ r ?ua ?uc ?ud ?uq ?uv)
          (gate1024 X0 X1 X9 _ _ _ _ (gate24 _ _ _ _) (fun r d => open_row X0 X1 r d) (fun d j => ldW X9 3584 1024 _ (by decide) d j)))
        case ua => intro j; exact (open_att _ _ r j).trans (Finset.sum_congr rfl fun d _ => congrArg₂ (· * ·) (ldQ 1 1 X2 _ _ _ rfl rfl r d) (ldK 1 1 X3 _ _ _ rfl rfl d j))
        case uc => intro e; exact (cross1_1 _ _ _ r e).trans (Finset.sum_congr rfl fun d _ => congrArg₂ (· * ·) (ldQ 1 1 X2 _ _ _ rfl rfl r d) (congrArg₂ (fun a b => decayed 1 * a + b) (found1 _ _ _ _ _ d e) ((open_kv _ _ d e).trans (Finset.sum_congr rfl fun j _ => congrArg₂ (· * ·) (ldK 0 1 X4 _ _ _ rfl rfl d j) (ldV 0 1 X5 _ _ _ rfl rfl j e)))))
        case ud => intro j; exact ldT 1 X7 1 _ rfl r j
        case uq => intro j; exact ldT 1 X8 1 _ rfl r j
        case uv => intro j e; exact ldV 1 1 X5 _ _ _ rfl rfl j e
      case u6 =>
        intro r e
        refine (open_unit6 _ _ _ _ _ _ r e).trans (congrArg₂ (fun f g => grp f e * swish g) (row_unit X2 X3 X4 X5 X7 X8 (fun _ _ _ => 0) 1 2 _ _ _ _ _ r ?ua ?uc ?ud ?uq ?uv)
          (gate1024 X0 X1 X9 _ _ _ _ (gate24 _ _ _ _) (fun r d => open_row X0 X1 r d) (fun d j => ldW X9 3584 1024 _ (by decide) d j)))
        case ua => intro j; exact (open_att _ _ r j).trans (Finset.sum_congr rfl fun d _ => congrArg₂ (· * ·) (ldQ 1 2 X2 _ _ _ rfl rfl r d) (ldK 1 2 X3 _ _ _ rfl rfl d j))
        case uc => intro e; exact (cross1_2 _ _ _ r e).trans (Finset.sum_congr rfl fun d _ => congrArg₂ (· * ·) (ldQ 1 2 X2 _ _ _ rfl rfl r d) (congrArg₂ (fun a b => decayed 2 * a + b) (found2 _ _ _ _ _ _ _ d e) ((open_kv _ _ d e).trans (Finset.sum_congr rfl fun j _ => congrArg₂ (· * ·) (ldK 0 2 X4 _ _ _ rfl rfl d j) (ldV 0 2 X5 _ _ _ rfl rfl j e)))))
        case ud => intro j; exact ldT 2 X7 2 _ rfl r j
        case uq => intro j; exact ldT 2 X8 2 _ rfl r j
        case uv => intro j e; exact ldV 1 2 X5 _ _ _ rfl rfl j e
      case u7 =>
        intro r e
        refine (open_unit7 _ _ _ _ _ _ r e).trans (congrArg₂ (fun f g => grp f e * swish g) (row_unit X2 X3 X4 X5 X7 X8 (fun _ _ _ => 0) 1 3 _ _ _ _ _ r ?ua ?uc ?ud ?uq ?uv)
          (gate1024 X0 X1 X9 _ _ _ _ (gate24 _ _ _ _) (fun r d => open_row X0 X1 r d) (fun d j => ldW X9 3584 1024 _ (by decide) d j)))
        case ua => intro j; exact (open_att _ _ r j).trans (Finset.sum_congr rfl fun d _ => congrArg₂ (· * ·) (ldQ 1 3 X2 _ _ _ rfl rfl r d) (ldK 1 3 X3 _ _ _ rfl rfl d j))
        case uc => intro e; exact (cross1_3 _ _ _ r e).trans (Finset.sum_congr rfl fun d _ => congrArg₂ (· * ·) (ldQ 1 3 X2 _ _ _ rfl rfl r d) (congrArg₂ (fun a b => decayed 3 * a + b) (found3 _ _ _ _ _ _ _ _ _ d e) ((open_kv _ _ d e).trans (Finset.sum_congr rfl fun j _ => congrArg₂ (· * ·) (ldK 0 3 X4 _ _ _ rfl rfl d j) (ldV 0 3 X5 _ _ _ rfl rfl j e)))))
        case ud => intro j; exact ldT 3 X7 3 _ rfl r j
        case uq => intro j; exact ldT 3 X8 3 _ rfl r j
        case uv => intro j e; exact ldV 1 3 X5 _ _ _ rfl rfl j e
    exact point_eq X0 X1 X2 X3 X4 X5 X6 X7 X8 X9 X10 X11 X12 (fun _ _ _ => 0) _ e

end Cert.Mix

end
-- ==== Proof.MixToken.lean ====
/- The retention of arrays with real entries: a head's queries, keys and values token by token, and a chunk's sums. -/
module

public import proofs.«01_k».proof.Proof.MixReal

@[expose] public section

noncomputable section

namespace Cert.Mix

open Cert.Rows

/-- A head's query or key of token `n`; zero past the last token. -/
def qkOf (A : Fin 8 → Fin 4096 → Fin 512 → EReal) (b : Fin 8) (h : Fin 4) (n : ℕ) (d : Fin 128) : ℝ :=
  if hn : n < 4096 then (A b ⟨n, hn⟩ ⟨h * 128 + d, by omega⟩).toReal else 0

/-- A column of a head's values at token `n`; zero past the last token. -/
def vOf (A : Fin 8 → Fin 4096 → Fin 1024 → EReal) (b : Fin 8) (h : Fin 4) (e : Fin 256) (n : ℕ) : ℝ :=
  if hn : n < 4096 then (A b ⟨n, hn⟩ ⟨h * 256 + e, by omega⟩).toReal else 0

theorem real_toReal {a : EReal} (h : IsR a) : a = ((a.toReal : ℝ) : EReal) := by
  obtain ⟨r, rfl⟩ := h
  rfl

theorem qkOf_eq {A : Fin 8 → Fin 4096 → Fin 512 → EReal} (hA : ∀ b n c, IsR (A b n c)) (b : Fin 8) (h : Fin 4) (n : ℕ) (hn : n < 4096) (d : Fin 128) :
    A b ⟨n, hn⟩ ⟨h * 128 + d, by omega⟩ = ((qkOf A b h n d : ℝ) : EReal) := by
  unfold qkOf
  rw [dif_pos hn]
  exact real_toReal (hA _ _ _)

theorem vOf_eq {A : Fin 8 → Fin 4096 → Fin 1024 → EReal} (hA : ∀ b n c, IsR (A b n c)) (b : Fin 8) (h : Fin 4) (n : ℕ) (hn : n < 4096) (e : Fin 256) :
    A b ⟨n, hn⟩ ⟨h * 256 + e, by omega⟩ = ((vOf A b h e n : ℝ) : EReal) := by
  unfold vOf
  rw [dif_pos hn]
  exact real_toReal (hA _ _ _)

/-- A head's state before token `n`. -/
def stateOf (k : Fin 8 → Fin 4096 → Fin 512 → EReal) (v : Fin 8 → Fin 4096 → Fin 1024 → EReal) (b : Fin 8) (h : Fin 4) (n : ℕ) (d : Fin 128) (e : Fin 256) : EReal :=
  ((state (gam h) (qkOf k b h) (vOf v b h e) n d : ℝ) : EReal)

/-- The retention of a token. -/
def retOf (q k : Fin 8 → Fin 4096 → Fin 512 → EReal) (v : Fin 8 → Fin 4096 → Fin 1024 → EReal) (b : Fin 8) (h : Fin 4) (n : ℕ) (e : Fin 256) : EReal :=
  ((ret (gam h) (qkOf q b h) (qkOf k b h) (vOf v b h e) n : ℝ) : EReal)

section
variable (g : ℝ) (q k : ℕ → Fin 128 → ℝ) (v : ℕ → ℝ) (C n : ℕ)

theorem state_real (d : Fin 128) (K V : Fin C → EReal) (S : EReal) (hK : ∀ j, K j = ((k (n + j) d * g ^ (C - 1 - j) : ℝ) : EReal))
    (hV : ∀ j, V j = ((v (n + j) : ℝ) : EReal)) (hS : S = ((state g k v n d : ℝ) : EReal)) :
    ((g ^ C : ℝ) : EReal) * S + ∑ j, K j * V j = ((state g k v (n + C) d : ℝ) : EReal) := by
  rw [state_chunk g k v n d C, Finset.sum_range, EReal.coe_add, EReal.coe_mul, coe_sum, hS]
  refine congrArg _ (Finset.sum_congr rfl fun j _ => ?_)
  rw [hK, hV, ← EReal.coe_mul]

variable (i : ℕ) (Q S : Fin 128 → EReal) (K : Fin C → Fin 128 → EReal) (M V : Fin C → EReal) (P : EReal)

theorem own_real (hQ : ∀ d, Q d = ((q (n + i) d : ℝ) : EReal)) (hK : ∀ j d, K j d = ((k (n + j) d : ℝ) : EReal))
    (hM : ∀ j, M j = ((mask g i j : ℝ) : EReal)) (hV : ∀ j, V j = ((v (n + j) : ℝ) : EReal)) :
    ∑ j, ((∑ d, Q d * K j d) * M j) * V j
      = ((∑ j ∈ Finset.range C, ((∑ d, q (n + i) d * k (n + j) d) * mask g i j) * v (n + j) : ℝ) : EReal) := by
  rw [Finset.sum_range, coe_sum]
  refine Finset.sum_congr rfl fun j _ => ?_
  rw [EReal.coe_mul, EReal.coe_mul, coe_sum, hM, hV]
  refine congrArg (fun a : EReal => a * _ * _) (Finset.sum_congr rfl fun d _ => ?_)
  rw [hQ, hK, EReal.coe_mul]

theorem ret_real (hi : i < C) (hQ : ∀ d, Q d = ((q (n + i) d : ℝ) : EReal)) (hK : ∀ j d, K j d = ((k (n + j) d : ℝ) : EReal))
    (hM : ∀ j, M j = ((mask g i j : ℝ) : EReal)) (hV : ∀ j, V j = ((v (n + j) : ℝ) : EReal))
    (hS : ∀ d, S d = ((state g k v n d : ℝ) : EReal)) (hP : P = ((g ^ (i + 1) : ℝ) : EReal)) :
    ∑ j, ((∑ d, Q d * K j d) * M j) * V j + (∑ d, Q d * S d) * P = ((ret g q k v (n + i) : ℝ) : EReal) := by
  rw [← ret_chunk g q k v n C i hi, own_real g q k v C n i Q K M V hQ hK hM hV, EReal.coe_add, EReal.coe_mul, hP]
  refine congrArg (fun a : EReal => _ + a * _) ?_
  rw [coe_sum]
  refine Finset.sum_congr rfl fun d _ => ?_
  rw [hQ, hS, EReal.coe_mul]

theorem ret_real' (hi : i < C) (hQ : ∀ d, Q d = ((q (n + i) d : ℝ) : EReal)) (hK : ∀ j d, K j d = ((k (n + j) d : ℝ) : EReal))
    (hM : ∀ j, M j = ((mask g i j : ℝ) : EReal)) (hV : ∀ j, V j = ((v (n + j) : ℝ) : EReal))
    (hS : ∀ d, S d = ((state g k v n d : ℝ) : EReal)) (hP : P = ((g ^ (i + 1) : ℝ) : EReal)) :
    ∑ j, ((∑ d, Q d * K j d) * M j) * V j + ∑ d, (Q d * P) * S d = ((ret g q k v (n + i) : ℝ) : EReal) := by
  rw [← ret_chunk g q k v n C i hi, own_real g q k v C n i Q K M V hQ hK hM hV, EReal.coe_add, Finset.sum_mul, hP]
  refine congrArg (fun a : EReal => _ + a) ?_
  rw [coe_sum]
  refine Finset.sum_congr rfl fun d _ => ?_
  rw [hQ, hS, ← EReal.coe_mul, ← EReal.coe_mul]
  refine congrArg _ ?_
  ring

end

end Cert.Mix

end
-- ==== Proof.MixTables.lean ====
/- The decay tables over the real numbers: powers of each head's decay. -/
module

public import proofs.«01_k».proof.Proof.MixReal

@[expose] public section

noncomputable section

namespace Cert.Mix

open Idealize.ShloMosaic

theorem log_gam (h : ℕ) : Ideal.log ((gam h : ℝ) : EReal) = ((Real.log (gam h) : ℝ) : EReal) := by
  rw [Ideal.log_coe, if_neg (not_le.2 (gam_pos h))]

/-- The exponential of a multiple of a decay's logarithm is its power. -/
theorem exp_pow (h n : ℕ) : Ideal.exp (Ideal.log ((gam h : ℝ) : EReal) * ((n : ℝ) : EReal)) = ((gam h ^ n : ℝ) : EReal) := by
  rw [log_gam, ← EReal.coe_mul, Ideal.exp_coe, mul_comm, Real.exp_nat_mul, Real.exp_log (gam_pos h)]

/-- A position as a number. -/
theorem position (n : ℕ) (hn : n < 256) : (FloatOps.sitofp .f32 (BitVec.ofNat 32 n) : Ideal .f32) = ((n : ℝ) : EReal) := by
  show (((BitVec.ofNat 32 n).toInt : ℝ) : EReal) = _
  rw [BitVec.toInt_ofNat', Int.bmod_eq_of_le (by omega) (by omega)]
  simp

theorem bits_127 : Ideal.ofBits .f32 1123942400#32 = ((127 : ℝ) : EReal) := by
  simp [Ideal.ofBits, Ideal.ieee]; rw [← EReal.coe_mul]; norm_num

theorem bits_128 : Ideal.ofBits .f32 1124073472#32 = ((128 : ℝ) : EReal) := by
  simp [Ideal.ofBits, Ideal.ieee]; rw [← EReal.coe_mul]; norm_num

theorem bits_255 : Ideal.ofBits .f32 1132396544#32 = ((255 : ℝ) : EReal) := by
  simp [Ideal.ofBits, Ideal.ieee]; rw [← EReal.coe_mul]; norm_num

theorem bits_gam0 : Ideal.ofBits .f32 0x3F780000#32 = ((gam 0 : ℝ) : EReal) := by
  rw [show (gam 0 : ℝ) = 31/32 by norm_num [gam]]; simp [Ideal.ofBits, Ideal.ieee]; rw [← EReal.coe_mul]; norm_num

theorem bits_gam1 : Ideal.ofBits .f32 0x3F7C0000#32 = ((gam 1 : ℝ) : EReal) := by
  rw [show (gam 1 : ℝ) = 63/64 by norm_num [gam]]; simp [Ideal.ofBits, Ideal.ieee]; rw [← EReal.coe_mul]; norm_num

theorem bits_gam2 : Ideal.ofBits .f32 0x3F7E0000#32 = ((gam 2 : ℝ) : EReal) := by
  rw [show (gam 2 : ℝ) = 127/128 by norm_num [gam]]; simp [Ideal.ofBits, Ideal.ieee]; rw [← EReal.coe_mul]; norm_num

theorem bits_gam3 : Ideal.ofBits .f32 0x3F7F0000#32 = ((gam 3 : ℝ) : EReal) := by
  rw [show (gam 3 : ℝ) = 255/256 by norm_num [gam]]; simp [Ideal.ofBits, Ideal.ieee]; rw [← EReal.coe_mul]; norm_num

/-- The mask's entry: seen from its time on, with the power of the distance. -/
theorem mask_entry (h i j : ℕ) : (if (0 : EReal) ≤ ((i : ℝ) : EReal) - ((j : ℝ) : EReal)
    then Ideal.exp (Ideal.log ((gam h : ℝ) : EReal) * max (((i : ℝ) : EReal) - ((j : ℝ) : EReal)) 0) else 0) = ((mask (gam h) i j : ℝ) : EReal) := by
  rw [← EReal.coe_sub]
  unfold mask
  by_cases hij : j ≤ i
  · have h0 : (0 : ℝ) ≤ (i : ℝ) - j := sub_nonneg.2 (Nat.cast_le.2 hij)
    rw [if_pos (EReal.coe_nonneg.2 h0), if_pos hij, max_eq_left (EReal.coe_nonneg.2 h0), ← Nat.cast_sub hij, exp_pow]
  · have h0 : ¬ (0 : ℝ) ≤ (i : ℝ) - j := by rw [sub_nonneg, Nat.cast_le]; exact hij
    rw [if_neg (fun c => h0 (EReal.coe_nonneg.1 c)), if_neg hij]
    rfl

theorem after_entry (h i : ℕ) : Ideal.exp (Ideal.log ((gam h : ℝ) : EReal) * (((i : ℝ) : EReal) + 1)) = ((gam h ^ (i + 1) : ℝ) : EReal) := by
  rw [← exp_pow]
  norm_num

theorem left_entry (h i n : ℕ) (hi : i ≤ n) : Ideal.exp (Ideal.log ((gam h : ℝ) : EReal) * (((n : ℝ) : EReal) - ((i : ℝ) : EReal))) = ((gam h ^ (n - i) : ℝ) : EReal) := by
  rw [← EReal.coe_sub, ← Nat.cast_sub hi, exp_pow]

end Cert.Mix

end
-- ==== Proof.MixHost.lean ====
/- What the idealized kernel's host hands the call: the decay tables entry by entry, the keys by chunk, the arrays and weights as they are. -/
module

public import proofs.«01_k».proof.Proof.MixToken
public import proofs.«01_k».proof.Proof.MixTables
public import proofs.«01_k».proof.Proof.Gen.Kernel3Ideal.Value
public import Idealize.ShloMosaic.Lib.Pointwise
public import Idealize.ShloMosaic.Lib.Tactic.CleanTypes
public import Idealize.ShloMosaic.Lib.Pipeline.ValueKit
public import Idealize.ShloMosaic.Lib.StableHlo.RunLoop
public import Idealize.ShloMosaic.Lib.StableHlo.RunRead

@[expose] public section

set_option maxRecDepth 16384

noncomputable section

namespace Cert.Mix

open Cert.Kernel3Ideal Cert.Kernel3Ideal.Gen Cert.Rows Idealize.ShloMosaic Idealize.ShloMosaic.TcCoe

namespace Host

/-- The logarithms of the decays. -/
def logs : FVec Ideal S4 .f32 := Idealize.ShloMosaic.Host.log (fun i => FloatOps.ofBits .f32 (lit0 (S4.rowMajor i)))

/-- A chunk's positions. -/
def ramp : FVec Ideal S256 .f32 := sitofp .f32 (iotaInDim S256 32 0)

/-- The distance of two positions. -/
def gap : FVec Ideal S256x256 .f32 :=
  subf (broadcastInDim S256x256 ![0, 1] bcast_S256x1_S256x256_0_1 (broadcastInDim S256x1 ![0] bcast_S256_S256x1_0 ramp))
    (broadcastInDim S256x256 ![0, 1] bcast_S1x256_S256x256_0_1 (broadcastInDim S1x256 ![1] bcast_S256_S1x256_1 ramp))

/-- How far a key has decayed at a query of its chunk. -/
def maskT (l : FVec Ideal S4 .f32) (p : FVec Ideal S256x256 .f32) : FVec Ideal S4x256x256 .f32 :=
  select (broadcastInDim S4x256x256 ![1, 2] bcast_S256x256_S4x256x256_1_2 (cmpf .oge p (broadcastInDim S256x256 ![] bcast_S_S256x256 (constant S_ .f32 0x00000000#32))))
    (Idealize.ShloMosaic.Host.exp (mulf (broadcastInDim S4x256x256 ![0, 1, 2] bcast_S4x1x1_S4x256x256_0_1_2 (broadcastInDim S4x1x1 ![0] bcast_S4_S4x1x1_0 l))
      (broadcastInDim S4x256x256 ![0, 1, 2] bcast_S1x256x256_S4x256x256_0_1_2 (broadcastInDim S1x256x256 ![1, 2] bcast_S256x256_S1x256x256_1_2
        (maximumf p (broadcastInDim S256x256 ![] bcast_S_S256x256 (constant S_ .f32 0x00000000#32)))))))
    (broadcastInDim S4x256x256 ![] bcast_S_S4x256x256 (constant S_ .f32 0x00000000#32))

/-- The decay of the state at each query of a chunk, along the value columns. -/
def qT (l : FVec Ideal S4 .f32) (i : FVec Ideal S256 .f32) : FVec Ideal S4x256x256 .f32 :=
  broadcastInDim S4x256x256 ![0, 1, 2] bcast_S4x256x1_S4x256x256_0_1_2 (broadcastInDim S4x256x1 ![0, 1] bcast_S4x256_S4x256x1_0_1
    (Idealize.ShloMosaic.Host.exp (mulf (broadcastInDim S4x256 ![0, 1] bcast_S4x1_S4x256_0_1 (broadcastInDim S4x1 ![0] bcast_S4_S4x1_0 l))
      (broadcastInDim S4x256 ![0, 1] bcast_S1x256_S4x256_0_1 (broadcastInDim S1x256 ![1] bcast_S256_S1x256_1 (addf i (broadcastInDim S256 ![] bcast_S_S256 (constant S_ .f32 0x3F800000#32))))))))

/-- The decay of each key of a chunk at the chunk's end. -/
def kT (l : FVec Ideal S4 .f32) (i : FVec Ideal S256 .f32) : FVec Ideal S4x256 .f32 :=
  Idealize.ShloMosaic.Host.exp (mulf (broadcastInDim S4x256 ![0, 1] bcast_S4x1_S4x256_0_1 (broadcastInDim S4x1 ![0] bcast_S4_S4x1_0 l))
    (broadcastInDim S4x256 ![0, 1] bcast_S1x256_S4x256_0_1 (broadcastInDim S1x256 ![1] bcast_S256_S1x256_1 (subf (broadcastInDim S256 ![] bcast_S_S256 (constant S_ .f32 0x437F0000#32)) i))))

/-- The keys by chunk, transposed. -/
def keys (k : FVec Ideal S8x4096x512 .f32) : FVec Ideal S8x16x512x256 .bf16 :=
  truncf .bf16 (transpose S8x16x512x256 [0, 1, 3, 2] (shapeCast S8x16x256x512 k shapeCasts_S8x4096x512_S8x16x256x512) transposes_S8x16x256x512_S8x16x512x256_0_1_3_2) bitsLt_bf16_f32

/-- The keys by chunk, decayed to the chunk's end, transposed. -/
def aged (k : FVec Ideal S8x4096x512 .f32) (d : FVec Ideal S4x256 .f32) : FVec Ideal S8x16x512x256 .bf16 :=
  truncf .bf16 (transpose S8x16x512x256 [0, 1, 3, 2] (shapeCast S8x16x256x512 (mulf (shapeCast S8x16x256x4x128 k shapeCasts_S8x4096x512_S8x16x256x4x128)
    (broadcastInDim S8x16x256x4x128 ![0, 1, 2, 3, 4] bcast_S1x1x256x4x1_S8x16x256x4x128_0_1_2_3_4 (broadcastInDim S1x1x256x4x1 ![2, 3] bcast_S256x4_S1x1x256x4x1_2_3
      (transpose S256x4 [1, 0] d transposes_S4x256_S256x4_1_0)))) shapeCasts_S8x16x256x4x128_S8x16x256x512) transposes_S8x16x256x512_S8x16x512x256_0_1_3_2) bitsLt_bf16_f32

theorem logs_apply (h : Fin 4) : logs (ix1 h) = Ideal.log ((gam h : ℝ) : EReal) := by
  show Ideal.log (Ideal.ofBits .f32 (lit0 (S4.rowMajor (ix1 h)))) = _
  match h with
  | ⟨0, _⟩ => exact congrArg Ideal.log bits_gam0
  | ⟨1, _⟩ => exact congrArg Ideal.log bits_gam1
  | ⟨2, _⟩ => exact congrArg Ideal.log bits_gam2
  | ⟨3, _⟩ => exact congrArg Ideal.log bits_gam3

theorem ramp_apply (i : Fin 256) : ramp (ix1 i) = (((i : ℕ) : ℝ) : EReal) := position i i.isLt

theorem gap_apply (i j : Fin 256) : gap (ix2 i j) = (((i : ℕ) : ℝ) : EReal) - (((j : ℕ) : ℝ) : EReal) := by
  have h : gap (ix2 i j) = ramp (ix1 i) - ramp (ix1 j) := by pointwise [gap]
  rw [h, ramp_apply, ramp_apply]

theorem maskT_apply (h : Fin 4) (i j : Fin 256) : maskT logs gap (ix3 h i j) = ((mask (gam h) i j : ℝ) : EReal) := by
  have e : ∀ l p, maskT l p (ix3 h i j) = if 0 ≤ p (ix2 i j) then Ideal.exp (l (ix1 h) * max (p (ix2 i j)) 0) else 0 := by
    intro l p
    pointwise [maskT]
  rw [e, logs_apply, gap_apply, mask_entry]

theorem qT_apply (h : Fin 4) (i j : Fin 256) : qT logs ramp (ix3 h i j) = ((gam h ^ ((i : ℕ) + 1) : ℝ) : EReal) := by
  have e : ∀ l p, qT l p (ix3 h i j) = Ideal.exp (l (ix1 h) * (p (ix1 i) + 1)) := by
    intro l p
    pointwise [qT]
  rw [e, logs_apply, ramp_apply, after_entry]

theorem kT_apply (h : Fin 4) (i : Fin 256) : kT logs ramp (ix2 h i) = ((gam h ^ (256 - 1 - (i : ℕ)) : ℝ) : EReal) := by
  have e : ∀ l p, kT l p (ix2 h i) = Ideal.exp (l (ix1 h) * (Ideal.ofBits .f32 1132396544#32 - p (ix1 i))) := by
    intro l p
    pointwise [kT]
  rw [e, logs_apply, ramp_apply, bits_255]
  exact left_entry h i 255 (by omega)

theorem keys_apply (k) (b : Fin 8) (n : Fin 16) (c : Fin 512) (j : Fin 256) : keys k (ix4 b n c j) = k (ix3 b ⟨n * 256 + j, by omega⟩ c) := by pointwise [keys]

theorem aged_apply (k d) (b : Fin 8) (n : Fin 16) (c : Fin 512) (j : Fin 256) :
    aged k d (ix4 b n c j) = k (ix3 b ⟨n * 256 + j, by omega⟩ c) * d (ix2 ⟨c / 128, by omega⟩ j) := by pointwise [aged]

end Host

variable (m : (ℓ : Loc nD τ sig) → Buf (Elt Ideal) ℓ) (c : Dev nD)

/-- Eight points of two chunks to a batch; the tables, the norm's weight and the weights are whole. -/
theorem blocks : ∀ t : Fin cfg0.N, win0_0.index t = ![t.val / 8, t.val % 8, 0] ∧ win0_1.index t = ![0, 0] ∧ win0_2.index t = ![t.val / 8, t.val % 8, 0]
    ∧ win0_3.index t = ![t.val / 8, t.val % 8, 0, 0] ∧ win0_4.index t = ![t.val / 8, t.val % 8, 0, 0] ∧ win0_5.index t = ![t.val / 8, t.val % 8, 0]
    ∧ win0_6.index t = ![t.val / 8, t.val % 8, 0] ∧ win0_7.index t = ![0, 0, 0] ∧ win0_8.index t = ![0, 0, 0]
    ∧ win0_9.index t = ![0, 0] ∧ win0_10.index t = ![0, 0] ∧ win0_11.index t = ![0, 0] ∧ win0_12.index t = ![0, 0]
    ∧ win0_13.index t = ![t.val / 8, t.val % 8, 0] :=
  (by decide +kernel : ∀ t : Fin grid0.N, _)

theorem V_eq (b : Ref sig .tc) : V m c b = StableHlo.afterL [hostOps0, hostOps0_1, hostOps0_2] (fun b => m (c, b)) (Proc.devRef .tc b) :=
  (congrFun (StableHlo.afterL_eq_after_flatten [hostOps0, hostOps0_1, hostOps0_2] (fun b => m (c, b))) _).symm

theorem a0 : V m c main_arg0 = m (c.tc.loc main_arg0) := by
  rw [V_eq]; simp only [StableHlo.afterL_cons, StableHlo.afterL_nil]; after_reads_simp

theorem v56 (d : Fin 1024) : V m c main_v56 (ix2 0 d) = (m (c.tc.loc main_arg1) : FVec Ideal S1x1024 .f32) (ix2 0 d) := by
  have h : V m c main_v56 = (shapeCast S1x1024 (shapeCast S1024 (m (c.tc.loc main_arg1) : FVec Ideal S1x1024 .f32) shapeCasts_S1x1024_S1024) shapeCasts_S1024_S1x1024) := by
    rw [V_eq]; simp only [StableHlo.afterL_cons, StableHlo.afterL_nil]; after_reads_simp; rfl
  rw [h]
  pointwise

theorem v57 (i : S8x4096x512.Idx) : V m c main_v57 (i) = (m (c.tc.loc main_arg2) : FVec Ideal S8x4096x512 .f32) i := by
  have h : V m c main_v57 = ((truncf .bf16 (m (c.tc.loc main_arg2) : FVec Ideal S8x4096x512 .f32) bitsLt_bf16_f32 : FVec Ideal S8x4096x512 .bf16)) := by
    rw [V_eq]; simp only [StableHlo.afterL_cons, StableHlo.afterL_nil]; after_reads_simp
  rw [h]
  rfl

theorem v58 (i : S8x4096x1024.Idx) : V m c main_v58 (i) = (m (c.tc.loc main_arg4) : FVec Ideal S8x4096x1024 .f32) i := by
  have h : V m c main_v58 = ((truncf .bf16 (m (c.tc.loc main_arg4) : FVec Ideal S8x4096x1024 .f32) bitsLt_bf16_f32 : FVec Ideal S8x4096x1024 .bf16)) := by
    rw [V_eq]; simp only [StableHlo.afterL_cons, StableHlo.afterL_nil]; after_reads_simp
  rw [h]
  rfl

theorem v59 (i : S8x4096x512.Idx) : V m c main_v59 (i) = (m (c.tc.loc main_arg5) : FVec Ideal S8x4096x512 .f32) i := by
  have h : V m c main_v59 = ((truncf .bf16 (m (c.tc.loc main_arg5) : FVec Ideal S8x4096x512 .f32) bitsLt_bf16_f32 : FVec Ideal S8x4096x512 .bf16)) := by
    rw [V_eq]; simp only [StableHlo.afterL_cons, StableHlo.afterL_nil]; after_reads_simp
  rw [h]
  rfl

theorem v47 (b : Fin 8) (n : Fin 16) (q : Fin 512) (j : Fin 256) : V m c main_v47 (ix4 b n q j) = (m (c.tc.loc main_arg3) : FVec Ideal S8x4096x512 .f32) (ix3 b ⟨n * 256 + j, by omega⟩ q) := by
  have h : V m c main_v47 = (Host.keys (m (c.tc.loc main_arg3) : FVec Ideal S8x4096x512 .f32)) := by
    rw [V_eq]; simp only [StableHlo.afterL_cons, StableHlo.afterL_nil]; after_reads_simp; rfl
  rw [h]
  exact Host.keys_apply _ b n q j

theorem v54 (b : Fin 8) (n : Fin 16) (q : Fin 512) (j : Fin 256) : V m c main_v54 (ix4 b n q j) = HMul.hMul (α := EReal) (β := EReal) ((m (c.tc.loc main_arg3) : FVec Ideal S8x4096x512 .f32) (ix3 b ⟨n * 256 + j, by omega⟩ q)) ((gam (q / 128) ^ (256 - 1 - (j : ℕ)) : ℝ) : EReal) := by
  have h : V m c main_v54 = (Host.aged (m (c.tc.loc main_arg3) : FVec Ideal S8x4096x512 .f32) (Host.kT Host.logs Host.ramp)) := by
    rw [V_eq]; simp only [StableHlo.afterL_cons, StableHlo.afterL_nil]; after_reads_simp; rfl
  rw [h]
  exact (Host.aged_apply _ _ b n q j).trans (congrArg (HMul.hMul (α := EReal) (β := EReal) _) (Host.kT_apply ⟨q / 128, by omega⟩ j))

theorem v17 (a : Fin 4) (i j : Fin 256) : V m c main_v17 (ix3 a i j) = ((mask (gam a) i j : ℝ) : EReal) := by
  have h : V m c main_v17 = (Host.maskT Host.logs Host.gap) := by
    rw [V_eq]; simp only [StableHlo.afterL_cons, StableHlo.afterL_nil]; after_reads_simp; rfl
  rw [h]
  exact Host.maskT_apply a i j

theorem v35 (a : Fin 4) (i j : Fin 256) : V m c main_v35 (ix3 a i j) = ((gam a ^ ((i : ℕ) + 1) : ℝ) : EReal) := by
  have h : V m c main_v35 = (Host.qT Host.logs Host.ramp) := by
    rw [V_eq]; simp only [StableHlo.afterL_cons, StableHlo.afterL_nil]; after_reads_simp; rfl
  rw [h]
  exact Host.qT_apply a i j

theorem flat_1024_6656 (x : FVec Ideal S1x1024x6656 .f32) (d : Fin 1024) (j : Fin 6656) :
    (truncf .bf16 (shapeCast S1024x6656 x shapeCasts_S1x1024x6656_S1024x6656) bitsLt_bf16_f32 : FVec Ideal S1024x6656 .bf16) (ix2 d j) = x (ix3 0 d j) := by
  pointwise

theorem v40 (d : Fin 1024) (j : Fin 6656) : V m c main_v40 (ix2 d j) = (m (c.tc.loc main_arg6) : FVec Ideal S1x1024x6656 .f32) (ix3 0 d j) := by
  have h : V m c main_v40 = ((truncf .bf16 (shapeCast S1024x6656 (m (c.tc.loc main_arg6) : FVec Ideal S1x1024x6656 .f32) shapeCasts_S1x1024x6656_S1024x6656) bitsLt_bf16_f32 : FVec Ideal S1024x6656 .bf16)) := by
    rw [V_eq]; simp only [StableHlo.afterL_cons, StableHlo.afterL_nil]; after_reads_simp; rfl
  rw [h]
  exact flat_1024_6656 _ d j

theorem flat_512_1024 (x : FVec Ideal S1x512x1024 .f32) (d : Fin 512) (j : Fin 1024) :
    (truncf .bf16 (shapeCast S512x1024 x shapeCasts_S1x512x1024_S512x1024) bitsLt_bf16_f32 : FVec Ideal S512x1024 .bf16) (ix2 d j) = x (ix3 0 d j) := by
  pointwise

theorem v41 (d : Fin 512) (j : Fin 1024) : V m c main_v41 (ix2 d j) = (m (c.tc.loc main_arg7) : FVec Ideal S1x512x1024 .f32) (ix3 0 d j) := by
  have h : V m c main_v41 = ((truncf .bf16 (shapeCast S512x1024 (m (c.tc.loc main_arg7) : FVec Ideal S1x512x1024 .f32) shapeCasts_S1x512x1024_S512x1024) bitsLt_bf16_f32 : FVec Ideal S512x1024 .bf16)) := by
    rw [V_eq]; simp only [StableHlo.afterL_cons, StableHlo.afterL_nil]; after_reads_simp; rfl
  rw [h]
  exact flat_512_1024 _ d j

theorem flat_1024_1024 (x : FVec Ideal S1x1024x1024 .f32) (d : Fin 1024) (j : Fin 1024) :
    (truncf .bf16 (shapeCast S1024x1024 x shapeCasts_S1x1024x1024_S1024x1024) bitsLt_bf16_f32 : FVec Ideal S1024x1024 .bf16) (ix2 d j) = x (ix3 0 d j) := by
  pointwise

theorem v42 (d : Fin 1024) (j : Fin 1024) : V m c main_v42 (ix2 d j) = (m (c.tc.loc main_arg8) : FVec Ideal S1x1024x1024 .f32) (ix3 0 d j) := by
  have h : V m c main_v42 = ((truncf .bf16 (shapeCast S1024x1024 (m (c.tc.loc main_arg8) : FVec Ideal S1x1024x1024 .f32) shapeCasts_S1x1024x1024_S1024x1024) bitsLt_bf16_f32 : FVec Ideal S1024x1024 .bf16)) := by
    rw [V_eq]; simp only [StableHlo.afterL_cons, StableHlo.afterL_nil]; after_reads_simp; rfl
  rw [h]
  exact flat_1024_1024 _ d j

theorem v43 (d : Fin 1024) (j : Fin 1024) : V m c main_v43 (ix2 d j) = (m (c.tc.loc main_arg9) : FVec Ideal S1x1024x1024 .f32) (ix3 0 d j) := by
  have h : V m c main_v43 = ((truncf .bf16 (shapeCast S1024x1024 (m (c.tc.loc main_arg9) : FVec Ideal S1x1024x1024 .f32) shapeCasts_S1x1024x1024_S1024x1024) bitsLt_bf16_f32 : FVec Ideal S1024x1024 .bf16)) := by
    rw [V_eq]; simp only [StableHlo.afterL_cons, StableHlo.afterL_nil]; after_reads_simp; rfl
  rw [h]
  exact flat_1024_1024 _ d j

section
variable (t : Fin cfg0.N)

theorem b0 (s : Fin 512) (d : Fin 1024) : iblk m c 0 t (ix3 0 s d)
    = (m (c.tc.loc main_arg0) : FVec Ideal S8x4096x1024 .f32) (ix3 ⟨t.val / 8, by have : t.val < 64 := t.isLt; omega⟩ ⟨t.val % 8 * 512 + s, by omega⟩ d) := by
  obtain ⟨e0, e1, e2, e3, e4, e5, e6, e7, e8, e9, e10, e11, e12, e13⟩ := blocks t
  have ht : t.val < 64 := t.isLt
  rw [← a0 m c]
  blk_ext [iblk, e0]

theorem b1 (d : Fin 1024) : iblk m c 1 t (ix2 0 d)
    = (m (c.tc.loc main_arg1) : FVec Ideal S1x1024 .f32) (ix2 0 d) := by
  obtain ⟨e0, e1, e2, e3, e4, e5, e6, e7, e8, e9, e10, e11, e12, e13⟩ := blocks t
  have ht : t.val < 64 := t.isLt
  rw [← v56 m c]
  blk_ext [iblk, e1]

theorem b2 (s d : Fin 512) : iblk m c 2 t (ix3 0 s d)
    = (m (c.tc.loc main_arg2) : FVec Ideal S8x4096x512 .f32) (ix3 ⟨t.val / 8, by have : t.val < 64 := t.isLt; omega⟩ ⟨t.val % 8 * 512 + s, by omega⟩ d) := by
  obtain ⟨e0, e1, e2, e3, e4, e5, e6, e7, e8, e9, e10, e11, e12, e13⟩ := blocks t
  have ht : t.val < 64 := t.isLt
  rw [← v57 m c]
  blk_ext [iblk, e2]

theorem b3 (n : Fin 2) (q : Fin 512) (j : Fin 256) : iblk m c 3 t (ix4 0 n q j)
    = (m (c.tc.loc main_arg3) : FVec Ideal S8x4096x512 .f32) (ix3 ⟨t.val / 8, by have : t.val < 64 := t.isLt; omega⟩ ⟨t.val % 8 * 512 + (n * 256 + j), by omega⟩ q) := by
  obtain ⟨e0, e1, e2, e3, e4, e5, e6, e7, e8, e9, e10, e11, e12, e13⟩ := blocks t
  have ht : t.val < 64 := t.isLt
  have hj : (⟨(t.val % 8 * 2 + n) * 256 + j, by omega⟩ : Fin 4096) = ⟨t.val % 8 * 512 + (n * 256 + j), by omega⟩ := Fin.ext (by show (t.val % 8 * 2 + n) * 256 + j = t.val % 8 * 512 + (n * 256 + j); omega)
  rw [← hj]
  refine Eq.trans ?_ (v47 m c ⟨t.val / 8, by omega⟩ ⟨t.val % 8 * 2 + n, by omega⟩ q j)
  blk_ext [iblk, e3]

theorem b4 (n : Fin 2) (q : Fin 512) (j : Fin 256) : iblk m c 4 t (ix4 0 n q j)
    = HMul.hMul (α := EReal) (β := EReal) ((m (c.tc.loc main_arg3) : FVec Ideal S8x4096x512 .f32) (ix3 ⟨t.val / 8, by have : t.val < 64 := t.isLt; omega⟩ ⟨t.val % 8 * 512 + (n * 256 + j), by omega⟩ q)) ((gam (q / 128) ^ (256 - 1 - (j : ℕ)) : ℝ) : EReal) := by
  obtain ⟨e0, e1, e2, e3, e4, e5, e6, e7, e8, e9, e10, e11, e12, e13⟩ := blocks t
  have ht : t.val < 64 := t.isLt
  have hj : (⟨(t.val % 8 * 2 + n) * 256 + j, by omega⟩ : Fin 4096) = ⟨t.val % 8 * 512 + (n * 256 + j), by omega⟩ := Fin.ext (by show (t.val % 8 * 2 + n) * 256 + j = t.val % 8 * 512 + (n * 256 + j); omega)
  rw [← hj]
  refine Eq.trans ?_ (v54 m c ⟨t.val / 8, by omega⟩ ⟨t.val % 8 * 2 + n, by omega⟩ q j)
  blk_ext [iblk, e4]

theorem b5 (s : Fin 512) (d : Fin 1024) : iblk m c 5 t (ix3 0 s d)
    = (m (c.tc.loc main_arg4) : FVec Ideal S8x4096x1024 .f32) (ix3 ⟨t.val / 8, by have : t.val < 64 := t.isLt; omega⟩ ⟨t.val % 8 * 512 + s, by omega⟩ d) := by
  obtain ⟨e0, e1, e2, e3, e4, e5, e6, e7, e8, e9, e10, e11, e12, e13⟩ := blocks t
  have ht : t.val < 64 := t.isLt
  rw [← v58 m c]
  blk_ext [iblk, e5]

theorem b6 (s d : Fin 512) : iblk m c 6 t (ix3 0 s d)
    = (m (c.tc.loc main_arg5) : FVec Ideal S8x4096x512 .f32) (ix3 ⟨t.val / 8, by have : t.val < 64 := t.isLt; omega⟩ ⟨t.val % 8 * 512 + s, by omega⟩ d) := by
  obtain ⟨e0, e1, e2, e3, e4, e5, e6, e7, e8, e9, e10, e11, e12, e13⟩ := blocks t
  have ht : t.val < 64 := t.isLt
  rw [← v59 m c]
  blk_ext [iblk, e6]

theorem b7 (h : Fin 4) (i j : Fin 256) : iblk m c 7 t (ix3 h i j)
    = ((mask (gam h) i j : ℝ) : EReal) := by
  obtain ⟨e0, e1, e2, e3, e4, e5, e6, e7, e8, e9, e10, e11, e12, e13⟩ := blocks t
  have ht : t.val < 64 := t.isLt
  rw [← v17 m c]
  blk_ext [iblk, e7]

theorem b8 (h : Fin 4) (i j : Fin 256) : iblk m c 8 t (ix3 h i j)
    = ((gam h ^ ((i : ℕ) + 1) : ℝ) : EReal) := by
  obtain ⟨e0, e1, e2, e3, e4, e5, e6, e7, e8, e9, e10, e11, e12, e13⟩ := blocks t
  have ht : t.val < 64 := t.isLt
  rw [← v35 m c h i j]
  blk_ext [iblk, e8]

theorem b9 (d : Fin 1024) (j : Fin 6656) : iblk m c 9 t (ix2 d j)
    = (m (c.tc.loc main_arg6) : FVec Ideal S1x1024x6656 .f32) (ix3 0 d j) := by
  obtain ⟨e0, e1, e2, e3, e4, e5, e6, e7, e8, e9, e10, e11, e12, e13⟩ := blocks t
  have ht : t.val < 64 := t.isLt
  rw [← v40 m c]
  blk_ext [iblk, e9]

theorem b10 (d : Fin 512) (j : Fin 1024) : iblk m c 10 t (ix2 d j)
    = (m (c.tc.loc main_arg7) : FVec Ideal S1x512x1024 .f32) (ix3 0 d j) := by
  obtain ⟨e0, e1, e2, e3, e4, e5, e6, e7, e8, e9, e10, e11, e12, e13⟩ := blocks t
  have ht : t.val < 64 := t.isLt
  rw [← v41 m c]
  blk_ext [iblk, e10]

theorem b11 (d : Fin 1024) (j : Fin 1024) : iblk m c 11 t (ix2 d j)
    = (m (c.tc.loc main_arg8) : FVec Ideal S1x1024x1024 .f32) (ix3 0 d j) := by
  obtain ⟨e0, e1, e2, e3, e4, e5, e6, e7, e8, e9, e10, e11, e12, e13⟩ := blocks t
  have ht : t.val < 64 := t.isLt
  rw [← v42 m c]
  blk_ext [iblk, e11]

theorem b12 (d : Fin 1024) (j : Fin 1024) : iblk m c 12 t (ix2 d j)
    = (m (c.tc.loc main_arg9) : FVec Ideal S1x1024x1024 .f32) (ix3 0 d j) := by
  obtain ⟨e0, e1, e2, e3, e4, e5, e6, e7, e8, e9, e10, e11, e12, e13⟩ := blocks t
  have ht : t.val < 64 := t.isLt
  rw [← v43 m c]
  blk_ext [iblk, e12]

end

end Cert.Mix

end
-- ==== Proof.MixValue.lean ====
/- The mixing call's result array in the idealized kernel: every token's retention, and every result row. -/
module

public import proofs.«01_k».proof.Proof.MixResult
public import proofs.«01_k».proof.Proof.MixHost

@[expose] public section

set_option maxRecDepth 16384

noncomputable section

namespace Cert.Mix

open Cert.Kernel3Ideal Cert.Kernel3Ideal.Gen Cert.Rows Idealize.ShloMosaic Idealize.ShloMosaic.TcCoe
open Idealize.ShloMosaic.Pipeline (Dat)

variable (m : (ℓ : Loc nD τ sig) → Buf (Elt Ideal) ℓ) (c : Dev nD)

/-- The queries, keys and values, by batch entry, token and column. -/
def rq : Fin 8 → Fin 4096 → Fin 512 → EReal := fun b n j => (m (c.tc.loc main_arg2) : FVec Ideal S8x4096x512 .f32) (ix3 b n j)
def rk : Fin 8 → Fin 4096 → Fin 512 → EReal := fun b n j => (m (c.tc.loc main_arg3) : FVec Ideal S8x4096x512 .f32) (ix3 b n j)
def rv : Fin 8 → Fin 4096 → Fin 1024 → EReal := fun b n j => (m (c.tc.loc main_arg4) : FVec Ideal S8x4096x1024 .f32) (ix3 b n j)

variable (hq : ∀ b n j, IsR (rq m c b n j)) (hk : ∀ b n j, IsR (rk m c b n j)) (hv : ∀ b n j, IsR (rv m c b n j))

section
variable (t : Fin cfg0.N)

include hk hv in
/-- A chunk of a point takes the state over the chunk's tokens. -/
theorem chunk_step (n : Fin 2) (S : EReal) (h : Fin 4) (d : Fin 128) (e : Fin 256)
    (hS : S = stateOf (rk m c) (rv m c) ⟨t.val / 8, by have : t.val < 64 := t.isLt; omega⟩ h (t.val % 8 * 512 + n * 256) d e) :
    decayed h * S + added (iblk m c 4 t) (iblk m c 5 t) n h d e
    = stateOf (rk m c) (rv m c) ⟨t.val / 8, by have : t.val < 64 := t.isLt; omega⟩ h (t.val % 8 * 512 + n * 256 + 256) d e := by
  have ht : t.val < 64 := t.isLt
  unfold added decayed
  refine state_real (gam h) (qkOf (rk m c) ⟨t.val / 8, by omega⟩ h) (vOf (rv m c) ⟨t.val / 8, by omega⟩ h e) 256 (t.val % 8 * 512 + n * 256) d _ _ _ (fun j => ?_) (fun j => ?_) hS
  · rw [b4, EReal.coe_mul]
    refine congrArg₂ (HMul.hMul (α := EReal) (β := EReal)) ?_ ?_
    · have e1 := qkOf_eq hk ⟨t.val / 8, by omega⟩ h (t.val % 8 * 512 + n * 256 + j) (by omega) d
      rw [← e1]
      exact congrArg (fun z => rk m c _ z _) (Fin.ext (by show t.val % 8 * 512 + (n * 256 + j) = t.val % 8 * 512 + n * 256 + j; omega))
    · rw [show ((h : ℕ) * 128 + d) / 128 = h by omega]
  · rw [b5]
    have e1 := vOf_eq hv ⟨t.val / 8, by omega⟩ h (t.val % 8 * 512 + n * 256 + j) (by omega) e
    rw [← e1]
    exact congrArg (fun z => rv m c _ z _) (Fin.ext (by show t.val % 8 * 512 + (n * 256 + j) = t.val % 8 * 512 + n * 256 + j; omega))

variable (S : Fin 4 → Fin 128 → Fin 256 → EReal)

include hk hv in
theorem half_eq (hS : ∀ h d e, S h d e = stateOf (rk m c) (rv m c) ⟨t.val / 8, by have : t.val < 64 := t.isLt; omega⟩ h (t.val % 8 * 512) d e) (h : Fin 4) (d : Fin 128) (e : Fin 256) :
    half (iblk m c 4 t) (iblk m c 5 t) S h d e = stateOf (rk m c) (rv m c) ⟨t.val / 8, by have : t.val < 64 := t.isLt; omega⟩ h (t.val % 8 * 512 + 256) d e := by
  unfold half
  exact chunk_step m c hk hv t 0 _ h d e (hS h d e)

include hk hv in
theorem stepped_eq (hS : ∀ h d e, S h d e = stateOf (rk m c) (rv m c) ⟨t.val / 8, by have : t.val < 64 := t.isLt; omega⟩ h (t.val % 8 * 512) d e) (h : Fin 4) (d : Fin 128) (e : Fin 256) :
    stepped (iblk m c 4 t) (iblk m c 5 t) S h d e = stateOf (rk m c) (rv m c) ⟨t.val / 8, by have : t.val < 64 := t.isLt; omega⟩ h (t.val % 8 * 512 + 512) d e := by
  unfold stepped
  exact chunk_step m c hk hv t 1 _ h d e (half_eq m c hk hv t S hS h d e)

include hk hv in
theorem before_eq (hS : ∀ h d e, S h d e = stateOf (rk m c) (rv m c) ⟨t.val / 8, by have : t.val < 64 := t.isLt; omega⟩ h (t.val % 8 * 512) d e) (n : Fin 2) (h : Fin 4) (d : Fin 128) (e : Fin 256) :
    before (iblk m c 4 t) (iblk m c 5 t) S n h d e = stateOf (rk m c) (rv m c) ⟨t.val / 8, by have : t.val < 64 := t.isLt; omega⟩ h (t.val % 8 * 512 + n * 256) d e := by
  match n with
  | ⟨0, _⟩ => exact hS h d e
  | ⟨1, _⟩ => exact half_eq m c hk hv t S hS h d e

include hq hk hv in
/-- The retention a point makes. -/
theorem yB_eq (hS : ∀ h d e, S h d e = stateOf (rk m c) (rv m c) ⟨t.val / 8, by have : t.val < 64 := t.isLt; omega⟩ h (t.val % 8 * 512) d e) (n : Fin 2) (h : Fin 4) (r e : Fin 256) :
    yB (iblk m c 2 t) (iblk m c 3 t) (iblk m c 4 t) (iblk m c 5 t) (iblk m c 7 t) (iblk m c 8 t) S n h r e
    = retOf (rq m c) (rk m c) (rv m c) ⟨t.val / 8, by have : t.val < 64 := t.isLt; omega⟩ h (t.val % 8 * 512 + n * 256 + r) e := by
  have ht : t.val < 64 := t.isLt
  unfold yB
  refine ret_real (gam h) (qkOf (rq m c) ⟨t.val / 8, by omega⟩ h) (qkOf (rk m c) ⟨t.val / 8, by omega⟩ h) (vOf (rv m c) ⟨t.val / 8, by omega⟩ h e) 256 (t.val % 8 * 512 + n * 256) r _ _ _ _ _ _
    r.isLt (fun d => ?_) (fun j d => ?_) (fun j => ?_) (fun j => ?_) (fun d => ?_) ?_
  · rw [b2]
    have e1 := qkOf_eq hq ⟨t.val / 8, by omega⟩ h (t.val % 8 * 512 + n * 256 + r) (by omega) d
    rw [← e1]
    exact congrArg (fun z => rq m c _ z _) (Fin.ext (by show t.val % 8 * 512 + (n * 256 + r) = t.val % 8 * 512 + n * 256 + r; omega))
  · rw [b3]
    have e1 := qkOf_eq hk ⟨t.val / 8, by omega⟩ h (t.val % 8 * 512 + n * 256 + j) (by omega) d
    rw [← e1]
    exact congrArg (fun z => rk m c _ z _) (Fin.ext (by show t.val % 8 * 512 + (n * 256 + j) = t.val % 8 * 512 + n * 256 + j; omega))
  · exact b7 m c t h r j
  · rw [b5]
    have e1 := vOf_eq hv ⟨t.val / 8, by omega⟩ h (t.val % 8 * 512 + n * 256 + j) (by omega) e
    rw [← e1]
    exact congrArg (fun z => rv m c _ z _) (Fin.ext (by show t.val % 8 * 512 + (n * 256 + j) = t.val % 8 * 512 + n * 256 + j; omega))
  · exact before_eq m c hk hv t S hS n h d e
  · exact b8 m c t h r e

/-- A result row. -/
def rowAt (b : Fin 8) (s : Fin 4096) (e : Fin 1024) : EReal :=
  mixRow (fun d => (m (c.tc.loc main_arg0) : FVec Ideal S8x4096x1024 .f32) (ix3 b s d)) (fun d => (m (c.tc.loc main_arg1) : FVec Ideal S1x1024 .f32) (ix2 0 d))
    (fun d j => (m (c.tc.loc main_arg6) : FVec Ideal S1x1024x6656 .f32) (ix3 0 d j)) (fun k => (m (c.tc.loc main_arg5) : FVec Ideal S8x4096x512 .f32) (ix3 b s k))
    (fun k j => (m (c.tc.loc main_arg7) : FVec Ideal S1x512x1024 .f32) (ix3 0 k j))
    (fun k j => (m (c.tc.loc main_arg8) : FVec Ideal S1x1024x1024 .f32) (ix3 0 k j)) (fun k j => (m (c.tc.loc main_arg9) : FVec Ideal S1x1024x1024 .f32) (ix3 0 k j))
    (fun j => retOf (rq m c) (rk m c) (rv m c) b ⟨j / 256, by omega⟩ s ⟨j % 256, by omega⟩) e

include hq hk hv in
theorem pointRow_eq (hS : ∀ h d e, S h d e = stateOf (rk m c) (rv m c) ⟨t.val / 8, by have : t.val < 64 := t.isLt; omega⟩ h (t.val % 8 * 512) d e) (s : Fin 512) (e : Fin 1024) :
    pointRow (iblk m c 0 t) (iblk m c 1 t) (iblk m c 2 t) (iblk m c 3 t) (iblk m c 4 t) (iblk m c 5 t) (iblk m c 6 t) (iblk m c 7 t) (iblk m c 8 t) (iblk m c 9 t) (iblk m c 10 t)
      (iblk m c 11 t) (iblk m c 12 t) S s e
    = rowAt m c ⟨t.val / 8, by have : t.val < 64 := t.isLt; omega⟩ ⟨t.val % 8 * 512 + s, by omega⟩ e := by
  have ht : t.val < 64 := t.isLt
  have hy : yRow (iblk m c 2 t) (iblk m c 3 t) (iblk m c 4 t) (iblk m c 5 t) (iblk m c 7 t) (iblk m c 8 t) S s
      = fun j : Fin 1024 => retOf (rq m c) (rk m c) (rv m c) ⟨t.val / 8, by omega⟩ ⟨j / 256, by omega⟩ (t.val % 8 * 512 + s) ⟨j % 256, by omega⟩ := by
    funext j
    unfold yRow
    rw [yB_eq m c hq hk hv t S hS]
    exact congrArg (fun n => retOf (rq m c) (rk m c) (rv m c) ⟨t.val / 8, by omega⟩ ⟨j / 256, by omega⟩ n ⟨j % 256, by omega⟩)
      (by show t.val % 8 * 512 + (s : ℕ) / 256 * 256 + (s : ℕ) % 256 = t.val % 8 * 512 + s; omega)
  unfold pointRow
  rw [hy]
  unfold rowAt xRow
  have e0 : (fun d => (iblk m c 0 t) (ix3 0 s d)) = _ := funext fun d => b0 m c t s d
  have e1 : (fun d => (iblk m c 1 t) (ix2 0 d)) = _ := funext fun d => b1 m c t d
  have e9 : (fun d j => (iblk m c 9 t) (ix2 d j)) = _ := funext fun d => funext fun j => b9 m c t d j
  have e6 : (fun k => (iblk m c 6 t) (ix3 0 s k)) = _ := funext fun k => b6 m c t s k
  have e10 : (fun k j => (iblk m c 10 t) (ix2 k j)) = _ := funext fun d => funext fun j => b10 m c t d j
  have e11 : (fun k j => (iblk m c 11 t) (ix2 k j)) = _ := funext fun d => funext fun j => b11 m c t d j
  have e12 : (fun k j => (iblk m c 12 t) (ix2 k j)) = _ := funext fun d => funext fun j => b12 m c t d j
  exact congr (congrArg₂ (fun f g => f g) (congr (congr (congr (congr (congr (congrArg₂ mixRow e0 e1) e9) e6) e10) e11) e12) rfl) rfl

end

theorem start_state (b : Fin 8) (h : Fin 4) (d : Fin 128) (e : Fin 256) : stateOf (rk m c) (rv m c) b h 0 d e = 0 := by
  unfold stateOf
  rw [show state (gam h) (qkOf (rk m c) b h) (vOf (rv m c) b h e) 0 d = 0 from rfl]
  rfl

include hk hv in
/-- After every point the scratch holds the states after the point's tokens. -/
theorem scratch_inv : ∀ (n : ℕ) (hn : n < cfg0.N) (h : Fin 4) (d : Fin 128) (e : Fin 256), (outsAt0 m c n hn).2 (ix3 h d e)
    = stateOf (rk m c) (rv m c) ⟨n / 8, by have : n < 64 := hn; omega⟩ h (n % 8 * 512 + 512) d e := by
  intro n
  induction n with
  | zero =>
    intro hn h d e
    rw [first_state m c ⟨0, hn⟩ rfl h d e]
    exact stepped_eq m c hk hv ⟨0, hn⟩ _ (fun h d e => (start_state m c _ h d e).symm) h d e
  | succ n ih =>
    intro hn h d e
    have hn' : n + 1 < 64 := hn
    by_cases h8 : (n + 1) % 8 = 0
    · rw [first_state m c ⟨n + 1, hn⟩ h8 h d e]
      refine stepped_eq m c hk hv ⟨n + 1, hn⟩ _ (fun h d e => ?_) h d e
      show (0 : EReal) = stateOf (rk m c) (rv m c) _ h ((n + 1) % 8 * 512) d e
      rw [h8]
      exact (start_state m c _ h d e).symm
    · rw [later_state m c ⟨n + 1, hn⟩ h8 h d e]
      refine stepped_eq m c hk hv ⟨n + 1, hn⟩ _ (fun h d e => ?_) h d e
      refine (ih (Nat.lt_of_succ_lt hn) h d e).trans ?_
      have e1 : (⟨n / 8, by omega⟩ : Fin 8) = ⟨(n + 1) / 8, by omega⟩ := Fin.ext (by show n / 8 = (n + 1) / 8; omega)
      have e2 : n % 8 * 512 + 512 = (n + 1) % 8 * 512 := by omega
      rw [e1, e2]

include hq hk hv in
theorem block (t : Fin cfg0.N) (s : Fin 512) (e : Fin 1024) : (outsAt0 m c t.val t.isLt).1 (ix3 0 s e)
    = rowAt m c ⟨t.val / 8, by have : t.val < 64 := t.isLt; omega⟩ ⟨t.val % 8 * 512 + s, by omega⟩ e := by
  have ht : t.val < 64 := t.isLt
  by_cases h : t.val % 8 = 0
  · rw [first_block m c t h s e]
    refine pointRow_eq m c hq hk hv t _ (fun a d e => ?_) s e
    show (0 : EReal) = stateOf (rk m c) (rv m c) _ a (t.val % 8 * 512) d e
    rw [h]
    exact (start_state m c _ a d e).symm
  · rw [later_block m c t h s e]
    refine pointRow_eq m c hq hk hv t _ (fun a d e => ?_) s e
    refine (scratch_inv m c hk hv (t.val - 1) (by omega) a d e).trans ?_
    have e1 : (⟨(t.val - 1) / 8, by omega⟩ : Fin 8) = ⟨t.val / 8, by omega⟩ := Fin.ext (by show (t.val - 1) / 8 = t.val / 8; omega)
    have e2 : (t.val - 1) % 8 * 512 + 512 = t.val % 8 * 512 := by omega
    rw [e1, e2]

/-- What the call leaves in its result array. -/
def result : Vec Ideal S8x4096x1024 .f32 := fun i => rowAt m c (i 0) (i 1) (i 2)

include hq hk hv in
theorem final : (dats m 0 c).arrAt 13 cfg0.N = result m c := by
  refine (dats m 0 c).arrAt_eq_of_covers 13 (result m c) (by decide +kernel) (fun t hf y => ?_)
  blk_simp
  rw [after0_13]
  obtain ⟨e0, e1, e2, e3, e4, e5, e6, e7, e8, e9, e10, e11, e12, e13⟩ := blocks t
  idx_vars y
  obtain rfl : y0 = 0 := Subsingleton.elim _ _
  have ht : t.val < 64 := t.isLt
  have hG : (((View.whole main_v60).slice (win0_13.rect t)).emb (ix3 0 y1 y2)) = ix3 ⟨t.val / 8, by omega⟩ ⟨t.val % 8 * 512 + y1.val, by omega⟩ y2 := by
    blk_ext [e13]
  rw [block m c hq hk hv, hG]
  rfl

end Cert.Mix

end
-- ==== Proof.MixStages.lean ====
/- The retention in the reference, stage by stage. -/
module

public import proofs.«01_k».proof.Proof.MixRows
public import proofs.«01_k».proof.Proof.MixTables
public import proofs.«01_k».proof.Proof.Gen.Reference3Ideal.Run
public import Idealize.ShloMosaic.Lib.Pointwise
public import Idealize.ShloMosaic.Lib.Tactic.CleanTypes

@[expose] public section

set_option maxRecDepth 16384

noncomputable section

namespace Cert.Mix.Ref

open Cert.Reference3Ideal Cert.Reference3Ideal.Gen Cert.Reference3Ideal.Value Cert.Rows Idealize.ShloMosaic Idealize.ShloMosaic.TcCoe

/-- The logarithms of the decays. -/
def logs : FVec Ideal S4 .f32 := Host.log (fun i => FloatOps.ofBits .f32 (lit0 (S4.rowMajor i)))

/-- A chunk's positions. -/
def ramp : FVec Ideal S128 .f32 := sitofp .f32 (iotaInDim S128 32 0)

/-- The distance of two positions. -/
def gap : FVec Ideal S128x128 .f32 :=
  subf (broadcastInDim S128x128 ![0, 1] bcast_S128x1_S128x128_0_1 (broadcastInDim S128x1 ![0] bcast_S128_S128x1_0 ramp))
    (broadcastInDim S128x128 ![0, 1] bcast_S1x128_S128x128_0_1 (broadcastInDim S1x128 ![1] bcast_S128_S1x128_1 ramp))

/-- How far a key has decayed at a query of its chunk. -/
def maskT (l : FVec Ideal S4 .f32) (p : FVec Ideal S128x128 .f32) : FVec Ideal S4x128x128 .f32 :=
  select (broadcastInDim S4x128x128 ![1, 2] bcast_S128x128_S4x128x128_1_2 (cmpf .oge p (broadcastInDim S128x128 ![] bcast_S_S128x128 (constant S_ .f32 0x00000000#32))))
    (Host.exp (mulf (broadcastInDim S4x128x128 ![0, 1, 2] bcast_S4x1x1_S4x128x128_0_1_2 (broadcastInDim S4x1x1 ![0] bcast_S4_S4x1x1_0 l))
      (broadcastInDim S4x128x128 ![0, 1, 2] bcast_S1x128x128_S4x128x128_0_1_2 (broadcastInDim S1x128x128 ![1, 2] bcast_S128x128_S1x128x128_1_2
        (maximumf p (broadcastInDim S128x128 ![] bcast_S_S128x128 (constant S_ .f32 0x00000000#32)))))))
    (broadcastInDim S4x128x128 ![] bcast_S_S4x128x128 (constant S_ .f32 0x00000000#32))

/-- The decay of the state at each query of a chunk. -/
def qT (l : FVec Ideal S4 .f32) (i : FVec Ideal S128 .f32) : FVec Ideal S4x128 .f32 :=
  Host.exp (mulf (broadcastInDim S4x128 ![0, 1] bcast_S4x1_S4x128_0_1 (broadcastInDim S4x1 ![0] bcast_S4_S4x1_0 l))
    (broadcastInDim S4x128 ![0, 1] bcast_S1x128_S4x128_0_1 (broadcastInDim S1x128 ![1] bcast_S128_S1x128_1 (addf i (broadcastInDim S128 ![] bcast_S_S128 (constant S_ .f32 0x3F800000#32))))))

/-- The decay of each key of a chunk at the chunk's end. -/
def kT (l : FVec Ideal S4 .f32) (i : FVec Ideal S128 .f32) : FVec Ideal S4x128 .f32 :=
  Host.exp (mulf (broadcastInDim S4x128 ![0, 1] bcast_S4x1_S4x128_0_1 (broadcastInDim S4x1 ![0] bcast_S4_S4x1_0 l))
    (broadcastInDim S4x128 ![0, 1] bcast_S1x128_S4x128_0_1 (broadcastInDim S1x128 ![1] bcast_S128_S1x128_1 (subf (broadcastInDim S128 ![] bcast_S_S128 (constant S_ .f32 0x42FE0000#32)) i))))

/-- The decay of a chunk. -/
def cT (l : FVec Ideal S4 .f32) : FVec Ideal S4 .f32 :=
  Host.exp (mulf l (broadcastInDim S4 ![] bcast_S_S4 (constant S_ .f32 0x43000000#32)))

theorem logs_apply (h : Fin 4) : logs (ix1 h) = Ideal.log ((gam h : ℝ) : EReal) := by
  show Ideal.log (Ideal.ofBits .f32 (lit0 (S4.rowMajor (ix1 h)))) = _
  match h with
  | ⟨0, _⟩ => exact congrArg Ideal.log bits_gam0
  | ⟨1, _⟩ => exact congrArg Ideal.log bits_gam1
  | ⟨2, _⟩ => exact congrArg Ideal.log bits_gam2
  | ⟨3, _⟩ => exact congrArg Ideal.log bits_gam3

theorem ramp_apply (i : Fin 128) : ramp (ix1 i) = (((i : ℕ) : ℝ) : EReal) := position i (by omega)

theorem gap_apply (i j : Fin 128) : gap (ix2 i j) = (((i : ℕ) : ℝ) : EReal) - (((j : ℕ) : ℝ) : EReal) := by
  have h : gap (ix2 i j) = ramp (ix1 i) - ramp (ix1 j) := by pointwise [gap]
  rw [h, ramp_apply, ramp_apply]

theorem maskT_apply (h : Fin 4) (i j : Fin 128) : maskT logs gap (ix3 h i j) = ((mask (gam h) i j : ℝ) : EReal) := by
  have e : ∀ l p, maskT l p (ix3 h i j) = if 0 ≤ p (ix2 i j) then Ideal.exp (l (ix1 h) * max (p (ix2 i j)) 0) else 0 := by
    intro l p
    pointwise [maskT]
  rw [e, logs_apply, gap_apply, mask_entry]

theorem qT_apply (h : Fin 4) (i : Fin 128) : qT logs ramp (ix2 h i) = ((gam h ^ ((i : ℕ) + 1) : ℝ) : EReal) := by
  have e : ∀ l p, qT l p (ix2 h i) = Ideal.exp (l (ix1 h) * (p (ix1 i) + 1)) := by
    intro l p
    pointwise [qT]
  rw [e, logs_apply, ramp_apply, after_entry]

theorem kT_apply (h : Fin 4) (i : Fin 128) : kT logs ramp (ix2 h i) = ((gam h ^ (128 - 1 - (i : ℕ)) : ℝ) : EReal) := by
  have e : ∀ l p, kT l p (ix2 h i) = Ideal.exp (l (ix1 h) * (Ideal.ofBits .f32 1123942400#32 - p (ix1 i))) := by
    intro l p
    pointwise [kT]
  rw [e, logs_apply, ramp_apply, bits_127]
  exact left_entry h i 127 (by omega)

theorem cT_apply (h : Fin 4) : cT logs (ix1 h) = ((gam h ^ 128 : ℝ) : EReal) := by
  have e : ∀ l, cT l (ix1 h) = Ideal.exp (l (ix1 h) * Ideal.ofBits .f32 1124073472#32) := by
    intro l
    pointwise [cT]
  rw [e, logs_apply, bits_128]
  exact exp_pow h 128

/-- Queries or keys by head and chunk. -/
def heads (x : FVec Ideal S8x4096x512 .f32) : FVec Ideal S8x4x32x128x128 .f32 :=
  shapeCast S8x4x32x128x128 (transpose S8x4x4096x128 [0, 2, 1, 3] (shapeCast S8x4096x4x128 x shapeCasts_S8x4096x512_S8x4096x4x128) transposes_S8x4096x4x128_S8x4x4096x128_0_2_1_3) shapeCasts_S8x4x4096x128_S8x4x32x128x128

/-- Values by head and chunk. -/
def wide (x : FVec Ideal S8x4096x1024 .f32) : FVec Ideal S8x4x32x128x256 .f32 :=
  shapeCast S8x4x32x128x256 (transpose S8x4x4096x256 [0, 2, 1, 3] (shapeCast S8x4096x4x256 x shapeCasts_S8x4096x1024_S8x4096x4x256) transposes_S8x4096x4x256_S8x4x4096x256_0_2_1_3) shapeCasts_S8x4x4096x256_S8x4x32x128x256

/-- What a chunk's own keys give its queries. -/
def own (q k : FVec Ideal S8x4x32x128x128 .f32) (v : FVec Ideal S8x4x32x128x256 .f32) (d : FVec Ideal S4x128x128 .f32) : FVec Ideal S8x4x32x128x256 .f32 :=
  Host.dotGeneral dot_S8x4x32x128x128_S8x4x32x128x256_S8x4x32x128x256_4_3_3_4_012_012 none
    (mulf (Host.dotGeneral dot_S8x4x32x128x128_S8x4x32x128x128_S8x4x32x128x128_4_4_3_3_012_012 none q k : FVec Ideal S8x4x32x128x128 .f32)
      (broadcastInDim S8x4x32x128x128 ![0, 1, 2, 3, 4] bcast_S1x4x1x128x128_S8x4x32x128x128_0_1_2_3_4 (broadcastInDim S1x4x1x128x128 ![1, 3, 4] bcast_S4x128x128_S1x4x1x128x128_1_3_4 d))) v

/-- A table's entry for every position, laid along the head's columns. -/
def along (d : FVec Ideal S4x128 .f32) : FVec Ideal S8x4x32x128x128 .f32 :=
  broadcastInDim S8x4x32x128x128 ![0, 1, 2, 3, 4] bcast_S1x4x1x128x1_S8x4x32x128x128_0_1_2_3_4 (broadcastInDim S1x4x1x128x1 ![1, 3] bcast_S4x128_S1x4x1x128x1_1_3 d)

/-- What each chunk adds to the state. -/
def gains (k : FVec Ideal S8x4x32x128x128 .f32) (v : FVec Ideal S8x4x32x128x256 .f32) (d : FVec Ideal S4x128 .f32) : FVec Ideal S32x8x4x128x256 .f32 :=
  transpose S32x8x4x128x256 [2, 0, 1, 3, 4] (Host.dotGeneral dot_S8x4x32x128x128_S8x4x32x128x256_S8x4x32x128x256_3_3_4_4_012_012 none (mulf k (along d)) v : FVec Ideal S8x4x32x128x256 .f32) transposes_S8x4x32x128x256_S32x8x4x128x256_2_0_1_3_4

/-- The retention by head. -/
def kept (q : FVec Ideal S8x4x32x128x128 .f32) (o : FVec Ideal S8x4x32x128x256 .f32) (d : FVec Ideal S4x128 .f32) (p : FVec Ideal S32x8x4x128x256 .f32) : FVec Ideal S8x4x4096x256 .f32 :=
  shapeCast S8x4x4096x256 (addf o (Host.dotGeneral dot_S8x4x32x128x128_S8x4x32x128x256_S8x4x32x128x256_4_3_3_4_012_012 none (mulf q (along d))
    (transpose S8x4x32x128x256 [1, 2, 0, 3, 4] p transposes_S32x8x4x128x256_S8x4x32x128x256_1_2_0_3_4))) shapeCasts_S8x4x32x128x256_S8x4x4096x256

theorem heads_apply (x) (b : Fin 8) (h : Fin 4) (n : Fin 32) (i d : Fin 128) :
    heads x (ix5 b h n i d) = x (ix3 b ⟨n * 128 + i, by omega⟩ ⟨h * 128 + d, by omega⟩) := by pointwise [heads]
theorem wide_apply (x) (b : Fin 8) (h : Fin 4) (n : Fin 32) (i : Fin 128) (e : Fin 256) :
    wide x (ix5 b h n i e) = x (ix3 b ⟨n * 128 + i, by omega⟩ ⟨h * 256 + e, by omega⟩) := by pointwise [wide]
theorem own_apply (q k v d) (b : Fin 8) (h : Fin 4) (n : Fin 32) (i : Fin 128) (e : Fin 256) :
    own q k v d (ix5 b h n i e) = ∑ j, ((∑ a, q (ix5 b h n i a) * k (ix5 b h n j a)) * d (ix3 h i j)) * v (ix5 b h n j e) := by pointwise [own]
theorem gains_apply (k v d) (b : Fin 8) (h : Fin 4) (n : Fin 32) (a : Fin 128) (e : Fin 256) :
    gains k v d (ix5 n b h a e) = ∑ j, (k (ix5 b h n j a) * d (ix2 h j)) * v (ix5 b h n j e) := by pointwise [gains, along]
theorem kept_apply (q o d p) (b : Fin 8) (h : Fin 4) (s : Fin 4096) (e : Fin 256) :
    kept q o d p (ix4 b h s e) = o (ix5 b h ⟨s / 128, by omega⟩ ⟨s % 128, by omega⟩ e)
      + ∑ a, (q (ix5 b h ⟨s / 128, by omega⟩ ⟨s % 128, by omega⟩ a) * d (ix2 h ⟨s % 128, by omega⟩)) * p (ix5 ⟨s / 128, by omega⟩ b h a e) := by pointwise [kept, along]

/-- The heads' rows, each normed, side by side. -/
def normed (y : FVec Ideal S8x4x4096x256 .f32) : FVec Ideal S8x4x4096x256 .f32 :=
  mulf (subf y (broadcastInDim S8x4x4096x256 ![0, 1, 2, 3] bcast_S8x4x4096x1_S8x4x4096x256_0_1_2_3 (Host.divf (broadcastInDim S8x4x4096x1 ![0, 1, 2] bcast_S8x4x4096_S8x4x4096x1_0_1_2 (Host.reduceAdd y (constant S_ .f32 0x00000000#32) reducesTo_S8x4x4096x256_S8x4x4096_d3 h_S_)) (broadcastInDim S8x4x4096x1 ![] bcast_S_S8x4x4096x1 (constant S_ .f32 0x43800000#32)))))
    (broadcastInDim S8x4x4096x256 ![0, 1, 2, 3] bcast_S8x4x4096x1_S8x4x4096x256_0_1_2_3 (Host.rsqrt (addf (Host.divf (broadcastInDim S8x4x4096x1 ![0, 1, 2] bcast_S8x4x4096_S8x4x4096x1_0_1_2 (Host.reduceAdd
      (mulf (subf y (broadcastInDim S8x4x4096x256 ![0, 1, 2, 3] bcast_S8x4x4096x1_S8x4x4096x256_0_1_2_3 (Host.divf (broadcastInDim S8x4x4096x1 ![0, 1, 2] bcast_S8x4x4096_S8x4x4096x1_0_1_2 (Host.reduceAdd y (constant S_ .f32 0x00000000#32) reducesTo_S8x4x4096x256_S8x4x4096_d3 h_S_)) (broadcastInDim S8x4x4096x1 ![] bcast_S_S8x4x4096x1 (constant S_ .f32 0x43800000#32)))))
        (subf y (broadcastInDim S8x4x4096x256 ![0, 1, 2, 3] bcast_S8x4x4096x1_S8x4x4096x256_0_1_2_3 (Host.divf (broadcastInDim S8x4x4096x1 ![0, 1, 2] bcast_S8x4x4096_S8x4x4096x1_0_1_2 (Host.reduceAdd y (constant S_ .f32 0x00000000#32) reducesTo_S8x4x4096x256_S8x4x4096_d3 h_S_)) (broadcastInDim S8x4x4096x1 ![] bcast_S_S8x4x4096x1 (constant S_ .f32 0x43800000#32))))))
      (constant S_ .f32 0x00000000#32) reducesTo_S8x4x4096x256_S8x4x4096_d3 h_S_)) (broadcastInDim S8x4x4096x1 ![] bcast_S_S8x4x4096x1 (constant S_ .f32 0x43800000#32)))
      (broadcastInDim S8x4x4096x1 ![] bcast_S_S8x4x4096x1 (constant S_ .f32 0x358637BD#32)))))

/-- Rows by head as whole rows. -/
def joined (y : FVec Ideal S8x4x4096x256 .f32) : FVec Ideal S8x4096x1024 .f32 :=
  shapeCast S8x4096x1024 (transpose S8x4096x4x256 [0, 2, 1, 3] y transposes_S8x4x4096x256_S8x4096x4x256_0_2_1_3) shapeCasts_S8x4096x4x256_S8x4096x1024

/-- The normed input rows. -/
def rows (x : FVec Ideal S8x4096x1024 .f32) (g : FVec Ideal S1x1024 .f32) : FVec Ideal S8x4096x1024 .f32 :=
  mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast S1024 g shapeCasts_S1x1024_S1024)))

/-- The fused projection's last three groups of columns. -/
def fused (h : FVec Ideal S8x4096x1024 .f32) (w : FVec Ideal S1x1024x6656 .f32) : FVec Ideal S8x4096x3072 .f32 :=
  extractStridedSlice S8x4096x3072 ![0, 0, 3584] (Host.dotGeneral dot_S8x4096x1024_S1024x6656_S8x4096x6656_2_0_01_1_n_n none h (shapeCast S1024x6656 w shapeCasts_S1x1024x6656_S1024x6656) : FVec Ideal S8x4096x6656 .f32) slices_S8x4096x6656_S8x4096x3072_0_0_3584

def first (p : FVec Ideal S8x4096x3072 .f32) : FVec Ideal S8x4096x1024 .f32 := extractStridedSlice S8x4096x1024 ![0, 0, 0] p slices_S8x4096x3072_S8x4096x1024_0_0_0
def second (p : FVec Ideal S8x4096x3072 .f32) : FVec Ideal S8x4096x1024 .f32 := extractStridedSlice S8x4096x1024 ![0, 0, 1024] p slices_S8x4096x3072_S8x4096x1024_0_0_1024
def third (p : FVec Ideal S8x4096x3072 .f32) : FVec Ideal S8x4096x1024 .f32 := extractStridedSlice S8x4096x1024 ![0, 0, 2048] p slices_S8x4096x3072_S8x4096x1024_0_0_2048

/-- The sigmoid, entry by entry. -/
def sigm (a : FVec Ideal S8x4096x1024 .f32) : FVec Ideal S8x4096x1024 .f32 :=
  Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf a)))

/-- The branches merged and projected. -/
def leave (x y g1 g2 g3 : FVec Ideal S8x4096x1024 .f32) (ya : FVec Ideal S8x4096x512 .f32) (wa : FVec Ideal S1x512x1024 .f32) (wb wo : FVec Ideal S1x1024x1024 .f32) : FVec Ideal S8x4096x1024 .f32 :=
  addf x (Host.dotGeneral dot_S8x4096x1024_S1024x1024_S8x4096x1024_2_0_01_1_n_n none
    (addf (mulf (sigm g2) (Host.dotGeneral dot_S8x4096x512_S512x1024_S8x4096x1024_2_0_01_1_n_n none ya (shapeCast S512x1024 wa shapeCasts_S1x512x1024_S512x1024) : FVec Ideal S8x4096x1024 .f32))
      (mulf (sigm g3) (Host.dotGeneral dot_S8x4096x1024_S1024x1024_S8x4096x1024_2_0_01_1_n_n none (mulf y (mulf g1 (sigm g1))) (shapeCast S1024x1024 wb shapeCasts_S1x1024x1024_S1024x1024) : FVec Ideal S8x4096x1024 .f32)))
    (shapeCast S1024x1024 wo shapeCasts_S1x1024x1024_S1024x1024))

theorem normed_apply (y) (b : Fin 8) (h : Fin 4) (s : Fin 4096) (e : Fin 256) : normed y (ix4 b h s e) = grp (fun j => y (ix4 b h s j)) e := by
  generalize hG : grp _ e = G
  pointwise [normed]
  subst hG
  simp only [grp, mean]

theorem joined_apply (y) (b : Fin 8) (s : Fin 4096) (c : Fin 1024) : joined y (ix3 b s c) = y (ix4 b ⟨c / 256, by omega⟩ s ⟨c % 256, by omega⟩) := by pointwise [joined]

theorem rows_apply (x g) (b : Fin 8) (s : Fin 4096) (d : Fin 1024) :
    rows x g (ix3 b s d) = rms (fun d => x (ix3 b s d)) (fun d => g (ix2 0 d)) d := by
  generalize hG : rms _ _ d = G
  pointwise [rows]
  subst hG
  simp only [rms]

theorem first_apply (h w) (b : Fin 8) (s : Fin 4096) (c : Fin 1024) : first (fused h w) (ix3 b s c) = ∑ d, h (ix3 b s d) * w (ix3 0 d ⟨3584 + c, by omega⟩) := by pointwise [first, fused]
theorem second_apply (h w) (b : Fin 8) (s : Fin 4096) (c : Fin 1024) : second (fused h w) (ix3 b s c) = ∑ d, h (ix3 b s d) * w (ix3 0 d ⟨4608 + c, by omega⟩) := by
  pointwise [second, fused]
  exact Finset.sum_congr rfl fun d _ => congrArg (fun q => h (ix3 b s d) * w (ix3 0 d q)) (Fin.ext (by show 3584 + (1024 + (c : ℕ)) = 4608 + c; omega))
theorem third_apply (h w) (b : Fin 8) (s : Fin 4096) (c : Fin 1024) : third (fused h w) (ix3 b s c) = ∑ d, h (ix3 b s d) * w (ix3 0 d ⟨5632 + c, by omega⟩) := by
  pointwise [third, fused]
  exact Finset.sum_congr rfl fun d _ => congrArg (fun q => h (ix3 b s d) * w (ix3 0 d q)) (Fin.ext (by show 3584 + (2048 + (c : ℕ)) = 5632 + c; omega))

theorem sig_apply (a) (i : S8x4096x1024.Idx) : sigm a i = Rows.logistic (a i) := by pointwise [sigm, Rows.logistic]

theorem leave_apply (x y g1 g2 g3 ya wa wb wo) (b : Fin 8) (s : Fin 4096) (e : Fin 1024) : leave x y g1 g2 g3 ya wa wb wo (ix3 b s e)
    = x (ix3 b s e) + ∑ c, (Rows.logistic (g2 (ix3 b s c)) * (∑ k, ya (ix3 b s k) * wa (ix3 0 k c))
        + Rows.logistic (g3 (ix3 b s c)) * (∑ k, (y (ix3 b s k) * swish (g1 (ix3 b s k))) * wb (ix3 0 k c))) * wo (ix3 0 c e) := by
  pointwise [leave, sigm, swish, Rows.logistic]

/-- The result's row from the retention's row. -/
theorem row_apply (x g y ya w wa wb wo) (b : Fin 8) (s : Fin 4096) (e : Fin 1024) :
    leave x (joined (normed y)) (first (fused (rows x g) w)) (second (fused (rows x g) w)) (third (fused (rows x g) w)) ya wa wb wo (ix3 b s e)
    = mixRow (fun d => x (ix3 b s d)) (fun d => g (ix2 0 d)) (fun d j => w (ix3 0 d j)) (fun k => ya (ix3 b s k)) (fun k j => wa (ix3 0 k j))
      (fun k j => wb (ix3 0 k j)) (fun k j => wo (ix3 0 k j)) (fun c => y (ix4 b ⟨c / 256, by omega⟩ s ⟨c % 256, by omega⟩)) e := by
  rw [leave_apply]
  unfold mixRow merged gated
  simp only [joined_apply, normed_apply, first_apply, second_apply, third_apply, rows_apply]
  have e1 : ∀ c j : ℕ, j < 256 → (c / 256 * 256 + j) / 256 = c / 256 ∧ (c / 256 * 256 + j) % 256 = j := by intro c j hj; omega
  have e2 : ∀ (c : Fin 1024) (j : Fin 256), y (ix4 b ⟨(headCol c j : ℕ) / 256, by omega⟩ s ⟨(headCol c j : ℕ) % 256, by omega⟩) = y (ix4 b ⟨(c : ℕ) / 256, by omega⟩ s j) := by
    intro c j
    obtain ⟨a1, a2⟩ := e1 c j j.isLt
    exact congrArg₂ (fun p q => y (ix4 b p s q)) (Fin.ext a1) (Fin.ext a2)
  simp only [e2]

end Cert.Mix.Ref

end
-- ==== Proof.MixReference.lean ====
/- The reference's scan over the chunks: what each buffer of the loop holds, and the retention of every token. -/
module

public import proofs.«01_k».proof.Proof.MixStages
public import proofs.«01_k».proof.Proof.MixToken
public import Idealize.ShloMosaic.Lib.DynamicIndex

@[expose] public section

set_option maxRecDepth 16384

noncomputable section

namespace Cert.Mix.Ref

open Cert.Reference3Ideal Cert.Reference3Ideal.Gen Cert.Reference3Ideal.Value Cert.Rows Idealize.ShloMosaic Idealize.ShloMosaic.TcCoe Idealize.ShloMosaic.StableHlo

/-! One trip of the scan, entry by entry. -/

theorem slices_at (n : ℕ) (hn : n < 32) : S32x8x4x128x256.Slices ![n, 0, 0, 0, 0] S1x8x4x128x256 := by
  refine ⟨rfl, fun a => ?_⟩
  match a with
  | ⟨0, _⟩ => show n + 1 ≤ 32; omega
  | ⟨1, _⟩ => show 0 + 8 ≤ 8; omega
  | ⟨2, _⟩ => show 0 + 4 ≤ 4; omega
  | ⟨3, _⟩ => show 0 + 128 ≤ 128; omega
  | ⟨4, _⟩ => show 0 + 256 ≤ 256; omega

theorem carried_apply (g : FVec Ideal S32x8x4x128x256 .f32) (d : FVec Ideal S4 .f32) (S : FVec Ideal S8x4x128x256 .f32) (start : Fin 5 → Int) (n : ℕ) (hn : n < 32)
    (hs : ∀ a, start a = ((![n, 0, 0, 0, 0] : Fin 5 → ℕ) a : Int)) (b : Fin 8) (h : Fin 4) (a : Fin 128) (e : Fin 256) :
    (addf (mulf (broadcastInDim S8x4x128x256 ![0, 1, 2, 3] bcast_S1x4x1x1_S8x4x128x256_0_1_2_3 (broadcastInDim S1x4x1x1 ![1] bcast_S4_S1x4x1x1_1 d)) S : FVec Ideal S8x4x128x256 .f32)
      (shapeCast S8x4x128x256 (Host.dynamicSlice S1x8x4x128x256 g start sliceFits_S32x8x4x128x256_S1x8x4x128x256) shapeCasts_S1x8x4x128x256_S8x4x128x256)) (ix4 b h a e)
    = d (ix1 h) * S (ix4 b h a e) + g (ix5 ⟨n, hn⟩ b h a e) := by
  rw [Host.dynamicSlice_eq_extractStridedSlice S1x8x4x128x256 g start ![n, 0, 0, 0, 0] _ (slices_at n hn) hs]
  pointwise

theorem stored_apply (x : FVec Ideal S32x8x4x128x256 .f32) (S : FVec Ideal S8x4x128x256 .f32) (start : Fin 5 → Int) (n : ℕ) (hn : n < 32)
    (hs : ∀ a, start a = ((![n, 0, 0, 0, 0] : Fin 5 → ℕ) a : Int)) (p : Fin 32) (b : Fin 8) (h : Fin 4) (a : Fin 128) (e : Fin 256) :
    (Host.dynamicUpdateSlice x (broadcastInDim S1x8x4x128x256 ![1, 2, 3, 4] bcast_S8x4x128x256_S1x8x4x128x256_1_2_3_4 S) start updateFits_S32x8x4x128x256_S1x8x4x128x256 : FVec Ideal S32x8x4x128x256 .f32) (ix5 p b h a e)
    = if (p : ℕ) = n then S (ix4 b h a e) else x (ix5 p b h a e) := by
  have e1 : ∀ k, (min (max (start k) 0) ((S32x8x4x128x256.size k - S1x8x4x128x256.size (k.cast (slices_at n hn).1.symm) : ℕ) : Int)).toNat = (![n, 0, 0, 0, 0] : Fin 5 → ℕ) k := by
    intro k
    have := (slices_at n hn).2 k
    rw [hs k]; omega
  rw [Host.dynamicUpdateSlice_eq_updateSlice x _ start _ ![n, 0, 0, 0, 0] e1 (slices_at n hn)]
  unfold updateSlice
  by_cases hp : (p : ℕ) = n
  · rw [if_pos hp, dif_pos]
    · pointwise
    · intro k
      match k with
      | ⟨0, _⟩ => exact ⟨le_of_eq hp.symm, by show (p : ℕ) < n + 1; omega⟩
      | ⟨1, _⟩ => exact ⟨Nat.zero_le _, by show (b : ℕ) < 0 + 8; omega⟩
      | ⟨2, _⟩ => exact ⟨Nat.zero_le _, by show (h : ℕ) < 0 + 4; omega⟩
      | ⟨3, _⟩ => exact ⟨Nat.zero_le _, by show (a : ℕ) < 0 + 128; omega⟩
      | ⟨4, _⟩ => exact ⟨Nat.zero_le _, by show (e : ℕ) < 0 + 256; omega⟩
  · rw [if_neg hp, dif_neg]
    intro hin
    have h0 : n ≤ (p : ℕ) ∧ (p : ℕ) < n + 1 := hin 0
    omega

variable (m : (ℓ : Loc nD τ sig) → Buf (Elt Ideal) ℓ) (c : Dev nD)

/-- A buffer the loop does not write keeps its contents. -/
theorem atK_keep (r : Ref sig .tc) (hc : r ∉ condOps_W) (h0 : r ∉ while0Ops0_W) (h1 : r ∉ while0Ops0_1_W) (h2 : r ∉ while0Ops0_2_W) (h3 : r ∉ while0Ops0_3_W) :
    ∀ k, atK m k c (Proc.devRef .tc r) = entryContents preI m c (Proc.devRef .tc r)
  | 0 => rfl
  | k + 1 => by
    rw [show atK m (k + 1) c = afterL bodyI (after condOps (atK m k c)) from rfl]
    simp only [afterL_cons, afterL_nil]
    rw [after_of_writes_sub _ _ while0Ops0_3_writes h3, after_of_writes_sub _ _ while0Ops0_2_writes h2, after_of_writes_sub _ _ while0Ops0_1_writes h1,
      after_of_writes_sub _ _ while0Ops0_writes h0, after_of_writes_sub _ _ condOps_writes hc]
    exact atK_keep r hc h0 h1 h2 h3 k

theorem atK_gains : ∀ k, atK m k c (Proc.devRef .tc main_v78_0) = entryContents preI m c (Proc.devRef .tc main_v78_0)
  | 0 => rfl
  | k + 1 => ((trip_agree (atK m k c) main_v78_0 (by decide)).trans (STEP_main_v78_0 _)).trans (atK_gains k)

theorem atK_chunk : ∀ k, atK m k c (Proc.devRef .tc main_v78_1) = entryContents preI m c (Proc.devRef .tc main_v78_1)
  | 0 => rfl
  | k + 1 => ((trip_agree (atK m k c) main_v78_1 (by decide)).trans (STEP_main_v78_1 _)).trans (atK_chunk k)

theorem atK_state (k : ℕ) : atK m (k + 1) c (Proc.devRef .tc main_v78_3) = step_main_v78_3 (atK m k c) :=
  (trip_agree (atK m k c) main_v78_3 (by decide)).trans (STEP_main_v78_3 _)

theorem atK_outs (k : ℕ) : atK m (k + 1) c (Proc.devRef .tc main_v78_4) = step_main_v78_4 (atK m k c) :=
  (trip_agree (atK m k c) main_v78_4 (by decide)).trans (STEP_main_v78_4 _)

theorem starts_at (k : ℕ) (hk : k < 32) (a : Fin 5) :
    ((![atK m k c (Proc.devRef .tc main_v78_2), constantI S_ 32 0#32, constantI S_ 32 0#32, constantI S_ 32 0#32, constantI S_ 32 0#32] : Fin 5 → (⟨S_, .i32⟩ : BufTy).Contents (Elt Ideal)) a (Shape.Idx.first h_S_)).toInt
    = ((![k, 0, 0, 0, 0] : Fin 5 → ℕ) a : Int) := by
  rw [atK_ctr]
  match a with
  | ⟨0, _⟩ =>
    show (Scf.iv 0#32 1#32 k).toInt = (k : Int)
    have e : ∀ k : Fin 32, (Scf.iv 0#32 1#32 (k : ℕ)).toInt = ((k : ℕ) : Int) := by decide
    exact e ⟨k, hk⟩
  | ⟨1, _⟩ => rfl
  | ⟨2, _⟩ => rfl
  | ⟨3, _⟩ => rfl
  | ⟨4, _⟩ => rfl

/-! What the host made before the loop. -/

theorem entry_zero : entryContents preI m c (Proc.devRef .tc main_v78_3) = (broadcastInDim S8x4x128x256 ![] bcast_S_S8x4x128x256 (constant S_ .f32 0x00000000#32 : FVec Ideal S_ .f32) : FVec Ideal S8x4x128x256 .f32) := by
  simp only [entryContents, afterL_cons, afterL_nil]
  after_reads_simp
  rfl

theorem entry_gains : entryContents preI m c (Proc.devRef .tc main_v78_0) = gains (heads (m ((c.tc : Thread nD τ).loc main_arg3))) (wide (m ((c.tc : Thread nD τ).loc main_arg4))) (kT logs ramp) := by
  simp only [entryContents, afterL_cons, afterL_nil]
  after_reads_simp
  rfl

theorem entry_chunk : entryContents preI m c (Proc.devRef .tc main_v78_1) = cT logs := by
  simp only [entryContents, afterL_cons, afterL_nil]
  after_reads_simp
  rfl

theorem entry_first : entryContents preI m c (Proc.devRef .tc main_v17) = first (fused (rows (m ((c.tc : Thread nD τ).loc main_arg0)) (m ((c.tc : Thread nD τ).loc main_arg1))) (m ((c.tc : Thread nD τ).loc main_arg6))) := by
  simp only [entryContents, afterL_cons, afterL_nil]
  after_reads_simp
  rfl

theorem entry_second : entryContents preI m c (Proc.devRef .tc main_v18) = second (fused (rows (m ((c.tc : Thread nD τ).loc main_arg0)) (m ((c.tc : Thread nD τ).loc main_arg1))) (m ((c.tc : Thread nD τ).loc main_arg6))) := by
  simp only [entryContents, afterL_cons, afterL_nil]
  after_reads_simp
  rfl

theorem entry_third : entryContents preI m c (Proc.devRef .tc main_v19) = third (fused (rows (m ((c.tc : Thread nD τ).loc main_arg0)) (m ((c.tc : Thread nD τ).loc main_arg1))) (m ((c.tc : Thread nD τ).loc main_arg6))) := by
  simp only [entryContents, afterL_cons, afterL_nil]
  after_reads_simp
  rfl

theorem entry_decay : entryContents preI m c (Proc.devRef .tc main_v51) = qT logs ramp := by
  simp only [entryContents, afterL_cons, afterL_nil]
  after_reads_simp
  rfl

theorem entry_queries : entryContents preI m c (Proc.devRef .tc main_v63) = heads (m ((c.tc : Thread nD τ).loc main_arg2)) := by
  simp only [entryContents, afterL_cons, afterL_nil]
  after_reads_simp
  rfl

theorem entry_own : entryContents preI m c (Proc.devRef .tc main_v70) = own (heads (m ((c.tc : Thread nD τ).loc main_arg2))) (heads (m ((c.tc : Thread nD τ).loc main_arg3))) (wide (m ((c.tc : Thread nD τ).loc main_arg4))) (maskT logs gap) := by
  simp only [entryContents, afterL_cons, afterL_nil]
  after_reads_simp
  rfl

/-- A buffer no host operation before the loop writes is as launched. -/
theorem entry_keep (r : Ref sig .tc) (h0 : r ∉ hostOps0_W) (h1 : r ∉ hostOps0_1_W) (h2 : r ∉ hostOps0_2_W) :
    entryContents preI m c (Proc.devRef .tc r) = m ((c.tc : Thread nD τ).loc r) := by
  simp only [entryContents, afterL_cons, afterL_nil]
  rw [after_of_writes_sub _ _ hostOps0_2_writes h2, after_of_writes_sub _ _ hostOps0_1_writes h1, after_of_writes_sub _ _ hostOps0_writes h0]

/-- The contents after the loop, before the last host operations. -/
def loopEnd : Valuation τ sig (Elt Ideal) := after condOps (atK m 32 c)

theorem loopEnd_keep (r : Ref sig .tc) (hc : r ∉ condOps_W) : loopEnd m c (Proc.devRef .tc r) = atK m 32 c (Proc.devRef .tc r) :=
  after_of_writes_sub _ _ condOps_writes hc

theorem final_eq : finalContents condOps preI bodyI postI 32 m c = after hostOps0_5 (after hostOps0_4 (after hostOps0_3 (loopEnd m c))) := rfl

theorem end_keep (r : Ref sig .tc) (hc : r ∉ condOps_W) (h0 : r ∉ while0Ops0_W) (h1 : r ∉ while0Ops0_1_W) (h2 : r ∉ while0Ops0_2_W) (h3 : r ∉ while0Ops0_3_W) :
    loopEnd m c (Proc.devRef .tc r) = entryContents preI m c (Proc.devRef .tc r) :=
  (loopEnd_keep m c r hc).trans (atK_keep m c r hc h0 h1 h2 h3 32)

/-- A buffer nothing before or in the loop writes is as launched. -/
theorem end_arg (r : Ref sig .tc) (hc : r ∉ condOps_W) (h0 : r ∉ while0Ops0_W) (h1 : r ∉ while0Ops0_1_W) (h2 : r ∉ while0Ops0_2_W) (h3 : r ∉ while0Ops0_3_W)
    (g0 : r ∉ hostOps0_W) (g1 : r ∉ hostOps0_1_W) (g2 : r ∉ hostOps0_2_W) :
    loopEnd m c (Proc.devRef .tc r) = m ((c.tc : Thread nD τ).loc r) :=
  (end_keep m c r hc h0 h1 h2 h3).trans (entry_keep m c r g0 g1 g2)

/-- What the host makes after the loop. -/
theorem post_result (V : Valuation τ sig (Elt Ideal)) : after hostOps0_5 (after hostOps0_4 (after hostOps0_3 V)) (Proc.devRef .tc main_v129)
    = leave (V (Proc.devRef .tc main_arg0)) (joined (normed (kept (V (Proc.devRef .tc main_v63)) (V (Proc.devRef .tc main_v70)) (V (Proc.devRef .tc main_v51)) (V (Proc.devRef .tc main_v78_4)))))
      (V (Proc.devRef .tc main_v17)) (V (Proc.devRef .tc main_v18)) (V (Proc.devRef .tc main_v19))
      (V (Proc.devRef .tc main_arg5)) (V (Proc.devRef .tc main_arg7)) (V (Proc.devRef .tc main_arg8)) (V (Proc.devRef .tc main_arg9)) := by
  after_reads_simp
  rfl

theorem end_arg0 : loopEnd m c (Proc.devRef .tc main_arg0) = m ((c.tc : Thread nD τ).loc main_arg0) :=
  end_arg m c main_arg0 (by decide +kernel) (by decide +kernel) (by decide +kernel) (by decide +kernel) (by decide +kernel) (by decide +kernel) (by decide +kernel) (by decide +kernel)
theorem post_arg0 (V : Valuation τ sig (Elt Ideal)) : after hostOps0_5 (after hostOps0_4 (after hostOps0_3 V)) (Proc.devRef .tc main_arg0) = V (Proc.devRef .tc main_arg0) := by
  after_reads_simp
theorem final_arg0 : finalContents condOps preI bodyI postI 32 m c (Proc.devRef .tc main_arg0) = m ((c.tc : Thread nD τ).loc main_arg0) := by
  rw [final_eq, post_arg0, end_arg0]

theorem end_arg1 : loopEnd m c (Proc.devRef .tc main_arg1) = m ((c.tc : Thread nD τ).loc main_arg1) :=
  end_arg m c main_arg1 (by decide +kernel) (by decide +kernel) (by decide +kernel) (by decide +kernel) (by decide +kernel) (by decide +kernel) (by decide +kernel) (by decide +kernel)
theorem post_arg1 (V : Valuation τ sig (Elt Ideal)) : after hostOps0_5 (after hostOps0_4 (after hostOps0_3 V)) (Proc.devRef .tc main_arg1) = V (Proc.devRef .tc main_arg1) := by
  after_reads_simp
theorem final_arg1 : finalContents condOps preI bodyI postI 32 m c (Proc.devRef .tc main_arg1) = m ((c.tc : Thread nD τ).loc main_arg1) := by
  rw [final_eq, post_arg1, end_arg1]

theorem end_arg2 : loopEnd m c (Proc.devRef .tc main_arg2) = m ((c.tc : Thread nD τ).loc main_arg2) :=
  end_arg m c main_arg2 (by decide +kernel) (by decide +kernel) (by decide +kernel) (by decide +kernel) (by decide +kernel) (by decide +kernel) (by decide +kernel) (by decide +kernel)
theorem post_arg2 (V : Valuation τ sig (Elt Ideal)) : after hostOps0_5 (after hostOps0_4 (after hostOps0_3 V)) (Proc.devRef .tc main_arg2) = V (Proc.devRef .tc main_arg2) := by
  after_reads_simp
theorem final_arg2 : finalContents condOps preI bodyI postI 32 m c (Proc.devRef .tc main_arg2) = m ((c.tc : Thread nD τ).loc main_arg2) := by
  rw [final_eq, post_arg2, end_arg2]

theorem end_arg3 : loopEnd m c (Proc.devRef .tc main_arg3) = m ((c.tc : Thread nD τ).loc main_arg3) :=
  end_arg m c main_arg3 (by decide +kernel) (by decide +kernel) (by decide +kernel) (by decide +kernel) (by decide +kernel) (by decide +kernel) (by decide +kernel) (by decide +kernel)
theorem post_arg3 (V : Valuation τ sig (Elt Ideal)) : after hostOps0_5 (after hostOps0_4 (after hostOps0_3 V)) (Proc.devRef .tc main_arg3) = V (Proc.devRef .tc main_arg3) := by
  after_reads_simp
theorem final_arg3 : finalContents condOps preI bodyI postI 32 m c (Proc.devRef .tc main_arg3) = m ((c.tc : Thread nD τ).loc main_arg3) := by
  rw [final_eq, post_arg3, end_arg3]

theorem end_arg4 : loopEnd m c (Proc.devRef .tc main_arg4) = m ((c.tc : Thread nD τ).loc main_arg4) :=
  end_arg m c main_arg4 (by decide +kernel) (by decide +kernel) (by decide +kernel) (by decide +kernel) (by decide +kernel) (by decide +kernel) (by decide +kernel) (by decide +kernel)
theorem post_arg4 (V : Valuation τ sig (Elt Ideal)) : after hostOps0_5 (after hostOps0_4 (after hostOps0_3 V)) (Proc.devRef .tc main_arg4) = V (Proc.devRef .tc main_arg4) := by
  after_reads_simp
theorem final_arg4 : finalContents condOps preI bodyI postI 32 m c (Proc.devRef .tc main_arg4) = m ((c.tc : Thread nD τ).loc main_arg4) := by
  rw [final_eq, post_arg4, end_arg4]

theorem end_arg5 : loopEnd m c (Proc.devRef .tc main_arg5) = m ((c.tc : Thread nD τ).loc main_arg5) :=
  end_arg m c main_arg5 (by decide +kernel) (by decide +kernel) (by decide +kernel) (by decide +kernel) (by decide +kernel) (by decide +kernel) (by decide +kernel) (by decide +kernel)
theorem post_arg5 (V : Valuation τ sig (Elt Ideal)) : after hostOps0_5 (after hostOps0_4 (after hostOps0_3 V)) (Proc.devRef .tc main_arg5) = V (Proc.devRef .tc main_arg5) := by
  after_reads_simp
theorem final_arg5 : finalContents condOps preI bodyI postI 32 m c (Proc.devRef .tc main_arg5) = m ((c.tc : Thread nD τ).loc main_arg5) := by
  rw [final_eq, post_arg5, end_arg5]

theorem end_arg6 : loopEnd m c (Proc.devRef .tc main_arg6) = m ((c.tc : Thread nD τ).loc main_arg6) :=
  end_arg m c main_arg6 (by decide +kernel) (by decide +kernel) (by decide +kernel) (by decide +kernel) (by decide +kernel) (by decide +kernel) (by decide +kernel) (by decide +kernel)
theorem post_arg6 (V : Valuation τ sig (Elt Ideal)) : after hostOps0_5 (after hostOps0_4 (after hostOps0_3 V)) (Proc.devRef .tc main_arg6) = V (Proc.devRef .tc main_arg6) := by
  after_reads_simp
theorem final_arg6 : finalContents condOps preI bodyI postI 32 m c (Proc.devRef .tc main_arg6) = m ((c.tc : Thread nD τ).loc main_arg6) := by
  rw [final_eq, post_arg6, end_arg6]

theorem end_arg7 : loopEnd m c (Proc.devRef .tc main_arg7) = m ((c.tc : Thread nD τ).loc main_arg7) :=
  end_arg m c main_arg7 (by decide +kernel) (by decide +kernel) (by decide +kernel) (by decide +kernel) (by decide +kernel) (by decide +kernel) (by decide +kernel) (by decide +kernel)
theorem post_arg7 (V : Valuation τ sig (Elt Ideal)) : after hostOps0_5 (after hostOps0_4 (after hostOps0_3 V)) (Proc.devRef .tc main_arg7) = V (Proc.devRef .tc main_arg7) := by
  after_reads_simp
theorem final_arg7 : finalContents condOps preI bodyI postI 32 m c (Proc.devRef .tc main_arg7) = m ((c.tc : Thread nD τ).loc main_arg7) := by
  rw [final_eq, post_arg7, end_arg7]

theorem end_arg8 : loopEnd m c (Proc.devRef .tc main_arg8) = m ((c.tc : Thread nD τ).loc main_arg8) :=
  end_arg m c main_arg8 (by decide +kernel) (by decide +kernel) (by decide +kernel) (by decide +kernel) (by decide +kernel) (by decide +kernel) (by decide +kernel) (by decide +kernel)
theorem post_arg8 (V : Valuation τ sig (Elt Ideal)) : after hostOps0_5 (after hostOps0_4 (after hostOps0_3 V)) (Proc.devRef .tc main_arg8) = V (Proc.devRef .tc main_arg8) := by
  after_reads_simp
theorem final_arg8 : finalContents condOps preI bodyI postI 32 m c (Proc.devRef .tc main_arg8) = m ((c.tc : Thread nD τ).loc main_arg8) := by
  rw [final_eq, post_arg8, end_arg8]

theorem end_arg9 : loopEnd m c (Proc.devRef .tc main_arg9) = m ((c.tc : Thread nD τ).loc main_arg9) :=
  end_arg m c main_arg9 (by decide +kernel) (by decide +kernel) (by decide +kernel) (by decide +kernel) (by decide +kernel) (by decide +kernel) (by decide +kernel) (by decide +kernel)
theorem post_arg9 (V : Valuation τ sig (Elt Ideal)) : after hostOps0_5 (after hostOps0_4 (after hostOps0_3 V)) (Proc.devRef .tc main_arg9) = V (Proc.devRef .tc main_arg9) := by
  after_reads_simp
theorem final_arg9 : finalContents condOps preI bodyI postI 32 m c (Proc.devRef .tc main_arg9) = m ((c.tc : Thread nD τ).loc main_arg9) := by
  rw [final_eq, post_arg9, end_arg9]

/-! The loop's states and the retention of every token. -/

/-- The reference's queries, keys and values, by batch entry, token and column. -/
def rq : Fin 8 → Fin 4096 → Fin 512 → EReal := fun b n j => (m ((c.tc : Thread nD τ).loc main_arg2) : FVec Ideal S8x4096x512 .f32) (ix3 b n j)
def rk : Fin 8 → Fin 4096 → Fin 512 → EReal := fun b n j => (m ((c.tc : Thread nD τ).loc main_arg3) : FVec Ideal S8x4096x512 .f32) (ix3 b n j)
def rv : Fin 8 → Fin 4096 → Fin 1024 → EReal := fun b n j => (m ((c.tc : Thread nD τ).loc main_arg4) : FVec Ideal S8x4096x1024 .f32) (ix3 b n j)

variable (hq : ∀ b n j, IsR (rq m c b n j)) (hk : ∀ b n j, IsR (rk m c b n j)) (hv : ∀ b n j, IsR (rv m c b n j))

include hk hv in
/-- Before trip `k` the carried state is the state before token `128 k`. -/
theorem state_at (k : ℕ) (hk32 : k ≤ 32) (b : Fin 8) (h : Fin 4) (a : Fin 128) (e : Fin 256) :
    (atK m k c (Proc.devRef .tc main_v78_3) : FVec Ideal S8x4x128x256 .f32) (ix4 b h a e) = stateOf (rk m c) (rv m c) b h (k * 128) a e := by
  induction k with
  | zero =>
    rw [show atK m 0 c (Proc.devRef .tc main_v78_3) = _ from entry_zero m c]
    unfold stateOf
    rw [Nat.zero_mul, show state (gam h) (qkOf (rk m c) b h) (vOf (rv m c) b h e) 0 a = 0 from rfl]
    pointwise
    simp
  | succ k ih =>
    rw [atK_state]
    refine (carried_apply (atK m k c (Proc.devRef .tc main_v78_0)) (atK m k c (Proc.devRef .tc main_v78_1)) (atK m k c (Proc.devRef .tc main_v78_3)) _ k (by omega) (starts_at m c k (by omega)) b h a e).trans ?_
    rw [atK_gains, atK_chunk, entry_gains, entry_chunk, cT_apply, gains_apply, ih (by omega), Nat.succ_mul]
    refine state_real (gam h) (qkOf (rk m c) b h) (vOf (rv m c) b h e) 128 (k * 128) a _ _ _ (fun j => ?_) (fun j => ?_) rfl
    · rw [heads_apply, kT_apply, EReal.coe_mul]
      exact congrArg (fun z : EReal => z * _) (qkOf_eq hk b h (k * 128 + j) (by omega) a)
    · rw [wide_apply]
      exact vOf_eq hv b h (k * 128 + j) (by omega) e

include hk hv in
/-- Before trip `k` the states of the chunks before it are stored. -/
theorem outs_at (k : ℕ) (hk32 : k ≤ 32) (p : Fin 32) (hp : (p : ℕ) < k) (b : Fin 8) (h : Fin 4) (a : Fin 128) (e : Fin 256) :
    (atK m k c (Proc.devRef .tc main_v78_4) : FVec Ideal S32x8x4x128x256 .f32) (ix5 p b h a e) = stateOf (rk m c) (rv m c) b h (p * 128) a e := by
  induction k with
  | zero => omega
  | succ k ih =>
    rw [atK_outs]
    refine (stored_apply (atK m k c (Proc.devRef .tc main_v78_4)) (atK m k c (Proc.devRef .tc main_v78_3)) _ k (by omega) (starts_at m c k (by omega)) p b h a e).trans ?_
    by_cases hpk : (p : ℕ) = k
    · rw [if_pos hpk, state_at m c hk hv k (by omega), hpk]
    · rw [if_neg hpk, ih (by omega) (by omega)]

include hq hk hv in
/-- The retention the reference makes. -/
theorem kept_eq (b : Fin 8) (h : Fin 4) (s : Fin 4096) (e : Fin 256) :
    kept (loopEnd m c (Proc.devRef .tc main_v63)) (loopEnd m c (Proc.devRef .tc main_v70)) (loopEnd m c (Proc.devRef .tc main_v51)) (loopEnd m c (Proc.devRef .tc main_v78_4)) (ix4 b h s e)
    = retOf (rq m c) (rk m c) (rv m c) b h s e := by
  have hs : (s : ℕ) / 128 * 128 + (s : ℕ) % 128 = s := by omega
  rw [kept_apply, end_keep m c main_v63 (by decide +kernel) (by decide +kernel) (by decide +kernel) (by decide +kernel) (by decide +kernel), end_keep m c main_v70 (by decide +kernel) (by decide +kernel) (by decide +kernel) (by decide +kernel) (by decide +kernel),
    end_keep m c main_v51 (by decide +kernel) (by decide +kernel) (by decide +kernel) (by decide +kernel) (by decide +kernel), loopEnd_keep m c main_v78_4 (by decide +kernel), entry_queries, entry_own, entry_decay, own_apply]
  refine (ret_real' (gam h) (qkOf (rq m c) b h) (qkOf (rk m c) b h) (vOf (rv m c) b h e) 128 (s / 128 * 128) (s % 128) _ _ _ _ _ _ (by omega) (fun d => ?_) (fun j d => ?_) (fun j => ?_) (fun j => ?_) (fun d => ?_) ?_).trans
    (congrArg (fun n : ℕ => ((ret (gam h) (qkOf (rq m c) b h) (qkOf (rk m c) b h) (vOf (rv m c) b h e) n : ℝ) : EReal)) hs)
  · rw [heads_apply]
    exact qkOf_eq hq b h (s / 128 * 128 + s % 128) (by omega) d
  · rw [heads_apply]
    exact qkOf_eq hk b h (s / 128 * 128 + j) (by omega) d
  · exact maskT_apply h _ j
  · rw [wide_apply]
    exact vOf_eq hv b h (s / 128 * 128 + j) (by omega) e
  · exact outs_at m c hk hv 32 le_rfl _ (by show (s : ℕ) / 128 < 32; omega) b h d e
  · exact qT_apply h _

include hq hk hv in
/-- Every row of the reference's result. -/
theorem result_row (b : Fin 8) (s : Fin 4096) (e : Fin 1024) :
    (finalContents condOps preI bodyI postI 32 m c (Proc.devRef .tc main_v129) : FVec Ideal S8x4096x1024 .f32) (ix3 b s e)
    = mixRow (fun d => (m ((c.tc : Thread nD τ).loc main_arg0) : FVec Ideal S8x4096x1024 .f32) (ix3 b s d)) (fun d => (m ((c.tc : Thread nD τ).loc main_arg1) : FVec Ideal S1x1024 .f32) (ix2 0 d))
      (fun d j => (m ((c.tc : Thread nD τ).loc main_arg6) : FVec Ideal S1x1024x6656 .f32) (ix3 0 d j)) (fun k => (m ((c.tc : Thread nD τ).loc main_arg5) : FVec Ideal S8x4096x512 .f32) (ix3 b s k))
      (fun k j => (m ((c.tc : Thread nD τ).loc main_arg7) : FVec Ideal S1x512x1024 .f32) (ix3 0 k j))
      (fun k j => (m ((c.tc : Thread nD τ).loc main_arg8) : FVec Ideal S1x1024x1024 .f32) (ix3 0 k j)) (fun k j => (m ((c.tc : Thread nD τ).loc main_arg9) : FVec Ideal S1x1024x1024 .f32) (ix3 0 k j))
      (fun j => retOf (rq m c) (rk m c) (rv m c) b ⟨j / 256, by omega⟩ s ⟨j % 256, by omega⟩) e := by
  rw [final_eq, post_result, end_arg0, end_arg5, end_arg7, end_arg8, end_arg9,
    end_keep m c main_v17 (by decide +kernel) (by decide +kernel) (by decide +kernel) (by decide +kernel) (by decide +kernel), end_keep m c main_v18 (by decide +kernel) (by decide +kernel) (by decide +kernel) (by decide +kernel) (by decide +kernel), end_keep m c main_v19 (by decide +kernel) (by decide +kernel) (by decide +kernel) (by decide +kernel) (by decide +kernel), entry_first, entry_second, entry_third, row_apply]
  refine congrArg (fun y => mixRow _ _ _ _ _ _ _ y e) (funext fun j => ?_)
  exact kept_eq m c hq hk hv _ _ _ _

end Cert.Mix.Ref

end
-- ==== Proof.MixFinite.lean ====
/- What the precondition of the mixing claims says: every entry of the queries, the keys and the values is a real number. -/
module

public import proofs.«01_k».proof.Proof.CrossFinite
public import proofs.«01_k».proof.Proof.Gen.Pre_finite3

@[expose] public section

set_option maxRecDepth 16384

noncomputable section

namespace Cert.Mix

open Cert.Rows Idealize.ShloMosaic

attribute [local instance] Cert.Pre_finite3.Gen.facts in
theorem finite_real (a0 : FVec Ideal Cert.Pre_finite3.S8x4096x1024 .f32) (a1 : FVec Ideal Cert.Pre_finite3.S1x1024 .f32)
    (a2 a3 : FVec Ideal Cert.Pre_finite3.S8x4096x512 .f32) (a4 : FVec Ideal Cert.Pre_finite3.S8x4096x1024 .f32) (a5 : FVec Ideal Cert.Pre_finite3.S8x4096x512 .f32)
    (a6 : FVec Ideal Cert.Pre_finite3.S1x1024x6656 .f32) (a7 : FVec Ideal Cert.Pre_finite3.S1x512x1024 .f32) (a8 a9 : FVec Ideal Cert.Pre_finite3.S1x1024x1024 .f32)
    (e : Cert.Pre_finite3.fn (F := Ideal) a0 a1 a2 a3 a4 a5 a6 a7 a8 a9 = fun _ => 1#1) :
    (∀ i, IsR (a2 i)) ∧ (∀ i, IsR (a3 i)) ∧ (∀ i, IsR (a4 i)) := by
  haveI : Subsingleton Cert.Pre_finite3.S_.Idx := ⟨fun a b => funext fun k => k.elim0⟩
  have e' := congrFun e (fun k => k.elim0)
  unfold Cert.Pre_finite3.fn at e'
  obtain ⟨e', h4⟩ := IntOp.andi_eq_one.1 e'
  obtain ⟨h2, h3⟩ := IntOp.andi_eq_one.1 e'
  exact ⟨Cross.real_of_all a2 _ _ _ _ _ h2, Cross.real_of_all a3 _ _ _ _ _ h3, Cross.real_of_all a4 _ _ _ _ _ h4⟩

end Cert.Mix

end
-- ==== Proof.MixClaims.lean ====
/- The claims about the mixing call. -/
module

public import proofs.«01_k».proof.Defs
public import proofs.«01_k».proof.Proof.MixValue
public import proofs.«01_k».proof.Proof.MixReference
public import proofs.«01_k».proof.Proof.MixFinite
public import proofs.«01_k».proof.Proof.Gen.Kernel3.Frame

@[expose] public section

set_option maxRecDepth 16384

noncomputable section

namespace Cert.Mix

open Cert.Rows Idealize.ShloMosaic Idealize.ShloMosaic.TcCoe Idealize.SL.Sem

theorem frame_p : Cert.quiescent_Kernel3 (hKernel3 := Cert.Kernel3.Gen.facts) := fun m ρ _ => Cert.Kernel3.Gen.frame m ρ

theorem frame_pi : Cert.quiescent_Kernel3Ideal (hKernel3Ideal := Cert.Kernel3Ideal.Gen.facts) := fun m ρ _ => Cert.Kernel3Ideal.Gen.frame m ρ

theorem frame_pi_finite : Cert.quiescent_Kernel3Ideal_pre_finite3 (hKernel3Ideal := Cert.Kernel3Ideal.Gen.facts) (hPre_finite3 := Cert.Pre_finite3.Gen.facts) :=
  fun m ρ _ => Cert.Kernel3Ideal.Gen.frame m ρ

section
open Cert.Reference3Ideal Cert.Reference3Ideal.Gen Cert.Reference3Ideal.Value

theorem frame_ri : Cert.quiescent_Reference3Ideal (hReference3Ideal := Cert.Reference3Ideal.Gen.facts) := fun m ρ _ =>
  (θ_run Cert.Reference3Ideal.defs _ _).mono (fun r h => ⟨fun c =>
    ⟨(h c main_arg0 rfl).trans (Ref.final_arg0 m c), (h c main_arg1 rfl).trans (Ref.final_arg1 m c), (h c main_arg2 rfl).trans (Ref.final_arg2 m c),
      (h c main_arg3 rfl).trans (Ref.final_arg3 m c), (h c main_arg4 rfl).trans (Ref.final_arg4 m c), (h c main_arg5 rfl).trans (Ref.final_arg5 m c),
      (h c main_arg6 rfl).trans (Ref.final_arg6 m c), (h c main_arg7 rfl).trans (Ref.final_arg7 m c), (h c main_arg8 rfl).trans (Ref.final_arg8 m c),
      (h c main_arg9 rfl).trans (Ref.final_arg9 m c)⟩, sem_eq_zero_of_no_sems (by decide) r.2⟩)
    (run_fold (F := Ideal) m ρ)
end

theorem frame_ri_finite : Cert.quiescent_Reference3Ideal_pre_finite3 (hReference3Ideal := Cert.Reference3Ideal.Gen.facts) (hPre_finite3 := Cert.Pre_finite3.Gen.facts) :=
  fun m ρ _ => frame_ri m ρ trivial

/-- Each named constant of the kernel has its stated value. -/
theorem preserves : Cert.preserves_Kernel3_Kernel3Ideal :=
  ⟨IdealRules.named_const.statement _ _ _ _ _ rfl, IdealRules.named_const.statement _ _ _ _ _ rfl, IdealRules.named_const.statement _ _ _ _ _ rfl, IdealRules.named_const.statement _ _ _ _ _ rfl⟩

/-- The results at equal arguments with real queries, keys and values. -/
theorem same (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (hq : ∀ b n j, IsR (rq m c b n j)) (hk : ∀ b n j, IsR (rk m c b n j)) (hv : ∀ b n j, IsR (rv m c b n j))
    (h0 : m' (c.tc.loc Cert.Reference3Ideal.main_arg0) = m (c.tc.loc Cert.Kernel3Ideal.main_arg0))
    (h1 : m' (c.tc.loc Cert.Reference3Ideal.main_arg1) = m (c.tc.loc Cert.Kernel3Ideal.main_arg1))
    (h2 : m' (c.tc.loc Cert.Reference3Ideal.main_arg2) = m (c.tc.loc Cert.Kernel3Ideal.main_arg2))
    (h3 : m' (c.tc.loc Cert.Reference3Ideal.main_arg3) = m (c.tc.loc Cert.Kernel3Ideal.main_arg3))
    (h4 : m' (c.tc.loc Cert.Reference3Ideal.main_arg4) = m (c.tc.loc Cert.Kernel3Ideal.main_arg4))
    (h5 : m' (c.tc.loc Cert.Reference3Ideal.main_arg5) = m (c.tc.loc Cert.Kernel3Ideal.main_arg5))
    (h6 : m' (c.tc.loc Cert.Reference3Ideal.main_arg6) = m (c.tc.loc Cert.Kernel3Ideal.main_arg6))
    (h7 : m' (c.tc.loc Cert.Reference3Ideal.main_arg7) = m (c.tc.loc Cert.Kernel3Ideal.main_arg7))
    (h8 : m' (c.tc.loc Cert.Reference3Ideal.main_arg8) = m (c.tc.loc Cert.Kernel3Ideal.main_arg8))
    (h9 : m' (c.tc.loc Cert.Reference3Ideal.main_arg9) = m (c.tc.loc Cert.Kernel3Ideal.main_arg9)) :
    StableHlo.finalContents Cert.Reference3Ideal.Value.condOps Cert.Reference3Ideal.Value.preI Cert.Reference3Ideal.Value.bodyI Cert.Reference3Ideal.Value.postI 32 m' c
      (Proc.devRef .tc Cert.Reference3Ideal.main_v129) = result m c := by
  funext i
  have hi : i = ix3 (n0 := 8) (n1 := 4096) (n2 := 1024) (i 0) (i 1) (i 2) := by funext a; fin_cases a <;> rfl
  have e2 : Ref.rq m' c = rq m c := by unfold Ref.rq rq; rw [h2]
  have e3 : Ref.rk m' c = rk m c := by unfold Ref.rk rk; rw [h3]
  have e4 : Ref.rv m' c = rv m c := by unfold Ref.rv rv; rw [h4]
  rw [hi]
  refine (Ref.result_row m' c (by rw [e2]; exact hq) (by rw [e3]; exact hk) (by rw [e4]; exact hv) (i 0) (i 1) (i 2)).trans ?_
  rw [e2, e3, e4, h0, h1, h5, h6, h7, h8, h9]
  rfl

theorem algebraic : Cert.algebraic_Kernel3Ideal_Reference3Ideal_pre_finite3 (hKernel3Ideal := Cert.Kernel3Ideal.Gen.facts)
    (hReference3Ideal := Cert.Reference3Ideal.Gen.facts) (hPre_finite3 := Cert.Pre_finite3.Gen.facts) := by
  intro m ρ m' ρ' hp hagree
  have real := fun c => finite_real _ _ _ _ _ _ _ _ _ _ (hp c)
  have hq : ∀ c b n j, IsR (rq m c b n j) := fun c b n j => (real c).1 _
  have hk : ∀ c b n j, IsR (rk m c b n j) := fun c b n j => (real c).2.1 _
  have hv : ∀ c b n j, IsR (rv m c b n j) := fun c b n j => (real c).2.2 _
  refine ⟨fun c => result m c, (θ_run Cert.Kernel3Ideal.defs _ _).mono (fun r h c => ?_) (Cert.Kernel3Ideal.Value.run_blocks (F := Ideal) m ρ), ?_⟩
  · obtain ⟨q0, q⟩ := h c
    exact ⟨q0.trans (final m c (hq c) (hk c) (hv c)), q⟩
  refine (θ_run Cert.Reference3Ideal.defs _ _).mono (fun _ h c => ?_) (Cert.Reference3Ideal.Value.run_fold (F := Ideal) m' ρ')
  obtain ⟨h0, h1, h2, h3, h4, h5, h6, h7, h8, h9⟩ := hagree c
  exact ⟨(h c _ rfl).trans (same m m' c (hq c) (hk c) (hv c) h0 h1 h2 h3 h4 h5 h6 h7 h8 h9),
    (h c _ rfl).trans (Ref.final_arg0 m' c), (h c _ rfl).trans (Ref.final_arg1 m' c), (h c _ rfl).trans (Ref.final_arg2 m' c),
    (h c _ rfl).trans (Ref.final_arg3 m' c), (h c _ rfl).trans (Ref.final_arg4 m' c), (h c _ rfl).trans (Ref.final_arg5 m' c),
    (h c _ rfl).trans (Ref.final_arg6 m' c), (h c _ rfl).trans (Ref.final_arg7 m' c), (h c _ rfl).trans (Ref.final_arg8 m' c),
    (h c _ rfl).trans (Ref.final_arg9 m' c)⟩

end Cert.Mix

end
-- ==== Proof.lean ====
module

public import proofs.«01_k».proof.Defs
public import proofs.«01_k».proof.Proof.FfnClaims
public import proofs.«01_k».proof.Proof.CrossClaims
public import proofs.«01_k».proof.Proof.MixClaims

@[expose] public section

noncomputable section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Pre_finite2.Gen.facts, Cert.Pre_finite3.Gen.facts,
    Cert.Ffn.frame_p, Cert.Ffn.frame_pi, Cert.Ffn.frame_ri, Cert.Cross.frame_p, Cert.Cross.frame_pi, Cert.Cross.frame_pi_finite,
    Cert.Cross.frame_ri, Cert.Cross.frame_ri_finite,
    Cert.Mix.frame_p, Cert.Mix.frame_pi, Cert.Mix.frame_pi_finite, Cert.Mix.frame_ri, Cert.Mix.frame_ri_finite,
    Cert.Ffn.preserves, Cert.Ffn.algebraic, Cert.Cross.preserves, Cert.Cross.algebraic,
    Cert.Mix.preserves, Cert.Mix.algebraic⟩

end Cert.Proof

end
